-- ==== Defs.lean ====
def Pre_Dft (m : (ℓ : Loc Cert.Dft.nD Cert.Dft.τ Cert.Dft.sig) → Buf (Elt Bits) ℓ) : Prop :=
  True

def Pre_DftIdeal (m : (ℓ : Loc Cert.DftIdeal.nD Cert.DftIdeal.τ Cert.DftIdeal.sig) → Buf (Elt Ideal) ℓ) : Prop :=
  True

def Pre_DftIdeal_moderate [hPre_moderate : Cert.Pre_moderate.Facts] (m : (ℓ : Loc Cert.DftIdeal.nD Cert.DftIdeal.τ Cert.DftIdeal.sig) → Buf (Elt Ideal) ℓ) : Prop :=
  ∀ c : Dev Cert.DftIdeal.nD,
    (Cert.Pre_moderate.fn (F := Ideal) (m ((c.tc : Thread Cert.DftIdeal.nD Cert.DftIdeal.τ).loc Cert.DftIdeal.main_arg0)) (m ((c.tc : Thread Cert.DftIdeal.nD Cert.DftIdeal.τ).loc Cert.DftIdeal.main_arg1))) = (fun _ => 1#1)

def Pre_RefIdeal (m : (ℓ : Loc Cert.RefIdeal.nD Cert.RefIdeal.τ Cert.RefIdeal.sig) → Buf (Elt Ideal) ℓ) : Prop :=
  True

def Pre_RefIdeal_moderate [hPre_moderate : Cert.Pre_moderate.Facts] (m : (ℓ : Loc Cert.RefIdeal.nD Cert.RefIdeal.τ Cert.RefIdeal.sig) → Buf (Elt Ideal) ℓ) : Prop :=
  ∀ c : Dev Cert.RefIdeal.nD,
    (Cert.Pre_moderate.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1))) = (fun _ => 1#1)

def quiescent_Dft [hDft : Cert.Dft.Facts] : Prop :=
  ∀ (m : (ℓ : Loc Cert.Dft.nD Cert.Dft.τ Cert.Dft.sig) → Buf (Elt Bits) ℓ) (g : Dev Cert.Dft.nD → PrngReg), Pre_Dft m →
    θ_run (Cert.Dft.defs (F := Bits)) (onTc (τ := Cert.Dft.τ) (Cert.Dft.main (F := Bits))) ⟨m, fun _ => 0, g⟩ (fun r => (∀ c : Dev Cert.Dft.nD,
      r.2.mem ((c.tc : Thread Cert.Dft.nD Cert.Dft.τ).loc Cert.Dft.main_arg0) = m ((c.tc : Thread Cert.Dft.nD Cert.Dft.τ).loc Cert.Dft.main_arg0)
      ∧ r.2.mem ((c.tc : Thread Cert.Dft.nD Cert.Dft.τ).loc Cert.Dft.main_arg1) = m ((c.tc : Thread Cert.Dft.nD Cert.Dft.τ).loc Cert.Dft.main_arg1))
      ∧ r.2.sem = fun _ => 0)

def quiescent_DftIdeal [hDftIdeal : Cert.DftIdeal.Facts] : Prop :=
  ∀ (m : (ℓ : Loc Cert.DftIdeal.nD Cert.DftIdeal.τ Cert.DftIdeal.sig) → Buf (Elt Ideal) ℓ) (g : Dev Cert.DftIdeal.nD → PrngReg), Pre_DftIdeal m →
    θ_run (Cert.DftIdeal.defs (F := Ideal)) (onTc (τ := Cert.DftIdeal.τ) (Cert.DftIdeal.main (F := Ideal))) ⟨m, fun _ => 0, g⟩ (fun r => (∀ c : Dev Cert.DftIdeal.nD,
      r.2.mem ((c.tc : Thread Cert.DftIdeal.nD Cert.DftIdeal.τ).loc Cert.DftIdeal.main_arg0) = m ((c.tc : Thread Cert.DftIdeal.nD Cert.DftIdeal.τ).loc Cert.DftIdeal.main_arg0)
      ∧ r.2.mem ((c.tc : Thread Cert.DftIdeal.nD Cert.DftIdeal.τ).loc Cert.DftIdeal.main_arg1) = m ((c.tc : Thread Cert.DftIdeal.nD Cert.DftIdeal.τ).loc Cert.DftIdeal.main_arg1))
      ∧ r.2.sem = fun _ => 0)

def quiescent_DftIdeal_pre_moderate [hDftIdeal : Cert.DftIdeal.Facts] [hPre_moderate : Cert.Pre_moderate.Facts] : Prop :=
  ∀ (m : (ℓ : Loc Cert.DftIdeal.nD Cert.DftIdeal.τ Cert.DftIdeal.sig) → Buf (Elt Ideal) ℓ) (g : Dev Cert.DftIdeal.nD → PrngReg), Pre_DftIdeal_moderate m →
    θ_run (Cert.DftIdeal.defs (F := Ideal)) (onTc (τ := Cert.DftIdeal.τ) (Cert.DftIdeal.main (F := Ideal))) ⟨m, fun _ => 0, g⟩ (fun r => (∀ c : Dev Cert.DftIdeal.nD,
      r.2.mem ((c.tc : Thread Cert.DftIdeal.nD Cert.DftIdeal.τ).loc Cert.DftIdeal.main_arg0) = m ((c.tc : Thread Cert.DftIdeal.nD Cert.DftIdeal.τ).loc Cert.DftIdeal.main_arg0)
      ∧ r.2.mem ((c.tc : Thread Cert.DftIdeal.nD Cert.DftIdeal.τ).loc Cert.DftIdeal.main_arg1) = m ((c.tc : Thread Cert.DftIdeal.nD Cert.DftIdeal.τ).loc Cert.DftIdeal.main_arg1))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1))
      ∧ r.2.sem = fun _ => 0)

def quiescent_RefIdeal_pre_moderate [hRefIdeal : Cert.RefIdeal.Facts] [hPre_moderate : Cert.Pre_moderate.Facts] : Prop :=
  ∀ (m : (ℓ : Loc Cert.RefIdeal.nD Cert.RefIdeal.τ Cert.RefIdeal.sig) → Buf (Elt Ideal) ℓ) (g : Dev Cert.RefIdeal.nD → PrngReg), Pre_RefIdeal_moderate m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1))
      ∧ r.2.sem = fun _ => 0)

def preserves_Dft_DftIdeal : Prop :=
  IdealRules.bf16_pack.Statement Cert.DftIdeal.S32x128

def algebraic_DftIdeal_RefIdeal_pre_moderate [hDftIdeal : Cert.DftIdeal.Facts] [hRefIdeal : Cert.RefIdeal.Facts] [hPre_moderate : Cert.Pre_moderate.Facts] : Prop :=
  ∀ (m : (ℓ : Loc Cert.DftIdeal.nD Cert.DftIdeal.τ Cert.DftIdeal.sig) → Buf (Elt Ideal) ℓ) (g : Dev Cert.DftIdeal.nD → PrngReg)
    (m' : (ℓ : Loc Cert.RefIdeal.nD Cert.RefIdeal.τ Cert.RefIdeal.sig) → Buf (Elt Ideal) ℓ) (g' : Dev Cert.RefIdeal.nD → PrngReg), Pre_DftIdeal_moderate m →
    (∀ c : Dev Cert.DftIdeal.nD,
      m' ((c.tc : Thread Cert.RefIdeal.nD Cert.RefIdeal.τ).loc Cert.RefIdeal.main_arg0) = m ((c.tc : Thread Cert.DftIdeal.nD Cert.DftIdeal.τ).loc Cert.DftIdeal.main_arg0)
      ∧ m' ((c.tc : Thread Cert.RefIdeal.nD Cert.RefIdeal.τ).loc Cert.RefIdeal.main_arg1) = m ((c.tc : Thread Cert.DftIdeal.nD Cert.DftIdeal.τ).loc Cert.DftIdeal.main_arg1)) →
    ∃ (v0 : (c : Dev Cert.DftIdeal.nD) → Buf (Elt Ideal) ((c.tc : Thread Cert.DftIdeal.nD Cert.DftIdeal.τ).loc Cert.DftIdeal.main_v107_0)) (v1 : (c : Dev Cert.DftIdeal.nD) → Buf (Elt Ideal) ((c.tc : Thread Cert.DftIdeal.nD Cert.DftIdeal.τ).loc Cert.DftIdeal.main_v107_1)) (v2 : (c : Dev Cert.DftIdeal.nD) → Buf (Elt Ideal) ((c.tc : Thread Cert.DftIdeal.nD Cert.DftIdeal.τ).loc Cert.DftIdeal.main_v107_2)),
      θ_run (Cert.DftIdeal.defs (F := Ideal)) (onTc (τ := Cert.DftIdeal.τ) (Cert.DftIdeal.main (F := Ideal))) ⟨m, fun _ => 0, g⟩ (fun r => ∀ c : Dev Cert.DftIdeal.nD,
          r.2.mem ((c.tc : Thread Cert.DftIdeal.nD Cert.DftIdeal.τ).loc Cert.DftIdeal.main_v107_0) = v0 c
          ∧ r.2.mem ((c.tc : Thread Cert.DftIdeal.nD Cert.DftIdeal.τ).loc Cert.DftIdeal.main_v107_1) = v1 c
          ∧ r.2.mem ((c.tc : Thread Cert.DftIdeal.nD Cert.DftIdeal.τ).loc Cert.DftIdeal.main_v107_2) = v2 c
          ∧ r.2.mem ((c.tc : Thread Cert.DftIdeal.nD Cert.DftIdeal.τ).loc Cert.DftIdeal.main_arg0) = m ((c.tc : Thread Cert.DftIdeal.nD Cert.DftIdeal.τ).loc Cert.DftIdeal.main_arg0)
          ∧ r.2.mem ((c.tc : Thread Cert.DftIdeal.nD Cert.DftIdeal.τ).loc Cert.DftIdeal.main_arg1) = m ((c.tc : Thread Cert.DftIdeal.nD Cert.DftIdeal.τ).loc Cert.DftIdeal.main_arg1))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v30_0) = v0 c
          ∧ r.2.mem ((c.tc : Thread Cert.RefIdeal.nD Cert.RefIdeal.τ).loc Cert.RefIdeal.main_v30_1) = v1 c
          ∧ r.2.mem ((c.tc : Thread Cert.RefIdeal.nD Cert.RefIdeal.τ).loc Cert.RefIdeal.main_v30_2) = v2 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1))

def Claim : Prop :=
  ∃ (hDft : Cert.Dft.Facts) (hDftIdeal : Cert.DftIdeal.Facts) (hRefIdeal : Cert.RefIdeal.Facts) (hPre_moderate : Cert.Pre_moderate.Facts),
    quiescent_Dft (hDft := hDft)
    ∧ quiescent_DftIdeal (hDftIdeal := hDftIdeal)
    ∧ quiescent_DftIdeal_pre_moderate (hDftIdeal := hDftIdeal) (hPre_moderate := hPre_moderate)
    ∧ quiescent_RefIdeal (hRefIdeal := hRefIdeal)
    ∧ quiescent_RefIdeal_pre_moderate (hRefIdeal := hRefIdeal) (hPre_moderate := hPre_moderate)
    ∧ preserves_Dft_DftIdeal
    ∧ algebraic_DftIdeal_RefIdeal_pre_moderate (hDftIdeal := hDftIdeal) (hRefIdeal := hRefIdeal) (hPre_moderate := hPre_moderate)
-- ==== Pre_moderate.lean ====
abbrev S24x160x8192 : Shape := ⟨3, ![24, 160, 8192]⟩
abbrev S_ : Shape := ⟨0, ![]⟩

class Facts : Prop where

variable [Facts]

def fn {F : FTy → Type} [FloatOps F] (main_arg0 : FVec F S24x160x8192 .fp8e5m2) (main_arg1 : FVec F S_ .f32) : IVec S_ 1 :=
  let main_v0 : FVec F S_ .f32 := Host.absf main_arg1
  let main_cst : FVec F S_ .f32 := constant S_ .f32 0x7D800000#32
  let main_v1 : IVec S_ 1 := cmpf .ole main_v0 main_cst
  main_v1
-- ==== Dft.lean ====
abbrev S24x160x8192 : Shape := ⟨3, ![24, 160, 8192]⟩
abbrev S_ : Shape := ⟨0, ![]⟩
abbrev S1024 : Shape := ⟨1, ![1024]⟩
abbrev S256 : Shape := ⟨1, ![256]⟩
abbrev S512 : Shape := ⟨1, ![512]⟩
abbrev S2048 : Shape := ⟨1, ![2048]⟩
abbrev S2048x1 : Shape := ⟨2, ![2048, 1]⟩
abbrev S1x512 : Shape := ⟨2, ![1, 512]⟩
abbrev S2048x512 : Shape := ⟨2, ![2048, 512]⟩
abbrev S1024x1 : Shape := ⟨2, ![1024, 1]⟩
abbrev S1x256 : Shape := ⟨2, ![1, 256]⟩
abbrev S1024x256 : Shape := ⟨2, ![1024, 256]⟩
abbrev S1 : Shape := ⟨1, ![1]⟩
abbrev S24x160x1024 : Shape := ⟨3, ![24, 160, 1024]⟩
abbrev S1x1024 : Shape := ⟨2, ![1, 1024]⟩
abbrev S1x160x8192 : Shape := ⟨3, ![1, 160, 8192]⟩
abbrev S1x160x1024 : Shape := ⟨3, ![1, 160, 1024]⟩
abbrev S24x2x160x1024 : Shape := ⟨4, ![24, 2, 160, 1024]⟩
abbrev S8x1024 : Shape := ⟨2, ![8, 1024]⟩
abbrev S160x128 : Shape := ⟨2, ![160, 128]⟩
abbrev S3x160x2048 : Shape := ⟨3, ![3, 160, 2048]⟩
abbrev S3x160x1024 : Shape := ⟨3, ![3, 160, 1024]⟩
abbrev S8x128 : Shape := ⟨2, ![8, 128]⟩
abbrev S32x128 : Shape := ⟨2, ![32, 128]⟩
abbrev S1x32x128 : Shape := ⟨3, ![1, 32, 128]⟩
abbrev S32x128x1 : Shape := ⟨3, ![32, 128, 1]⟩
abbrev S1x160x2048 : Shape := ⟨3, ![1, 160, 2048]⟩
abbrev S160x2048 : Shape := ⟨2, ![160, 2048]⟩
abbrev S160x512 : Shape := ⟨2, ![160, 512]⟩
abbrev S160x256 : Shape := ⟨2, ![160, 256]⟩
abbrev S1x1x160x256 : Shape := ⟨4, ![1, 1, 160, 256]⟩
abbrev S20x8x256 : Shape := ⟨3, ![20, 8, 256]⟩
abbrev S8x256 : Shape := ⟨2, ![8, 256]⟩
abbrev S160x1024 : Shape := ⟨2, ![160, 1024]⟩
abbrev S160x1 : Shape := ⟨2, ![160, 1]⟩
abbrev S8x128x1 : Shape := ⟨3, ![8, 128, 1]⟩
abbrev S1x128 : Shape := ⟨2, ![1, 128]⟩
abbrev S1x1x160x128 : Shape := ⟨4, ![1, 1, 160, 128]⟩
abbrev S160x128x1 : Shape := ⟨3, ![160, 128, 1]⟩
abbrev S1x160x128 : Shape := ⟨3, ![1, 160, 128]⟩

abbrev nBuf : Space → Nat
  | .hbm => 132
  | .vmem => 23
  | .smem => 1
  | _ => 0

abbrev hbmTy0_0 (i : Nat) : BufTy := match i % 128 with
  | 0 => ⟨S24x160x8192, .fp8e5m2⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S1024, .i32⟩
  | 9 => ⟨S256, .i32⟩
  | 10 => ⟨S_, .i32⟩
  | 11 => ⟨S256, .i32⟩
  | 12 => ⟨S256, .i32⟩
  | 13 => ⟨S_, .i32⟩
  | 14 => ⟨S256, .i32⟩
  | 15 => ⟨S256, .i32⟩
  | 16 => ⟨S_, .i32⟩
  | 17 => ⟨S256, .i32⟩
  | 18 => ⟨S256, .i32⟩
  | 19 => ⟨S_, .i32⟩
  | 20 => ⟨S256, .i32⟩
  | 21 => ⟨S256, .i32⟩
  | 22 => ⟨S512, .i32⟩
  | 23 => ⟨S_, .i32⟩
  | 24 => ⟨S256, .i32⟩
  | 25 => ⟨S256, .i32⟩
  | 26 => ⟨S_, .i32⟩
  | 27 => ⟨S256, .i32⟩
  | 28 => ⟨S256, .i32⟩
  | 29 => ⟨S_, .i32⟩
  | 30 => ⟨S256, .i32⟩
  | 31 => ⟨S256, .i32⟩
  | 32 => ⟨S_, .i32⟩
  | 33 => ⟨S1024, .i32⟩
  | 34 => ⟨S1024, .i32⟩
  | 35 => ⟨S_, .i32⟩
  | 36 => ⟨S1024, .i32⟩
  | 37 => ⟨S_, .i32⟩
  | 38 => ⟨S1024, .i32⟩
  | 39 => ⟨S1024, .i1⟩
  | 40 => ⟨S1024, .i32⟩
  | 41 => ⟨S_, .i32⟩
  | 42 => ⟨S1024, .i32⟩
  | 43 => ⟨S1024, .i1⟩
  | 44 => ⟨S1024, .i32⟩
  | 45 => ⟨S2048, .i32⟩
  | 46 => ⟨S2048x1, .i32⟩
  | 47 => ⟨S1x512, .i32⟩
  | 48 => ⟨S2048x512, .i32⟩
  | 49 => ⟨S2048x512, .i32⟩
  | 50 => ⟨S2048x512, .i32⟩
  | 51 => ⟨S_, .i32⟩
  | 52 => ⟨S2048x512, .i32⟩
  | 53 => ⟨S2048x512, .i32⟩
  | 54 => ⟨S2048x512, .f32⟩
  | 55 => ⟨S2048x512, .f32⟩
  | 56 => ⟨S2048x512, .f32⟩
  | 57 => ⟨S2048x512, .f32⟩
  | 58 => ⟨S2048x512, .bf16⟩
  | 59 => ⟨S2048, .i32⟩
  | 60 => ⟨S2048x1, .i32⟩
  | 61 => ⟨S1x512, .i32⟩
  | 62 => ⟨S2048x512, .i32⟩
  | 63 => ⟨S2048x512, .i32⟩
  | 64 => ⟨S2048x512, .i32⟩
  | 65 => ⟨S_, .i32⟩
  | 66 => ⟨S2048x512, .i32⟩
  | 67 => ⟨S2048x512, .i32⟩
  | 68 => ⟨S2048x512, .f32⟩
  | 69 => ⟨S2048x512, .f32⟩
  | 70 => ⟨S2048x512, .f32⟩
  | 71 => ⟨S2048x512, .f32⟩
  | 72 => ⟨S2048x512, .f32⟩
  | 73 => ⟨S2048x512, .bf16⟩
  | 74 => ⟨S1024x1, .i32⟩
  | 75 => ⟨S1x256, .i32⟩
  | 76 => ⟨S1024x256, .i32⟩
  | 77 => ⟨S1024x256, .i32⟩
  | 78 => ⟨S1024x256, .i32⟩
  | 79 => ⟨S_, .i32⟩
  | 80 => ⟨S1024x256, .i32⟩
  | 81 => ⟨S1024x256, .i32⟩
  | 82 => ⟨S1024x256, .f32⟩
  | 83 => ⟨S1024x256, .f32⟩
  | 84 => ⟨S1024x256, .f32⟩
  | 85 => ⟨S1024x256, .f32⟩
  | 86 => ⟨S1024x256, .bf16⟩
  | 87 => ⟨S1024x1, .i32⟩
  | 88 => ⟨S1x256, .i32⟩
  | 89 => ⟨S1024x256, .i32⟩
  | 90 => ⟨S1024x256, .i32⟩
  | 91 => ⟨S1024x256, .i32⟩
  | 92 => ⟨S_, .i32⟩
  | 93 => ⟨S1024x256, .i32⟩
  | 94 => ⟨S1024x256, .i32⟩
  | 95 => ⟨S1024x256, .f32⟩
  | 96 => ⟨S1024x256, .f32⟩
  | 97 => ⟨S1024x256, .f32⟩
  | 98 => ⟨S1024x256, .f32⟩
  | 99 => ⟨S1024x256, .f32⟩
  | 100 => ⟨S1024x256, .bf16⟩
  | 101 => ⟨S1024x1, .i32⟩
  | 102 => ⟨S1x256, .i32⟩
  | 103 => ⟨S1024x256, .i32⟩
  | 104 => ⟨S1024x256, .i32⟩
  | 105 => ⟨S1024x256, .i32⟩
  | 106 => ⟨S_, .i32⟩
  | 107 => ⟨S1024x256, .i32⟩
  | 108 => ⟨S1024x256, .i32⟩
  | 109 => ⟨S1024x256, .f32⟩
  | 110 => ⟨S1024x256, .f32⟩
  | 111 => ⟨S1024x256, .f32⟩
  | 112 => ⟨S1024x256, .f32⟩
  | 113 => ⟨S1024x256, .bf16⟩
  | 114 => ⟨S1024x1, .i32⟩
  | 115 => ⟨S1x256, .i32⟩
  | 116 => ⟨S1024x256, .i32⟩
  | 117 => ⟨S1024x256, .i32⟩
  | 118 => ⟨S1024x256, .i32⟩
  | 119 => ⟨S_, .i32⟩
  | 120 => ⟨S1024x256, .i32⟩
  | 121 => ⟨S1024x256, .i32⟩
  | 122 => ⟨S1024x256, .f32⟩
  | 123 => ⟨S1024x256, .f32⟩
  | 124 => ⟨S1024x256, .f32⟩
  | 125 => ⟨S1024x256, .f32⟩
  | 126 => ⟨S1024x256, .f32⟩
  | 127 => ⟨S1024x256, .bf16⟩
  | _ => ⟨S24x160x8192, .fp8e5m2⟩

abbrev hbmTy0_1 (i : Nat) : BufTy := match i % 128 with
  | 0 => ⟨S1, .f32⟩
  | 1 => ⟨S24x160x1024, .fp8e5m2⟩
  | 2 => ⟨S24x160x1024, .fp8e5m2⟩
  | 3 => ⟨S1x1024, .f32⟩
  | _ => ⟨S24x160x8192, .fp8e5m2⟩

abbrev hbmTy (i : Nat) : BufTy := match i / 128 with
  | 0 => hbmTy0_0 i
  | 1 => hbmTy0_1 i
  | _ => ⟨S24x160x8192, .fp8e5m2⟩

abbrev bufTy : (tb : Table) → Fin (tcTables nBuf tb) → BufTy
  | .hbm, ⟨i, _⟩ => hbmTy i
  | .local _ .vmem, ⟨0, _⟩ => ⟨S1x160x8192, .fp8e5m2⟩
  | .local _ .vmem, ⟨1, _⟩ => ⟨S1x160x8192, .fp8e5m2⟩
  | .local _ .vmem, ⟨2, _⟩ => ⟨S2048x512, .bf16⟩
  | .local _ .vmem, ⟨3, _⟩ => ⟨S2048x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1x160x1024, .fp8e5m2⟩
  | .local _ .vmem, ⟨9, _⟩ => ⟨S1x160x1024, .fp8e5m2⟩
  | .local _ .vmem, ⟨10, _⟩ => ⟨S1x160x1024, .fp8e5m2⟩
  | .local _ .vmem, ⟨11, _⟩ => ⟨S1x160x1024, .fp8e5m2⟩
  | .local _ .vmem, ⟨12, _⟩ => ⟨S1x1024, .f32⟩
  | .local _ .vmem, ⟨13, _⟩ => ⟨S24x2x160x1024, .f32⟩
  | .local _ .vmem, ⟨14, _⟩ => ⟨S8x1024, .f32⟩
  | .local _ .vmem, ⟨15, _⟩ => ⟨S8x1024, .f32⟩
  | .local _ .vmem, ⟨16, _⟩ => ⟨S160x128, .f32⟩
  | .local _ .vmem, ⟨17, _⟩ => ⟨S3x160x2048, .bf16⟩
  | .local _ .vmem, ⟨18, _⟩ => ⟨S3x160x2048, .bf16⟩
  | .local _ .vmem, ⟨19, _⟩ => ⟨S3x160x1024, .bf16⟩
  | .local _ .vmem, ⟨20, _⟩ => ⟨S3x160x1024, .bf16⟩
  | .local _ .vmem, ⟨21, _⟩ => ⟨S3x160x1024, .bf16⟩
  | .local _ .vmem, ⟨22, _⟩ => ⟨S3x160x1024, .bf16⟩
  | .local _ .smem, ⟨0, _⟩ => ⟨S1, .f32⟩
  | _, _ => ⟨S24x160x8192, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_5 : Ref sig .tc := ⟨.hbm, 23, rfl⟩
abbrev main_v14 : Ref sig .tc := ⟨.hbm, 24, rfl⟩
abbrev main_v15 : Ref sig .tc := ⟨.hbm, 25, rfl⟩
abbrev main_c_6 : Ref sig .tc := ⟨.hbm, 26, rfl⟩
abbrev main_v16 : Ref sig .tc := ⟨.hbm, 27, rfl⟩
abbrev main_v17 : Ref sig .tc := ⟨.hbm, 28, rfl⟩
abbrev main_c_7 : Ref sig .tc := ⟨.hbm, 29, rfl⟩
abbrev main_v18 : Ref sig .tc := ⟨.hbm, 30, rfl⟩
abbrev main_v19 : Ref sig .tc := ⟨.hbm, 31, rfl⟩
abbrev main_c_8 : Ref sig .tc := ⟨.hbm, 32, rfl⟩
abbrev main_v20 : Ref sig .tc := ⟨.hbm, 33, rfl⟩
abbrev main_v21 : Ref sig .tc := ⟨.hbm, 34, rfl⟩
abbrev main_c_9 : Ref sig .tc := ⟨.hbm, 35, rfl⟩
abbrev main_v22 : Ref sig .tc := ⟨.hbm, 36, rfl⟩
abbrev main_c_10 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_11 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_12 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_13 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_c_15 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_c_16 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_c_17 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107_0 : Ref sig .tc := ⟨.hbm, 129, rfl⟩
abbrev main_v107_1 : Ref sig .tc := ⟨.hbm, 130, rfl⟩
abbrev main_v107_2 : Ref sig .tc := ⟨.hbm, 131, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13

abbrev nD : Nat := 1
abbrev τ : Topo := Topo.v7x

variable {F : FTy → Type} [BitOps F]

abbrev grid0 : Pipeline.Grid := ⟨1, ![48], ![false]⟩

def k0_cond2 (i : grid0.Coords) : BitVec 1 :=
  let arg0 : BitVec 32 := BitVec.ofNat 32 (i 0).val
  let c24_i32 : BitVec 32 := 24#32
  let v4 : BitVec 1 := Scalar.cmpi .slt arg0 c24_i32
  let v5 : BitVec 32 := Scalar.extui v4
  let c0_i32_1 : BitVec 32 := 0#32
  let v6 : BitVec 1 := Scalar.cmpi .ne v5 c0_i32_1
  v6

def k0_off1 (i : grid0.Coords) : Fin 4 → Nat :=
  let arg0 : BitVec 32 := BitVec.ofNat 32 (i 0).val
  let v13116 : Index := Scalar.indexCast arg0
  let c0_6394 : Index := 0#32
  let c0_6395 : Index := 0#32
  let c256_6396 : Index := 256#32
  ![v13116.toNat, 0, 0, 256]
def k0_off2 (i : grid0.Coords) : Fin 4 → Nat :=
  let arg0 : BitVec 32 := BitVec.ofNat 32 (i 0).val
  let v13139 : Index := Scalar.indexCast arg0
  let c0_6404 : Index := 0#32
  let c0_6405 : Index := 0#32
  let c768_6406 : Index := 768#32
  ![v13139.toNat, 0, 0, 768]
def k0_off3 (i : grid0.Coords) : Fin 4 → Nat :=
  let arg0 : BitVec 32 := BitVec.ofNat 32 (i 0).val
  let v13179 : Index := Scalar.indexCast arg0
  let c1_6432 : Index := 1#32
  let c0_6433 : Index := 0#32
  let c256_6434 : Index := 256#32
  ![v13179.toNat, 1, 0, 256]
def k0_off4 (i : grid0.Coords) : Fin 4 → Nat :=
  let arg0 : BitVec 32 := BitVec.ofNat 32 (i 0).val
  let v13202 : Index := Scalar.indexCast arg0
  let c1_6442 : Index := 1#32
  let c0_6443 : Index := 0#32
  let c768_6444 : Index := 768#32
  ![v13202.toNat, 1, 0, 768]
def k0_off5 (i : grid0.Coords) : Fin 4 → Nat :=
  let arg0 : BitVec 32 := BitVec.ofNat 32 (i 0).val
  let v13241 : Index := Scalar.indexCast arg0
  let c0_6470 : Index := 0#32
  let c0_6471 : Index := 0#32
  let c512_6472 : Index := 512#32
  ![v13241.toNat, 0, 0, 512]
def k0_off6 (i : grid0.Coords) : Fin 4 → Nat :=
  let arg0 : BitVec 32 := BitVec.ofNat 32 (i 0).val
  let v13280 : Index := Scalar.indexCast arg0
  let c1_6498 : Index := 1#32
  let c0_6499 : Index := 0#32
  let c512_6500 : Index := 512#32
  ![v13280.toNat, 1, 0, 512]
def k0_off7 (i : grid0.Coords) : Fin 4 → Nat :=
  let arg0 : BitVec 32 := BitVec.ofNat 32 (i 0).val
  let v13346 : Index := Scalar.indexCast arg0
  let c0_6535 : Index := 0#32
  let c0_6536 : Index := 0#32
  let c0_6537 : Index := 0#32
  ![v13346.toNat, 0, 0, 0]
def k0_off8 (i : grid0.Coords) : Fin 4 → Nat :=
  let arg0 : BitVec 32 := BitVec.ofNat 32 (i 0).val
  let v13385 : Index := Scalar.indexCast arg0
  let c1_6563 : Index := 1#32
  let c0_6564 : Index := 0#32
  let c0_6565 : Index := 0#32
  ![v13385.toNat, 1, 0, 0]
def k0_cond3 (i : grid0.Coords) : BitVec 1 :=
  let arg0 : BitVec 32 := BitVec.ofNat 32 (i 0).val
  let c24_i32_2 : BitVec 32 := 24#32
  let v7 : BitVec 1 := Scalar.cmpi .eq arg0 c24_i32_2
  let v8 : BitVec 32 := Scalar.extui v7
  let c0_i32_3 : BitVec 32 := 0#32
  let v9 : BitVec 1 := Scalar.cmpi .ne v8 c0_i32_3
  v9

@[reducible] def k0_t1_loop : Scf.Loop 32 :=
  let c1_i32 : BitVec 32 := 1#32
  let c255_i32 : BitVec 32 := 255#32
  let v21 : BitVec 32 := Scalar.addi c1_i32 c255_i32
  let c1_i32_9 : BitVec 32 := 1#32
  ⟨c1_i32, v21, c1_i32_9⟩
def k0_cond4 (i : grid0.Coords) : BitVec 1 :=
  let arg0 : BitVec 32 := BitVec.ofNat 32 (i 0).val
  let c24_i32_4 : BitVec 32 := 24#32
  let v10 : BitVec 1 := Scalar.cmpi .sge arg0 c24_i32_4
  let v11 : BitVec 32 := Scalar.extui v10
  let c0_i32_5 : BitVec 32 := 0#32
  let v12 : BitVec 1 := Scalar.cmpi .ne v11 c0_i32_5
  v12

def k0_off9 (i : grid0.Coords) : Fin 4 → Nat :=
  let arg0 : BitVec 32 := BitVec.ofNat 32 (i 0).val
  let c24_i32_6 : BitVec 32 := 24#32
  let v13 : BitVec 32 := Scalar.subi arg0 c24_i32_6
  let v15 : Index := Scalar.indexCast v13
  let c0 : Index := 0#32
  let c0_7 : Index := 0#32
  let c0_8 : Index := 0#32
  ![v15.toNat, 0, 0, 0]
def k0_off10 (i : grid0.Coords) : Fin 4 → Nat :=
  let arg0 : BitVec 32 := BitVec.ofNat 32 (i 0).val
  let c24_i32_6 : BitVec 32 := 24#32
  let v13 : BitVec 32 := Scalar.subi arg0 c24_i32_6
  let v27 : Index := Scalar.indexCast v13
  let c0_12 : Index := 0#32
  let c0_13 : Index := 0#32
  let c256 : Index := 256#32
  ![v27.toNat, 0, 0, 256]
def k0_off11 (i : grid0.Coords) : Fin 4 → Nat :=
  let arg0 : BitVec 32 := BitVec.ofNat 32 (i 0).val
  let c24_i32_6 : BitVec 32 := 24#32
  let v13 : BitVec 32 := Scalar.subi arg0 c24_i32_6
  let v39 : Index := Scalar.indexCast v13
  let c0_18 : Index := 0#32
  let c0_19 : Index := 0#32
  let c512 : Index := 512#32
  ![v39.toNat, 0, 0, 512]
def k0_off12 (i : grid0.Coords) : Fin 4 → Nat :=
  let arg0 : BitVec 32 := BitVec.ofNat 32 (i 0).val
  let c24_i32_6 : BitVec 32 := 24#32
  let v13 : BitVec 32 := Scalar.subi arg0 c24_i32_6
  let v51 : Index := Scalar.indexCast v13
  let c0_24 : Index := 0#32
  let c0_25 : Index := 0#32
  let c768 : Index := 768#32
  ![v51.toNat, 0, 0, 768]
def k0_off13 (i : grid0.Coords) : Fin 4 → Nat :=
  let arg0 : BitVec 32 := BitVec.ofNat 32 (i 0).val
  let c24_i32_6 : BitVec 32 := 24#32
  let v13 : BitVec 32 := Scalar.subi arg0 c24_i32_6
  let v411 : Index := Scalar.indexCast v13
  let c0_133 : Index := 0#32
  let c0_134 : Index := 0#32
  let c128_135 : Index := 128#32
  ![v411.toNat, 0, 0, 128]
def k0_off14 (i : grid0.Coords) : Fin 4 → Nat :=
  let arg0 : BitVec 32 := BitVec.ofNat 32 (i 0).val
  let c24_i32_6 : BitVec 32 := 24#32
  let v13 : BitVec 32 := Scalar.subi arg0 c24_i32_6
  let v423 : Index := Scalar.indexCast v13
  let c0_140 : Index := 0#32
  let c0_141 : Index := 0#32
  let c384_142 : Index := 384#32
  ![v423.toNat, 0, 0, 384]
def k0_off15 (i : grid0.Coords) : Fin 4 → Nat :=
  let arg0 : BitVec 32 := BitVec.ofNat 32 (i 0).val
  let c24_i32_6 : BitVec 32 := 24#32
  let v13 : BitVec 32 := Scalar.subi arg0 c24_i32_6
  let v435 : Index := Scalar.indexCast v13
  let c0_147 : Index := 0#32
  let c0_148 : Index := 0#32
  let c640 : Index := 640#32
  ![v435.toNat, 0, 0, 640]
def k0_off16 (i : grid0.Coords) : Fin 4 → Nat :=
  let arg0 : BitVec 32 := BitVec.ofNat 32 (i 0).val
  let c24_i32_6 : BitVec 32 := 24#32
  let v13 : BitVec 32 := Scalar.subi arg0 c24_i32_6
  let v447 : Index := Scalar.indexCast v13
  let c0_153 : Index := 0#32
  let c0_154 : Index := 0#32
  let c896 : Index := 896#32
  ![v447.toNat, 0, 0, 896]
def k0_off17 (i : grid0.Coords) : Fin 4 → Nat :=
  let arg0 : BitVec 32 := BitVec.ofNat 32 (i 0).val
  let c24_i32_6 : BitVec 32 := 24#32
  let v13 : BitVec 32 := Scalar.subi arg0 c24_i32_6
  let v807 : Index := Scalar.indexCast v13
  let c1 : Index := 1#32
  let c0_271 : Index := 0#32
  let c0_272 : Index := 0#32
  ![v807.toNat, 1, 0, 0]
def k0_off18 (i : grid0.Coords) : Fin 4 → Nat :=
  let arg0 : BitVec 32 := BitVec.ofNat 32 (i 0).val
  let c24_i32_6 : BitVec 32 := 24#32
  let v13 : BitVec 32 := Scalar.subi arg0 c24_i32_6
  let v819 : Index := Scalar.indexCast v13
  let c1_277 : Index := 1#32
  let c0_278 : Index := 0#32
  let c256_279 : Index := 256#32
  ![v819.toNat, 1, 0, 256]
def k0_off19 (i : grid0.Coords) : Fin 4 → Nat :=
  let arg0 : BitVec 32 := BitVec.ofNat 32 (i 0).val
  let c24_i32_6 : BitVec 32 := 24#32
  let v13 : BitVec 32 := Scalar.subi arg0 c24_i32_6
  let v831 : Index := Scalar.indexCast v13
  let c1_284 : Index := 1#32
  let c0_285 : Index := 0#32
  let c512_286 : Index := 512#32
  ![v831.toNat, 1, 0, 512]
def k0_off20 (i : grid0.Coords) : Fin 4 → Nat :=
  let arg0 : BitVec 32 := BitVec.ofNat 32 (i 0).val
  let c24_i32_6 : BitVec 32 := 24#32
  let v13 : BitVec 32 := Scalar.subi arg0 c24_i32_6
  let v843 : Index := Scalar.indexCast v13
  let c1_291 : Index := 1#32
  let c0_292 : Index := 0#32
  let c768_293 : Index := 768#32
  ![v843.toNat, 1, 0, 768]
def k0_off21 (i : grid0.Coords) : Fin 4 → Nat :=
  let arg0 : BitVec 32 := BitVec.ofNat 32 (i 0).val
  let c24_i32_6 : BitVec 32 := 24#32
  let v13 : BitVec 32 := Scalar.subi arg0 c24_i32_6
  let v1203 : Index := Scalar.indexCast v13
  let c1_410 : Index := 1#32
  let c0_411 : Index := 0#32
  let c128_412 : Index := 128#32
  ![v1203.toNat, 1, 0, 128]
def k0_off22 (i : grid0.Coords) : Fin 4 → Nat :=
  let arg0 : BitVec 32 := BitVec.ofNat 32 (i 0).val
  let c24_i32_6 : BitVec 32 := 24#32
  let v13 : BitVec 32 := Scalar.subi arg0 c24_i32_6
  let v1215 : Index := Scalar.indexCast v13
  let c1_417 : Index := 1#32
  let c0_418 : Index := 0#32
  let c384_419 : Index := 384#32
  ![v1215.toNat, 1, 0, 384]
def k0_off23 (i : grid0.Coords) : Fin 4 → Nat :=
  let arg0 : BitVec 32 := BitVec.ofNat 32 (i 0).val
  let c24_i32_6 : BitVec 32 := 24#32
  let v13 : BitVec 32 := Scalar.subi arg0 c24_i32_6
  let v1227 : Index := Scalar.indexCast v13
  let c1_424 : Index := 1#32
  let c0_425 : Index := 0#32
  let c640_426 : Index := 640#32
  ![v1227.toNat, 1, 0, 640]
def k0_off24 (i : grid0.Coords) : Fin 4 → Nat :=
  let arg0 : BitVec 32 := BitVec.ofNat 32 (i 0).val
  let c24_i32_6 : BitVec 32 := 24#32
  let v13 : BitVec 32 := Scalar.subi arg0 c24_i32_6
  let v1239 : Index := Scalar.indexCast v13
  let c1_431 : Index := 1#32
  let c0_432 : Index := 0#32
  let c896_433 : Index := 896#32
  ![v1239.toNat, 1, 0, 896]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c24_i32 : BitVec 32 := 24#32
  let v0 : BitVec 32 := Scalar.subi arg0 c24_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 3 → Nat :=
  let arg0 : BitVec 32 := BitVec.ofNat 32 (i 0).val
  let c24_i32 : BitVec 32 := 24#32
  let v0 : BitVec 32 := Scalar.subi arg0 c24_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x160x8192 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x160x1024 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x160x1024 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DftIdeal.lean ====
variable {F : FTy → Type} [FloatOps F]
-- ==== RefIdeal.lean ====
abbrev S24x160x8192 : Shape := ⟨3, ![24, 160, 8192]⟩
abbrev S_ : Shape := ⟨0, ![]⟩
abbrev S8192 : Shape := ⟨1, ![8192]⟩
abbrev S1024 : Shape := ⟨1, ![1024]⟩
abbrev S8192x1 : Shape := ⟨2, ![8192, 1]⟩
abbrev S1x1024 : Shape := ⟨2, ![1, 1024]⟩
abbrev S8192x1024 : Shape := ⟨2, ![8192, 1024]⟩
abbrev S24x160x1024 : Shape := ⟨3, ![24, 160, 1024]⟩
abbrev S3840x8192 : Shape := ⟨2, ![3840, 8192]⟩
abbrev S3840x1024 : Shape := ⟨2, ![3840, 1024]⟩

abbrev nBuf : Space → Nat
  | .hbm => 43
  | .vmem => 7
  | .smem => 0
  | _ => 0

abbrev bufTy : (tb : Table) → Fin (tcTables nBuf tb) → BufTy
  | .hbm, ⟨0, _⟩ => ⟨S24x160x8192, .fp8e5m2⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192, .i32⟩
  | .hbm, ⟨9, _⟩ => ⟨S1024, .i32⟩
  | .hbm, ⟨10, _⟩ => ⟨S8192x1, .i32⟩
  | .hbm, ⟨11, _⟩ => ⟨S1x1024, .i32⟩
  | .hbm, ⟨12, _⟩ => ⟨S8192x1024, .i32⟩
  | .hbm, ⟨13, _⟩ => ⟨S8192x1024, .i32⟩
  | .hbm, ⟨14, _⟩ => ⟨S8192x1024, .i32⟩
  | .hbm, ⟨15, _⟩ => ⟨S_, .i32⟩
  | .hbm, ⟨16, _⟩ => ⟨S8192x1024, .i32⟩
  | .hbm, ⟨17, _⟩ => ⟨S8192x1024, .i32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .f32⟩
  | .hbm, ⟨30, _⟩ => ⟨S1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1x1024, .f32⟩
  | .hbm, ⟨40, _⟩ => ⟨S24x160x1024, .fp8e5m2⟩
  | .hbm, ⟨41, _⟩ => ⟨S24x160x1024, .fp8e5m2⟩
  | .hbm, ⟨42, _⟩ => ⟨S1x1024, .f32⟩
  | .local _ .vmem, ⟨0, _⟩ => ⟨S24x160x8192, .fp8e5m2⟩
  | .local _ .vmem, ⟨1, _⟩ => ⟨S8192x1024, .bf16⟩
  | .local _ .vmem, ⟨2, _⟩ => ⟨S8192x1024, .bf16⟩
  | .local _ .vmem, ⟨3, _⟩ => ⟨S1x1024, .f32⟩
  | .local _ .vmem, ⟨4, _⟩ => ⟨S24x160x1024, .fp8e5m2⟩
  | .local _ .vmem, ⟨5, _⟩ => ⟨S24x160x1024, .fp8e5m2⟩
  | .local _ .vmem, ⟨6, _⟩ => ⟨S1x1024, .f32⟩
  | _, _ => ⟨S24x160x8192, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24x160x8192 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x160x1024 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x160x1024 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Dft.Runs.lean ====
/- What the runs of the body share: the conditions that fix a point's case, the rectangles and the scratch. -/
module

public import proofs.«01_k».proof.Proof.Gen.Dft.Launch
public import proofs.«01_k».proof.Proof.Gen.Dft.Skeleton
public import proofs.«01_k».proof.Proof.Gen.Dft.Loops
public import proofs.«01_k».proof.Proof.Gen.Dft.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Dft.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Dft`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 1 rfl).trans ((hA c 1).trans (V_main_arg0 m c)),
      ((h c).2 main_arg1 (Pipeline.mem_restRefs_of main_arg1 (by decide) (by decide))).trans (V_main_arg1 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-- The condition of the body's `scf.if` 1 (`k0_h2`), from the grid coordinates (the skeleton's scalar
    chain substituted). -/
abbrev cond0_1 (i : grid0.Coords) : Prop := k0_cond2 i = 1#1
/-- It holds at the points before point 24 — decided over the grid. -/
theorem hcond0_1 : ∀ t : Fin cfg0.N, cond0_1 (grid0.coords t) ↔ t.val < 24 :=
  (by decide +kernel : ∀ t : Fin grid0.N, cond0_1 (grid0.coords t) ↔ t.val < 24)

/-- The condition of the body's `scf.if` 2 (`k0_h3`), from the grid coordinates (the skeleton's scalar
    chain substituted). -/
abbrev cond0_2 (i : grid0.Coords) : Prop := k0_cond3 i = 1#1
/-- It holds at point 24 only — by arithmetic of the point. -/
theorem hcond0_2 : ∀ t : Fin cfg0.N, cond0_2 (grid0.coords t) ↔ t.val % 48 = 24 :=
  (fun t => by
    have ht : t.val < 48 := Nat.lt_of_lt_of_eq t.isLt N_0
    have e0 : (grid0.coords t 0).val = t.val / 1 % 48 := Pipeline.Grid.coords_val t 0 (by decide) rfl
    simp only [cond0_2, k0_cond3, e0]
    word_cmp
   : ∀ t : Fin grid0.N, cond0_2 (grid0.coords t) ↔ t.val % 48 = 24)

/-- The condition of the body's `scf.if` 3 (`k0_h4`), from the grid coordinates (the skeleton's scalar
    chain substituted). -/
abbrev cond0_3 (i : grid0.Coords) : Prop := k0_cond4 i = 1#1
/-- It holds at the points from point 24 on — decided over the grid. -/
theorem hcond0_3 : ∀ t : Fin cfg0.N, cond0_3 (grid0.coords t) ↔ 24 ≤ t.val :=
  (by decide +kernel : ∀ t : Fin grid0.N, cond0_3 (grid0.coords t) ↔ 24 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x160x8192 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x160x1024 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x160x1024 .fp8e5m2 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S24x2x160x1024 .f32 := Memref.whole cc0_scratch0
abbrev scM0_1 : Memref sig .tc .vmem S8x1024 .f32 := Memref.whole cc0_scratch1
abbrev scM0_2 : Memref sig .tc .vmem S8x1024 .f32 := Memref.whole cc0_scratch2
abbrev scM0_3 : Memref sig .tc .vmem S160x128 .f32 := Memref.whole cc0_scratch3
abbrev scM0_4 : Memref sig .tc .vmem S3x160x2048 .bf16 := Memref.whole cc0_scratch4
abbrev scM0_5 : Memref sig .tc .vmem S3x160x2048 .bf16 := Memref.whole cc0_scratch5
abbrev scM0_6 : Memref sig .tc .vmem S3x160x1024 .bf16 := Memref.whole cc0_scratch6
abbrev scM0_7 : Memref sig .tc .vmem S3x160x1024 .bf16 := Memref.whole cc0_scratch7
abbrev scM0_8 : Memref sig .tc .vmem S3x160x1024 .bf16 := Memref.whole cc0_scratch8
abbrev scM0_9 : Memref sig .tc .vmem S3x160x1024 .bf16 := Memref.whole cc0_scratch9
/-- The scratch `arg13` the kernel carries between points, as a view: what it holds is stated through it. -/
abbrev VS0_1 : View sig .tc .vmem S8x1024 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.Dft.Gen

end
-- ==== Proof.Dft.RunA.lean ====
/- The run of the body at grid point 0, where the column maxima start from zero. -/
module

public import proofs.«01_k».proof.Proof.Dft.Runs

@[expose] public section

set_option maxRecDepth 16384

noncomputable section

namespace Cert.Dft.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 17072000 in
/-- What the body's stores leave in each output's staging memref, as pieces (last first) IN CASE A (`scf.if` 0 taken, `scf.if` 1 taken, `scf.if` 2 not taken, `scf.if` 3 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs — each `scf.if` decided by the case's hypotheses `hc·`; the pieces are
    the witness that run finds (assigned when `iexact` hands the buffer to the continuation). Here also the FORGOTTEN outputs' (8, 9, 10) at anything, handed back at some contents nothing names. -/
noncomputable def kernelRun0_A (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) :
    Σ' (LS1 : List (View.Piece (Elt F) S8x1024 .f32)), Σ' (LT3 : List (View.Piece (Elt F) S160x128 .f32)), Σ' (LT4 : List (View.Piece (Elt F) S3x160x2048 .bf16)), Σ' (LT5 : List (View.Piece (Elt F) S3x160x2048 .bf16)), Σ' (LT6 : List (View.Piece (Elt F) S3x160x1024 .bf16)), Σ' (LT7 : List (View.Piece (Elt F) S3x160x1024 .bf16)), Σ' (LT8 : List (View.Piece (Elt F) S3x160x1024 .bf16)), { LT9 : List (View.Piece (Elt F) S3x160x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS1) ∗ (∃ d, owns (c : Thread nD τ) arg14 fullShare d) ∗ (∃ f, arg15.view.loc (c : Thread nD τ) ↦[arg15.view.set]{fullShare} arg15.view.writes (Elt F) f LT3) ∗ (∃ f, arg16.view.loc (c : Thread nD τ) ↦[arg16.view.set]{fullShare} arg16.view.writes (Elt F) f LT4) ∗ (∃ f, arg17.view.loc (c : Thread nD τ) ↦[arg17.view.set]{fullShare} arg17.view.writes (Elt F) f LT5) ∗ (∃ f, arg18.view.loc (c : Thread nD τ) ↦[arg18.view.set]{fullShare} arg18.view.writes (Elt F) f LT6) ∗ (∃ f, arg19.view.loc (c : Thread nD τ) ↦[arg19.view.set]{fullShare} arg19.view.writes (Elt F) f LT7) ∗ (∃ f, arg20.view.loc (c : Thread nD τ) ↦[arg20.view.set]{fullShare} arg20.view.writes (Elt F) f LT8) ∗ (∃ f, arg21.view.loc (c : Thread nD τ) ↦[arg21.view.set]{fullShare} arg21.view.writes (Elt F) f LT9)) -∗ K ⟨⟩))
          ⊢ wp frame (wpE (defs₀ (F := F)) Variants.none c none) E (cc0_fold_dft i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun E K => ?run⟩
  case run =>
    simp only [cc0_fold_dft_eq_skeleton]; unfold cc0_fold_dft_skel
    simp only [k0_part356_eq_skeleton, k0_part351_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part352_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part353_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part354_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part355_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.Dft.Gen

end
-- ==== Proof.Dft.RunB.lean ====
/- The run of the body at the grid points 1 … 23, where the column maxima of a batch join those so far. -/
module

public import proofs.«01_k».proof.Proof.Dft.RunA

@[expose] public section

set_option maxRecDepth 16384

noncomputable section

namespace Cert.Dft.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 17060000 in
/-- What the body's stores leave in each output's staging memref, as pieces (last first) IN CASE B (`scf.if` 0 not taken, `scf.if` 1 taken, `scf.if` 2 not taken, `scf.if` 3 not taken: points 1, 2, … 23: 23 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs — each `scf.if` decided by the case's hypotheses `hc·`; the pieces are
    the witness that run finds (assigned when `iexact` hands the buffer to the continuation). Here also the FORGOTTEN outputs' (8, 9, 10) at anything, handed back at some contents nothing names. -/
noncomputable def kernelRun0_B (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) :
    Σ' (LS1 : List (View.Piece (Elt F) S8x1024 .f32)), Σ' (LT3 : List (View.Piece (Elt F) S160x128 .f32)), Σ' (LT4 : List (View.Piece (Elt F) S3x160x2048 .bf16)), Σ' (LT5 : List (View.Piece (Elt F) S3x160x2048 .bf16)), Σ' (LT6 : List (View.Piece (Elt F) S3x160x1024 .bf16)), Σ' (LT7 : List (View.Piece (Elt F) S3x160x1024 .bf16)), Σ' (LT8 : List (View.Piece (Elt F) S3x160x1024 .bf16)), { LT9 : List (View.Piece (Elt F) S3x160x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS1) ∗ (∃ d, owns (c : Thread nD τ) arg14 fullShare d) ∗ (∃ f, arg15.view.loc (c : Thread nD τ) ↦[arg15.view.set]{fullShare} arg15.view.writes (Elt F) f LT3) ∗ (∃ f, arg16.view.loc (c : Thread nD τ) ↦[arg16.view.set]{fullShare} arg16.view.writes (Elt F) f LT4) ∗ (∃ f, arg17.view.loc (c : Thread nD τ) ↦[arg17.view.set]{fullShare} arg17.view.writes (Elt F) f LT5) ∗ (∃ f, arg18.view.loc (c : Thread nD τ) ↦[arg18.view.set]{fullShare} arg18.view.writes (Elt F) f LT6) ∗ (∃ f, arg19.view.loc (c : Thread nD τ) ↦[arg19.view.set]{fullShare} arg19.view.writes (Elt F) f LT7) ∗ (∃ f, arg20.view.loc (c : Thread nD τ) ↦[arg20.view.set]{fullShare} arg20.view.writes (Elt F) f LT8) ∗ (∃ f, arg21.view.loc (c : Thread nD τ) ↦[arg21.view.set]{fullShare} arg21.view.writes (Elt F) f LT9)) -∗ K ⟨⟩))
          ⊢ wp frame (wpE (defs₀ (F := F)) Variants.none c none) E (cc0_fold_dft i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun E K => ?run⟩
  case run =>
    simp only [cc0_fold_dft_eq_skeleton]; unfold cc0_fold_dft_skel
    simp only [k0_part356_eq_skeleton, k0_part351_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part352_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part353_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part354_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part355_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.Dft.Gen

end
-- ==== Proof.Dft.RunC.lean ====
/- The run of the body at grid point 24, where the scales are written and the first codes. -/
module

public import proofs.«01_k».proof.Proof.Dft.RunB

@[expose] public section

set_option maxRecDepth 16384

noncomputable section

namespace Cert.Dft.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1060000 in
/-- What the body's stores leave in each output's staging memref, as pieces (last first) IN CASE C (`scf.if` 0 not taken, `scf.if` 1 not taken, `scf.if` 2 taken, `scf.if` 3 taken: points 24), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). Here also the FORGOTTEN outputs' (8, 9, 10) at anything, handed back at some contents nothing names. -/
noncomputable def kernelRun0_C (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) :
    Σ' (LS1 : List (View.Piece (Elt F) S8x1024 .f32)), Σ' (LT3 : List (View.Piece (Elt F) S160x128 .f32)), Σ' (LT4 : List (View.Piece (Elt F) S3x160x2048 .bf16)), Σ' (LT5 : List (View.Piece (Elt F) S3x160x2048 .bf16)), Σ' (LT6 : List (View.Piece (Elt F) S3x160x1024 .bf16)), Σ' (LT7 : List (View.Piece (Elt F) S3x160x1024 .bf16)), Σ' (LT8 : List (View.Piece (Elt F) S3x160x1024 .bf16)), { LT9 : List (View.Piece (Elt F) S3x160x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_fold_dft i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], [], [], [], [], [], [], fun E K => ?run⟩
  case run =>
    simp only [cc0_fold_dft_eq_skeleton]; unfold cc0_fold_dft_skel
    simp only [k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _; isplitr; · ipureintro; exact harg13.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.Dft.Gen

end
-- ==== Proof.Dft.RunD.lean ====
/- The run of the body at the grid points 25 … 47, where only the codes are written. -/
module

public import proofs.«01_k».proof.Proof.Dft.RunC

@[expose] public section

set_option maxRecDepth 16384

noncomputable section

namespace Cert.Dft.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 40000000 in
/-- What the body's stores leave in each output's staging memref, as pieces (last first) IN CASE D (`scf.if` 0 not taken, `scf.if` 1 not taken, `scf.if` 2 not taken, `scf.if` 3 taken: points 25, 26, … 47: 23 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). Here also the FORGOTTEN outputs' (8, 9, 10) at anything, handed back at some contents nothing names. -/
noncomputable def kernelRun0_D (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : ¬cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) :
    Σ' (LS1 : List (View.Piece (Elt F) S8x1024 .f32)), Σ' (LT3 : List (View.Piece (Elt F) S160x128 .f32)), Σ' (LT4 : List (View.Piece (Elt F) S3x160x2048 .bf16)), Σ' (LT5 : List (View.Piece (Elt F) S3x160x2048 .bf16)), Σ' (LT6 : List (View.Piece (Elt F) S3x160x1024 .bf16)), Σ' (LT7 : List (View.Piece (Elt F) S3x160x1024 .bf16)), Σ' (LT8 : List (View.Piece (Elt F) S3x160x1024 .bf16)), { LT9 : List (View.Piece (Elt F) S3x160x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_fold_dft i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], [], [], [], [], [], [], fun E K => ?run⟩
  case run =>
    simp only [cc0_fold_dft_eq_skeleton]; unfold cc0_fold_dft_skel
    simp only [k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _; isplitr; · ipureintro; exact harg13.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.Dft.Gen

end
-- ==== Proof.Dft.Frame.lean ====
/- The frame of the whole grid from the four runs of the body: what each point leaves in the scratch that
   lives on, the proof data, the body's obligation at every point, and the frame claim. -/
module

public import proofs.«01_k».proof.Proof.Dft.RunD
public import Idealize.ShloMosaic.Lib.Claim

@[expose] public section

set_option maxRecDepth 16384

noncomputable section

namespace Cert.Dft.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for scratch `arg13`, which the kernel carries between points, cover it: one of them a store of the WHOLE buffer. -/
theorem scover0_A_1 (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7).1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7).1 (by sl_whole_mem) y

/-- What case A leaves in scratch `arg13`: its pieces read back over junk. -/
def sout0_A_1 (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) : Vec F S8x1024 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7).1)

/-- Case B's pieces for scratch `arg13`, which the kernel carries between points, cover it: 8 pieces of `S8x256` tiling it. -/
theorem scover0_B_1 (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) (y : S8x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs1).1 S8x256.size (by sl_kernel_rfl) y

/-- What case B leaves in scratch `arg13`: its pieces read back over junk. -/
def sout0_B_1 (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) : Vec F S8x1024 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs1).1)

/-- Case C stores nothing into scratch `arg13`: it holds what the point before left. -/
def sout0_C_1 (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) : Vec F S8x1024 .f32 := xs1

/-- Case D stores nothing into scratch `arg13`: it holds what the point before left. -/
def sout0_D_1 (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : ¬cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) : Vec F S8x1024 .f32 := xs1

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x1024 .f32
  | 0, hn => sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 48 = 0 then
      if h1 : (n + 1) < 24 then
        if h2 : (n + 1) % 48 = 24 then
          False.elim (by have hN : n + 1 < 48 := lt_of_lt_of_eq hn (show cfg0.N = 48 from N_0); omega)
        else
          if h3 : 24 ≤ (n + 1) then
            False.elim (by have hN : n + 1 < 48 := lt_of_lt_of_eq hn (show cfg0.N = 48 from N_0); omega)
          else
            sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
      else
        False.elim (by have hN : n + 1 < 48 := lt_of_lt_of_eq hn (show cfg0.N = 48 from N_0); omega)
    else
      if h1 : (n + 1) < 24 then
        if h2 : (n + 1) % 48 = 24 then
          False.elim (by have hN : n + 1 < 48 := lt_of_lt_of_eq hn (show cfg0.N = 48 from N_0); omega)
        else
          if h3 : 24 ≤ (n + 1) then
            False.elim (by have hN : n + 1 < 48 := lt_of_lt_of_eq hn (show cfg0.N = 48 from N_0); omega)
          else
            sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))
      else
        if h2 : (n + 1) % 48 = 24 then
          if h3 : 24 ≤ (n + 1) then
            sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))
          else
            False.elim (by have hN : n + 1 < 48 := lt_of_lt_of_eq hn (show cfg0.N = 48 from N_0); omega)
        else
          if h3 : 24 ≤ (n + 1) then
            sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))
          else
            False.elim (by have hN : n + 1 < 48 := lt_of_lt_of_eq hn (show cfg0.N = 48 from N_0); omega)

/-- `outsAt0` at a point of case A: that case's contents. -/
theorem outsAt0_A (c : Dev nD) (t : Fin cfg0.N) (h0 : t.val % 48 = 0) (h1 : t.val < 24) (h2 : ¬t.val % 48 = 24) (h3 : ¬24 ≤ t.val) :
    outsAt0 m c t.val t.isLt = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 48 = 0) (h1 : t.val < 24) (h2 : ¬t.val % 48 = 24) (h3 : ¬24 ≤ t.val) :
    outsAt0 m c t.val t.isLt = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 48 = 0) (h1 : ¬t.val < 24) (h2 : t.val % 48 = 24) (h3 : 24 ≤ t.val) :
    outsAt0 m c t.val t.isLt = sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- `outsAt0` at a point of case D: that case's contents, over what the point before left. -/
theorem outsAt0_D (c : Dev nD) (t : Fin cfg0.N) (h0 : ¬t.val % 48 = 0) (h1 : ¬t.val < 24) (h2 : ¬t.val % 48 = 24) (h3 : 24 ≤ t.val) :
    outsAt0 m c t.val t.isLt = sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn)) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn)) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega))) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  cases n with
  | zero => exact absurd rfl hz
  | succ n => rfl

/-! ## The pipeline's proof data -/

/-- The output windows this certificate FORGETS (8, 9, 10): nothing reads what the kernel leaves in them, so nothing
    of it is named. -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 32000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h0 : t.val % 48 = 0
  · by_cases h1 : t.val < 24
    · by_cases h2 : t.val % 48 = 24
      · exfalso; omega
      · by_cases h3 : 24 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          by_cases hz : t.val = 0
          · rw [PhiS_castSucc m c t, PhiS_zero m c _ _ hz, PhiA0_eq]
            rw [outsAt0_A m c t h0 h1 h2 h3]
            unfold sout0_A_1
            iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t)).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            isplitl [H10]; · iexists _; iexact H10
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [HS9]; · iexact HS9
            iintro ⟨H0, H1, H2, H3, H4, H5, H6, H7, H8, H9, H10, HS0, ⟨%es1, HS1⟩, HS2, ⟨%fT3, HS3⟩, ⟨%fT4, HS4⟩, ⟨%fT5, HS5⟩, ⟨%fT6, HS6⟩, ⟨%fT7, HS7⟩, ⟨%fT8, HS8⟩, ⟨%fT9, HS9⟩⟩
            isplitl [HS0 HS1 HS2 HS3 HS4 HS5 HS6 HS7 HS8 HS9 Hg]
            · isplitl [HS0 HS1 HS2 HS3 HS4 HS5 HS6 HS7 HS8 HS9]
              · isplitl [HS0]
                · iexact HS0
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _)
                isplitl [HS2]
                · iexact HS2
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                isplitl [HS6]
                · iexists _; unfold owns; iexists _; isplitr
                  swap; · iexact HS6
                  ipureintro; rfl
                isplitl [HS7]
                · iexists _; unfold owns; iexists _; isplitr
                  swap; · iexact HS7
                  ipureintro; rfl
                isplitl [HS8]
                · iexists _; unfold owns; iexists _; isplitr
                  swap; · iexact HS8
                  ipureintro; rfl
                iexists _; unfold owns; iexists _; isplitr
                swap; · iexact HS9
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            iexact H10
          · exfalso; have hN : t.val < 48 := lt_of_lt_of_eq t.isLt (show cfg0.N = 48 from N_0); omega
    · exfalso; omega
  · by_cases h1 : t.val < 24
    · by_cases h2 : t.val % 48 = 24
      · exfalso; omega
      · by_cases h3 : 24 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          by_cases hz : t.val = 0
          · exfalso; have hN : t.val < 48 := lt_of_lt_of_eq t.isLt (show cfg0.N = 48 from N_0); omega
          · rw [PhiS_castSucc m c t, PhiS_pos m c _ _ hz]
            rw [outsAt0_B m c t h0 h1 h2 h3]
            unfold sout0_B_1
            iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) _).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            isplitl [H10]; · iexists _; iexact H10
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [HS9]; · iexact HS9
            iintro ⟨H0, H1, H2, H3, H4, H5, H6, H7, H8, H9, H10, HS0, ⟨%es1, HS1⟩, HS2, ⟨%fT3, HS3⟩, ⟨%fT4, HS4⟩, ⟨%fT5, HS5⟩, ⟨%fT6, HS6⟩, ⟨%fT7, HS7⟩, ⟨%fT8, HS8⟩, ⟨%fT9, HS9⟩⟩
            isplitl [HS0 HS1 HS2 HS3 HS4 HS5 HS6 HS7 HS8 HS9 Hg]
            · isplitl [HS0 HS1 HS2 HS3 HS4 HS5 HS6 HS7 HS8 HS9]
              · isplitl [HS0]
                · iexact HS0
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _)
                isplitl [HS2]
                · iexact HS2
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                isplitl [HS6]
                · iexists _; unfold owns; iexists _; isplitr
                  swap; · iexact HS6
                  ipureintro; rfl
                isplitl [HS7]
                · iexists _; unfold owns; iexists _; isplitr
                  swap; · iexact HS7
                  ipureintro; rfl
                isplitl [HS8]
                · iexists _; unfold owns; iexists _; isplitr
                  swap; · iexact HS8
                  ipureintro; rfl
                iexists _; unfold owns; iexists _; isplitr
                swap; · iexact HS9
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            iexact H10
    · by_cases h2 : t.val % 48 = 24
      · by_cases h3 : 24 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          by_cases hz : t.val = 0
          · exfalso; have hN : t.val < 48 := lt_of_lt_of_eq t.isLt (show cfg0.N = 48 from N_0); omega
          · rw [PhiS_castSucc m c t, PhiS_pos m c _ _ hz]
            rw [outsAt0_C m c t h0 h1 h2 h3]
            unfold sout0_C_1
            iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) _).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            isplitl [H10]; · iexists _; iexact H10
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [HS9]; · iexact HS9
            iintro ⟨H0, H1, H2, H3, H4, H5, H6, H7, H8, H9, H10, HS0, HS1, HS2, HS3, HS4, HS5, HS6, HS7, HS8, HS9⟩
            isplitl [HS0 HS1 HS2 HS3 HS4 HS5 HS6 HS7 HS8 HS9 Hg]
            · isplitl [HS0 HS1 HS2 HS3 HS4 HS5 HS6 HS7 HS8 HS9]
              · isplitl [HS0]
                · iexact HS0
                isplitl [HS1]
                · iexact HS1
                isplitl [HS2]
                · iexact HS2
                isplitl [HS3]
                · iexact HS3
                isplitl [HS4]
                · iexact HS4
                isplitl [HS5]
                · iexact HS5
                isplitl [HS6]
                · iexact HS6
                isplitl [HS7]
                · iexact HS7
                isplitl [HS8]
                · iexact HS8
                iexact HS9
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            iexact H10
        · exfalso; omega
      · by_cases h3 : 24 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          by_cases hz : t.val = 0
          · exfalso; have hN : t.val < 48 := lt_of_lt_of_eq t.isLt (show cfg0.N = 48 from N_0); omega
          · rw [PhiS_castSucc m c t, PhiS_pos m c _ _ hz]
            rw [outsAt0_D m c t h0 h1 h2 h3]
            unfold sout0_D_1
            iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_D c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) _).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            isplitl [H10]; · iexists _; iexact H10
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [HS9]; · iexact HS9
            iintro ⟨H0, H1, H2, H3, H4, H5, H6, H7, H8, H9, H10, HS0, HS1, HS2, HS3, HS4, HS5, HS6, HS7, HS8, HS9⟩
            isplitl [HS0 HS1 HS2 HS3 HS4 HS5 HS6 HS7 HS8 HS9 Hg]
            · isplitl [HS0 HS1 HS2 HS3 HS4 HS5 HS6 HS7 HS8 HS9]
              · isplitl [HS0]
                · iexact HS0
                isplitl [HS1]
                · iexact HS1
                isplitl [HS2]
                · iexact HS2
                isplitl [HS3]
                · iexact HS3
                isplitl [HS4]
                · iexact HS4
                isplitl [HS5]
                · iexact HS5
                isplitl [HS6]
                · iexact HS6
                isplitl [HS7]
                · iexact HS7
                isplitl [HS8]
                · iexact HS8
                iexact HS9
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            iexact H10
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]
    · iexact HS0
    isplitl [HS1]
    · iexists _; iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- The run: it ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Dft.Gen

end
-- ==== Proof.DftIdeal.Runs.lean ====
/- What the runs of the body share: the conditions that fix a point's case, the rectangles and the scratch. -/
module

public import proofs.«01_k».proof.Proof.Gen.DftIdeal.Launch
public import proofs.«01_k».proof.Proof.Gen.DftIdeal.Skeleton
public import proofs.«01_k».proof.Proof.Gen.DftIdeal.Loops
public import proofs.«01_k».proof.Proof.Gen.DftIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_DftIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 1 rfl).trans ((hA c 1).trans (V_main_arg0 m c)),
      ((h c).2 main_arg1 (Pipeline.mem_restRefs_of main_arg1 (by decide) (by decide))).trans (V_main_arg1 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-- The condition of the body's `scf.if` 1 (`k0_h2`), from the grid coordinates (the skeleton's scalar
    chain substituted). -/
abbrev cond0_1 (i : grid0.Coords) : Prop := k0_cond2 i = 1#1
/-- It holds at the points before point 24 — decided over the grid. -/
theorem hcond0_1 : ∀ t : Fin cfg0.N, cond0_1 (grid0.coords t) ↔ t.val < 24 :=
  (by decide +kernel : ∀ t : Fin grid0.N, cond0_1 (grid0.coords t) ↔ t.val < 24)

/-- The condition of the body's `scf.if` 2 (`k0_h3`), from the grid coordinates (the skeleton's scalar
    chain substituted). -/
abbrev cond0_2 (i : grid0.Coords) : Prop := k0_cond3 i = 1#1
/-- It holds at point 24 only — by arithmetic of the point. -/
theorem hcond0_2 : ∀ t : Fin cfg0.N, cond0_2 (grid0.coords t) ↔ t.val % 48 = 24 :=
  (fun t => by
    have ht : t.val < 48 := Nat.lt_of_lt_of_eq t.isLt N_0
    have e0 : (grid0.coords t 0).val = t.val / 1 % 48 := Pipeline.Grid.coords_val t 0 (by decide) rfl
    simp only [cond0_2, k0_cond3, e0]
    word_cmp
   : ∀ t : Fin grid0.N, cond0_2 (grid0.coords t) ↔ t.val % 48 = 24)

/-- The condition of the body's `scf.if` 3 (`k0_h4`), from the grid coordinates (the skeleton's scalar
    chain substituted). -/
abbrev cond0_3 (i : grid0.Coords) : Prop := k0_cond4 i = 1#1
/-- It holds at the points from point 24 on — decided over the grid. -/
theorem hcond0_3 : ∀ t : Fin cfg0.N, cond0_3 (grid0.coords t) ↔ 24 ≤ t.val :=
  (by decide +kernel : ∀ t : Fin grid0.N, cond0_3 (grid0.coords t) ↔ 24 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x160x8192 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x160x1024 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x160x1024 .fp8e5m2 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S24x2x160x1024 .f32 := Memref.whole cc0_scratch0
abbrev scM0_1 : Memref sig .tc .vmem S8x1024 .f32 := Memref.whole cc0_scratch1
abbrev scM0_2 : Memref sig .tc .vmem S8x1024 .f32 := Memref.whole cc0_scratch2
abbrev scM0_3 : Memref sig .tc .vmem S160x128 .f32 := Memref.whole cc0_scratch3
abbrev scM0_4 : Memref sig .tc .vmem S3x160x2048 .bf16 := Memref.whole cc0_scratch4
abbrev scM0_5 : Memref sig .tc .vmem S3x160x2048 .bf16 := Memref.whole cc0_scratch5
abbrev scM0_6 : Memref sig .tc .vmem S3x160x1024 .bf16 := Memref.whole cc0_scratch6
abbrev scM0_7 : Memref sig .tc .vmem S3x160x1024 .bf16 := Memref.whole cc0_scratch7
abbrev scM0_8 : Memref sig .tc .vmem S3x160x1024 .bf16 := Memref.whole cc0_scratch8
abbrev scM0_9 : Memref sig .tc .vmem S3x160x1024 .bf16 := Memref.whole cc0_scratch9
/-- The scratch `arg13` the kernel carries between points, as a view: what it holds is stated through it. -/
abbrev VS0_1 : View sig .tc .vmem S8x1024 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.DftIdeal.Gen

end
-- ==== Proof.DftIdeal.RunA.lean ====
/- The run of the body at grid point 0, where the column maxima start from zero. -/
module

public import proofs.«01_k».proof.Proof.DftIdeal.Runs

@[expose] public section

set_option maxRecDepth 16384

noncomputable section

namespace Cert.DftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 22016000 in
/-- What the body's stores leave in each output's staging memref, as pieces (last first) IN CASE A (`scf.if` 0 taken, `scf.if` 1 taken, `scf.if` 2 not taken, `scf.if` 3 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs — each `scf.if` decided by the case's hypotheses `hc·`; the pieces are
    the witness that run finds (assigned when `iexact` hands the buffer to the continuation). Here also the FORGOTTEN outputs' (8, 9, 10) at anything, handed back at some contents nothing names. -/
noncomputable def kernelRun0_A (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) :
    Σ' (LS1 : List (View.Piece (Elt F) S8x1024 .f32)), Σ' (LT3 : List (View.Piece (Elt F) S160x128 .f32)), Σ' (LT4 : List (View.Piece (Elt F) S3x160x2048 .bf16)), Σ' (LT5 : List (View.Piece (Elt F) S3x160x2048 .bf16)), Σ' (LT6 : List (View.Piece (Elt F) S3x160x1024 .bf16)), Σ' (LT7 : List (View.Piece (Elt F) S3x160x1024 .bf16)), Σ' (LT8 : List (View.Piece (Elt F) S3x160x1024 .bf16)), { LT9 : List (View.Piece (Elt F) S3x160x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS1) ∗ (∃ d, owns (c : Thread nD τ) arg14 fullShare d) ∗ (∃ f, arg15.view.loc (c : Thread nD τ) ↦[arg15.view.set]{fullShare} arg15.view.writes (Elt F) f LT3) ∗ (∃ f, arg16.view.loc (c : Thread nD τ) ↦[arg16.view.set]{fullShare} arg16.view.writes (Elt F) f LT4) ∗ (∃ f, arg17.view.loc (c : Thread nD τ) ↦[arg17.view.set]{fullShare} arg17.view.writes (Elt F) f LT5) ∗ (∃ f, arg18.view.loc (c : Thread nD τ) ↦[arg18.view.set]{fullShare} arg18.view.writes (Elt F) f LT6) ∗ (∃ f, arg19.view.loc (c : Thread nD τ) ↦[arg19.view.set]{fullShare} arg19.view.writes (Elt F) f LT7) ∗ (∃ f, arg20.view.loc (c : Thread nD τ) ↦[arg20.view.set]{fullShare} arg20.view.writes (Elt F) f LT8) ∗ (∃ f, arg21.view.loc (c : Thread nD τ) ↦[arg21.view.set]{fullShare} arg21.view.writes (Elt F) f LT9)) -∗ K ⟨⟩))
          ⊢ wp frame (wpE (defs₀ (F := F)) Variants.none c none) E (cc0_fold_dft i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun E K => ?run⟩
  case run =>
    simp only [cc0_fold_dft_eq_skeleton]; unfold cc0_fold_dft_skel
    simp only [k0_part329_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part330_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part331_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part332_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part333_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part334_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.DftIdeal.Gen

end
-- ==== Proof.DftIdeal.RunB.lean ====
/- The run of the body at the grid points 1 … 23, where the column maxima of a batch join those so far. -/
module

public import proofs.«01_k».proof.Proof.DftIdeal.RunA

@[expose] public section

set_option maxRecDepth 16384

noncomputable section

namespace Cert.DftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 22004000 in
/-- What the body's stores leave in each output's staging memref, as pieces (last first) IN CASE B (`scf.if` 0 not taken, `scf.if` 1 taken, `scf.if` 2 not taken, `scf.if` 3 not taken: points 1, 2, … 23: 23 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs — each `scf.if` decided by the case's hypotheses `hc·`; the pieces are
    the witness that run finds (assigned when `iexact` hands the buffer to the continuation). Here also the FORGOTTEN outputs' (8, 9, 10) at anything, handed back at some contents nothing names. -/
noncomputable def kernelRun0_B (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) :
    Σ' (LS1 : List (View.Piece (Elt F) S8x1024 .f32)), Σ' (LT3 : List (View.Piece (Elt F) S160x128 .f32)), Σ' (LT4 : List (View.Piece (Elt F) S3x160x2048 .bf16)), Σ' (LT5 : List (View.Piece (Elt F) S3x160x2048 .bf16)), Σ' (LT6 : List (View.Piece (Elt F) S3x160x1024 .bf16)), Σ' (LT7 : List (View.Piece (Elt F) S3x160x1024 .bf16)), Σ' (LT8 : List (View.Piece (Elt F) S3x160x1024 .bf16)), { LT9 : List (View.Piece (Elt F) S3x160x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS1) ∗ (∃ d, owns (c : Thread nD τ) arg14 fullShare d) ∗ (∃ f, arg15.view.loc (c : Thread nD τ) ↦[arg15.view.set]{fullShare} arg15.view.writes (Elt F) f LT3) ∗ (∃ f, arg16.view.loc (c : Thread nD τ) ↦[arg16.view.set]{fullShare} arg16.view.writes (Elt F) f LT4) ∗ (∃ f, arg17.view.loc (c : Thread nD τ) ↦[arg17.view.set]{fullShare} arg17.view.writes (Elt F) f LT5) ∗ (∃ f, arg18.view.loc (c : Thread nD τ) ↦[arg18.view.set]{fullShare} arg18.view.writes (Elt F) f LT6) ∗ (∃ f, arg19.view.loc (c : Thread nD τ) ↦[arg19.view.set]{fullShare} arg19.view.writes (Elt F) f LT7) ∗ (∃ f, arg20.view.loc (c : Thread nD τ) ↦[arg20.view.set]{fullShare} arg20.view.writes (Elt F) f LT8) ∗ (∃ f, arg21.view.loc (c : Thread nD τ) ↦[arg21.view.set]{fullShare} arg21.view.writes (Elt F) f LT9)) -∗ K ⟨⟩))
          ⊢ wp frame (wpE (defs₀ (F := F)) Variants.none c none) E (cc0_fold_dft i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun E K => ?run⟩
  case run =>
    simp only [cc0_fold_dft_eq_skeleton]; unfold cc0_fold_dft_skel
    simp only [k0_part329_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part330_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part331_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part332_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part333_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part334_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.DftIdeal.Gen

end
-- ==== Proof.DftIdeal.RunC.lean ====
/- The run of the body at grid point 24, where the scales are written and the first codes. -/
module

public import proofs.«01_k».proof.Proof.DftIdeal.RunB

@[expose] public section

set_option maxRecDepth 16384

noncomputable section

namespace Cert.DftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1060000 in
/-- What the body's stores leave in each output's staging memref, as pieces (last first) IN CASE C (`scf.if` 0 not taken, `scf.if` 1 not taken, `scf.if` 2 taken, `scf.if` 3 taken: points 24), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). Here also the FORGOTTEN outputs' (8, 9, 10) at anything, handed back at some contents nothing names. -/
noncomputable def kernelRun0_C (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) :
    Σ' (LS1 : List (View.Piece (Elt F) S8x1024 .f32)), Σ' (LT3 : List (View.Piece (Elt F) S160x128 .f32)), Σ' (LT4 : List (View.Piece (Elt F) S3x160x2048 .bf16)), Σ' (LT5 : List (View.Piece (Elt F) S3x160x2048 .bf16)), Σ' (LT6 : List (View.Piece (Elt F) S3x160x1024 .bf16)), Σ' (LT7 : List (View.Piece (Elt F) S3x160x1024 .bf16)), Σ' (LT8 : List (View.Piece (Elt F) S3x160x1024 .bf16)), { LT9 : List (View.Piece (Elt F) S3x160x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_fold_dft i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], [], [], [], [], [], [], fun E K => ?run⟩
  case run =>
    simp only [cc0_fold_dft_eq_skeleton]; unfold cc0_fold_dft_skel
    simp only [k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _; isplitr; · ipureintro; exact harg13.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.DftIdeal.Gen

end
-- ==== Proof.DftIdeal.RunD.lean ====
/- The run of the body at the grid points 25 … 47, where only the codes are written. -/
module

public import proofs.«01_k».proof.Proof.DftIdeal.RunC

@[expose] public section

set_option maxRecDepth 16384

noncomputable section

namespace Cert.DftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 40000000 in
/-- What the body's stores leave in each output's staging memref, as pieces (last first) IN CASE D (`scf.if` 0 not taken, `scf.if` 1 not taken, `scf.if` 2 not taken, `scf.if` 3 taken: points 25, 26, … 47: 23 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). Here also the FORGOTTEN outputs' (8, 9, 10) at anything, handed back at some contents nothing names. -/
noncomputable def kernelRun0_D (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : ¬cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) :
    Σ' (LS1 : List (View.Piece (Elt F) S8x1024 .f32)), Σ' (LT3 : List (View.Piece (Elt F) S160x128 .f32)), Σ' (LT4 : List (View.Piece (Elt F) S3x160x2048 .bf16)), Σ' (LT5 : List (View.Piece (Elt F) S3x160x2048 .bf16)), Σ' (LT6 : List (View.Piece (Elt F) S3x160x1024 .bf16)), Σ' (LT7 : List (View.Piece (Elt F) S3x160x1024 .bf16)), Σ' (LT8 : List (View.Piece (Elt F) S3x160x1024 .bf16)), { LT9 : List (View.Piece (Elt F) S3x160x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_fold_dft i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], [], [], [], [], [], [], fun E K => ?run⟩
  case run =>
    simp only [cc0_fold_dft_eq_skeleton]; unfold cc0_fold_dft_skel
    simp only [k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _; isplitr; · ipureintro; exact harg13.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.DftIdeal.Gen

end
-- ==== Proof.DftIdeal.Frame.lean ====
/- The frame of the whole grid from the four runs of the body: what each point leaves in the scratch that
   lives on, the proof data, the body's obligation at every point, and the frame claim. -/
module

public import proofs.«01_k».proof.Proof.DftIdeal.RunD
public import Idealize.ShloMosaic.Lib.Claim

@[expose] public section

set_option maxRecDepth 16384

noncomputable section

namespace Cert.DftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg13`, which the kernel carries between points, cover it: one of them a store of the WHOLE buffer. -/
theorem scover0_A_1 (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7).1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7).1 (by sl_whole_mem) y

/-- What case A leaves in scratch `arg13`: its pieces read back over junk. -/
def sout0_A_1 (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) : Vec F S8x1024 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7).1)

/-- Case B's pieces for scratch `arg13`, which the kernel carries between points, cover it: 8 pieces of `S8x256` tiling it. -/
theorem scover0_B_1 (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) (y : S8x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs1).1 S8x256.size (by sl_kernel_rfl) y

/-- What case B leaves in scratch `arg13`: its pieces read back over junk. -/
def sout0_B_1 (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) : Vec F S8x1024 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs1).1)

/-- Case C stores nothing into scratch `arg13`: it holds what the point before left. -/
def sout0_C_1 (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) : Vec F S8x1024 .f32 := xs1

/-- Case D stores nothing into scratch `arg13`: it holds what the point before left. -/
def sout0_D_1 (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : ¬cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs1 : Vec F S8x1024 .f32) : Vec F S8x1024 .f32 := xs1

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x1024 .f32
  | 0, hn => sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 48 = 0 then
      if h1 : (n + 1) < 24 then
        if h2 : (n + 1) % 48 = 24 then
          False.elim (by have hN : n + 1 < 48 := lt_of_lt_of_eq hn (show cfg0.N = 48 from N_0); omega)
        else
          if h3 : 24 ≤ (n + 1) then
            False.elim (by have hN : n + 1 < 48 := lt_of_lt_of_eq hn (show cfg0.N = 48 from N_0); omega)
          else
            sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
      else
        False.elim (by have hN : n + 1 < 48 := lt_of_lt_of_eq hn (show cfg0.N = 48 from N_0); omega)
    else
      if h1 : (n + 1) < 24 then
        if h2 : (n + 1) % 48 = 24 then
          False.elim (by have hN : n + 1 < 48 := lt_of_lt_of_eq hn (show cfg0.N = 48 from N_0); omega)
        else
          if h3 : 24 ≤ (n + 1) then
            False.elim (by have hN : n + 1 < 48 := lt_of_lt_of_eq hn (show cfg0.N = 48 from N_0); omega)
          else
            sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))
      else
        if h2 : (n + 1) % 48 = 24 then
          if h3 : 24 ≤ (n + 1) then
            sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))
          else
            False.elim (by have hN : n + 1 < 48 := lt_of_lt_of_eq hn (show cfg0.N = 48 from N_0); omega)
        else
          if h3 : 24 ≤ (n + 1) then
            sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))
          else
            False.elim (by have hN : n + 1 < 48 := lt_of_lt_of_eq hn (show cfg0.N = 48 from N_0); omega)

/-- `outsAt0` at a point of case A: that case's contents. -/
theorem outsAt0_A (c : Dev nD) (t : Fin cfg0.N) (h0 : t.val % 48 = 0) (h1 : t.val < 24) (h2 : ¬t.val % 48 = 24) (h3 : ¬24 ≤ t.val) :
    outsAt0 m c t.val t.isLt = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 48 = 0) (h1 : t.val < 24) (h2 : ¬t.val % 48 = 24) (h3 : ¬24 ≤ t.val) :
    outsAt0 m c t.val t.isLt = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 48 = 0) (h1 : ¬t.val < 24) (h2 : t.val % 48 = 24) (h3 : 24 ≤ t.val) :
    outsAt0 m c t.val t.isLt = sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- `outsAt0` at a point of case D: that case's contents, over what the point before left. -/
theorem outsAt0_D (c : Dev nD) (t : Fin cfg0.N) (h0 : ¬t.val % 48 = 0) (h1 : ¬t.val < 24) (h2 : ¬t.val % 48 = 24) (h3 : 24 ≤ t.val) :
    outsAt0 m c t.val t.isLt = sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn)) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn)) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega))) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  cases n with
  | zero => exact absurd rfl hz
  | succ n => rfl

/-! ## The pipeline's proof data -/

/-- The output windows this certificate FORGETS (8, 9, 10): nothing reads what the kernel leaves in them, so nothing
    of it is named. -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 32000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h0 : t.val % 48 = 0
  · by_cases h1 : t.val < 24
    · by_cases h2 : t.val % 48 = 24
      · exfalso; omega
      · by_cases h3 : 24 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          by_cases hz : t.val = 0
          · rw [PhiS_castSucc m c t, PhiS_zero m c _ _ hz, PhiA0_eq]
            rw [outsAt0_A m c t h0 h1 h2 h3]
            unfold sout0_A_1
            iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t)).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            isplitl [H10]; · iexists _; iexact H10
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [HS9]; · iexact HS9
            iintro ⟨H0, H1, H2, H3, H4, H5, H6, H7, H8, H9, H10, HS0, ⟨%es1, HS1⟩, HS2, ⟨%fT3, HS3⟩, ⟨%fT4, HS4⟩, ⟨%fT5, HS5⟩, ⟨%fT6, HS6⟩, ⟨%fT7, HS7⟩, ⟨%fT8, HS8⟩, ⟨%fT9, HS9⟩⟩
            isplitl [HS0 HS1 HS2 HS3 HS4 HS5 HS6 HS7 HS8 HS9 Hg]
            · isplitl [HS0 HS1 HS2 HS3 HS4 HS5 HS6 HS7 HS8 HS9]
              · isplitl [HS0]
                · iexact HS0
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _)
                isplitl [HS2]
                · iexact HS2
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                isplitl [HS6]
                · iexists _; unfold owns; iexists _; isplitr
                  swap; · iexact HS6
                  ipureintro; rfl
                isplitl [HS7]
                · iexists _; unfold owns; iexists _; isplitr
                  swap; · iexact HS7
                  ipureintro; rfl
                isplitl [HS8]
                · iexists _; unfold owns; iexists _; isplitr
                  swap; · iexact HS8
                  ipureintro; rfl
                iexists _; unfold owns; iexists _; isplitr
                swap; · iexact HS9
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            iexact H10
          · exfalso; have hN : t.val < 48 := lt_of_lt_of_eq t.isLt (show cfg0.N = 48 from N_0); omega
    · exfalso; omega
  · by_cases h1 : t.val < 24
    · by_cases h2 : t.val % 48 = 24
      · exfalso; omega
      · by_cases h3 : 24 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          by_cases hz : t.val = 0
          · exfalso; have hN : t.val < 48 := lt_of_lt_of_eq t.isLt (show cfg0.N = 48 from N_0); omega
          · rw [PhiS_castSucc m c t, PhiS_pos m c _ _ hz]
            rw [outsAt0_B m c t h0 h1 h2 h3]
            unfold sout0_B_1
            iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) _).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            isplitl [H10]; · iexists _; iexact H10
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [HS9]; · iexact HS9
            iintro ⟨H0, H1, H2, H3, H4, H5, H6, H7, H8, H9, H10, HS0, ⟨%es1, HS1⟩, HS2, ⟨%fT3, HS3⟩, ⟨%fT4, HS4⟩, ⟨%fT5, HS5⟩, ⟨%fT6, HS6⟩, ⟨%fT7, HS7⟩, ⟨%fT8, HS8⟩, ⟨%fT9, HS9⟩⟩
            isplitl [HS0 HS1 HS2 HS3 HS4 HS5 HS6 HS7 HS8 HS9 Hg]
            · isplitl [HS0 HS1 HS2 HS3 HS4 HS5 HS6 HS7 HS8 HS9]
              · isplitl [HS0]
                · iexact HS0
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _)
                isplitl [HS2]
                · iexact HS2
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                isplitl [HS6]
                · iexists _; unfold owns; iexists _; isplitr
                  swap; · iexact HS6
                  ipureintro; rfl
                isplitl [HS7]
                · iexists _; unfold owns; iexists _; isplitr
                  swap; · iexact HS7
                  ipureintro; rfl
                isplitl [HS8]
                · iexists _; unfold owns; iexists _; isplitr
                  swap; · iexact HS8
                  ipureintro; rfl
                iexists _; unfold owns; iexists _; isplitr
                swap; · iexact HS9
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            iexact H10
    · by_cases h2 : t.val % 48 = 24
      · by_cases h3 : 24 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          by_cases hz : t.val = 0
          · exfalso; have hN : t.val < 48 := lt_of_lt_of_eq t.isLt (show cfg0.N = 48 from N_0); omega
          · rw [PhiS_castSucc m c t, PhiS_pos m c _ _ hz]
            rw [outsAt0_C m c t h0 h1 h2 h3]
            unfold sout0_C_1
            iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) _).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            isplitl [H10]; · iexists _; iexact H10
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [HS9]; · iexact HS9
            iintro ⟨H0, H1, H2, H3, H4, H5, H6, H7, H8, H9, H10, HS0, HS1, HS2, HS3, HS4, HS5, HS6, HS7, HS8, HS9⟩
            isplitl [HS0 HS1 HS2 HS3 HS4 HS5 HS6 HS7 HS8 HS9 Hg]
            · isplitl [HS0 HS1 HS2 HS3 HS4 HS5 HS6 HS7 HS8 HS9]
              · isplitl [HS0]
                · iexact HS0
                isplitl [HS1]
                · iexact HS1
                isplitl [HS2]
                · iexact HS2
                isplitl [HS3]
                · iexact HS3
                isplitl [HS4]
                · iexact HS4
                isplitl [HS5]
                · iexact HS5
                isplitl [HS6]
                · iexact HS6
                isplitl [HS7]
                · iexact HS7
                isplitl [HS8]
                · iexact HS8
                iexact HS9
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            iexact H10
        · exfalso; omega
      · by_cases h3 : 24 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          by_cases hz : t.val = 0
          · exfalso; have hN : t.val < 48 := lt_of_lt_of_eq t.isLt (show cfg0.N = 48 from N_0); omega
          · rw [PhiS_castSucc m c t, PhiS_pos m c _ _ hz]
            rw [outsAt0_D m c t h0 h1 h2 h3]
            unfold sout0_D_1
            iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_D c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) _).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            isplitl [H10]; · iexists _; iexact H10
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [HS9]; · iexact HS9
            iintro ⟨H0, H1, H2, H3, H4, H5, H6, H7, H8, H9, H10, HS0, HS1, HS2, HS3, HS4, HS5, HS6, HS7, HS8, HS9⟩
            isplitl [HS0 HS1 HS2 HS3 HS4 HS5 HS6 HS7 HS8 HS9 Hg]
            · isplitl [HS0 HS1 HS2 HS3 HS4 HS5 HS6 HS7 HS8 HS9]
              · isplitl [HS0]
                · iexact HS0
                isplitl [HS1]
                · iexact HS1
                isplitl [HS2]
                · iexact HS2
                isplitl [HS3]
                · iexact HS3
                isplitl [HS4]
                · iexact HS4
                isplitl [HS5]
                · iexact HS5
                isplitl [HS6]
                · iexact HS6
                isplitl [HS7]
                · iexact HS7
                isplitl [HS8]
                · iexact HS8
                iexact HS9
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            iexact H10
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]
    · iexact HS0
    isplitl [HS1]
    · iexists _; iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- The run: it ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.DftIdeal.Gen

end
-- ==== Proof.DftIdeal.Tile.lean ====
/- One tile of the fold: the words a row tile and a lane block combine, the three-way split of each combination, and the
   lists of stores the body leaves in its scratch, as functions of the words it loads. -/
module

public import proofs.«01_k».proof.Proof.DftIdeal.Runs

@[expose] public section

set_option maxRecDepth 16384

noncomputable section

namespace Cert.DftIdeal.Gen

open Idealize.ShloMosaic Idealize.ShloMosaic.TcCoe

variable {F : FTy → Type} [FloatOps F]

/-- A stored word widened and clipped to the finite range of the format. -/
def tWord (v : Vec F S1x32x128 .fp8e5m2) : FVec F S32x128 .f32 :=
  minimumf (broadcast S32x128 (Scalar.ofBits .f32 0x47600000#32))
    (maximumf (broadcast S32x128 (Scalar.ofBits .f32 0xC7600000#32))
      (extf .f32 (shapeCast S32x128 v shapeCasts_S1x32x128_S32x128) bitsLt_fp8e5m2_f32))

/-- The lane number. -/
def tLane : IVec S32x128 32 := iota .tc S32x128 32 [1] iota_S32x128_d1_w32

/-- The lanes a reversal takes, in range. -/
def tIdx : IVec S32x128 32 :=
  shapeCast S32x128 (shapeCast S32x128x1
    (select (cmpi .slt k0_pay5 (broadcast S32x128 0#32)) (addi k0_pay5 (broadcast S32x128 128#32)) k0_pay5)
    shapeCasts_S32x128_S32x128x1) shapeCasts_S32x128x1_S32x128

/-- The words of quarter `q` at lane block `s`, in their own order. -/
def tFwd (w : ℕ → Vec F S1x32x128 .fp8e5m2) (q s : ℕ) : FVec F S32x128 .f32 := tWord (w (16 * q + s))

/-- The first lane of a reversed block. -/
def tEdge (w : ℕ → Vec F S1x32x128 .fp8e5m2) (q : ℕ) : ℕ → FVec F S32x128 .f32
  | 0 => broadcast S32x128 (Scalar.ofBits .f32 0x00000000#32)
  | s + 1 => tWord (w (16 * q - (s + 1)))

/-- The words before quarter `q`, backwards, at lane block `s`. -/
def tBwd (w : ℕ → Vec F S1x32x128 .fp8e5m2) (q s : ℕ) : FVec F S32x128 .f32 :=
  select (cmpi .eq tLane (broadcast S32x128 0#32)) (tEdge w q s) (dynamicGather 1 (tWord (w (16 * q - 1 - s))) tIdx)

variable (w : ℕ → Vec F S1x32x128 .fp8e5m2)

/-- The word in the middle of quarter `q`. -/
def tMid (q : ℕ) : FVec F S32x128 .f32 := tWord (w (8 * (2 * q + 1)))

/-- At the first lane of the first block `a`, elsewhere `b`. -/
def tFirst (s : ℕ) (a b : FVec F S32x128 .f32) : FVec F S32x128 .f32 :=
  match s with
  | 0 => select k0_pay6 a b
  | _ + 1 => b

def tEa (s : ℕ) : FVec F S32x128 .f32 := subf (subf (tFwd w 0 s) (tFwd w 2 s)) (subf (tBwd w 2 s) (tBwd w 4 s))
def tOa (s : ℕ) : FVec F S32x128 .f32 :=
  tFirst s (addf (subf (tMid w 0) (tMid w 2)) (subf (tMid w 1) (tMid w 3)))
    (addf (subf (tFwd w 0 s) (tFwd w 2 s)) (subf (tBwd w 2 s) (tBwd w 4 s)))
def tEb (s : ℕ) : FVec F S32x128 .f32 :=
  tFirst s (subf (subf (tMid w 0) (tMid w 2)) (subf (tMid w 1) (tMid w 3)))
    (subf (subf (tBwd w 1 s) (tBwd w 3 s)) (subf (tFwd w 1 s) (tFwd w 3 s)))
def tOb (s : ℕ) : FVec F S32x128 .f32 := addf (subf (tBwd w 1 s) (tBwd w 3 s)) (subf (tFwd w 1 s) (tFwd w 3 s))
def tE2 (s : ℕ) : FVec F S32x128 .f32 :=
  subf (addf (addf (tFwd w 0 s) (tFwd w 2 s)) (addf (tBwd w 2 s) (tBwd w 4 s)))
    (addf (addf (tBwd w 1 s) (tBwd w 3 s)) (addf (tFwd w 1 s) (tFwd w 3 s)))
def tO2 (s : ℕ) : FVec F S32x128 .f32 :=
  tFirst s (subf (addf (tMid w 0) (tMid w 2)) (addf (tMid w 1) (tMid w 3)))
    (addf (subf (addf (tFwd w 0 s) (tFwd w 2 s)) (addf (tBwd w 2 s) (tBwd w 4 s)))
      (subf (addf (tBwd w 1 s) (tBwd w 3 s)) (addf (tFwd w 1 s) (tFwd w 3 s))))
def tE0 (s : ℕ) : FVec F S32x128 .f32 :=
  addf (addf (addf (tFwd w 0 s) (tFwd w 2 s)) (addf (tBwd w 2 s) (tBwd w 4 s)))
    (addf (addf (tBwd w 1 s) (tBwd w 3 s)) (addf (tFwd w 1 s) (tFwd w 3 s)))
def tO0 (s : ℕ) : FVec F S32x128 .f32 :=
  subf (subf (addf (tFwd w 0 s) (tFwd w 2 s)) (addf (tBwd w 2 s) (tBwd w 4 s)))
    (subf (addf (tBwd w 1 s) (tBwd w 3 s)) (addf (tFwd w 1 s) (tFwd w 3 s)))
def tCen : FVec F S32x128 .f32 :=
  shapeCast S32x128 (addf (addf (tMid w 0) (tMid w 2)) (addf (tMid w 1) (tMid w 3))) shapeCasts_S32x128_S32x128

/-- The upper half of a word. -/
def tHi (x : FVec F S32x128 .f32) : FVec F S32x128 .f32 := extf .f32 (truncf .bf16 x)

/-- Part `k` of the split of `x`. -/
def tSplit (x : FVec F S32x128 .f32) : ℕ → FVec F S32x128 .f32
  | 0 => tHi x
  | 1 => tHi (subf x (tHi x))
  | _ + 2 => subf (subf x (tHi x)) (tHi (subf x (tHi x)))

def tPart (x : FVec F S32x128 .f32) (k : ℕ) : Vec F S1x32x128 .bf16 :=
  shapeCast S1x32x128 (truncf .bf16 (tSplit x k) bitsLt_bf16_f32) shapeCasts_S32x128_S1x32x128

theorem inb_wide (k rt o : ℕ) : ∀ a, (![k % 3, 32 * (rt % 5), 128 * (o % 16)] : Fin 3 → ℕ) a + S1x32x128.size a ≤ S3x160x2048.size a := by
  rw [Fin.forall_fin_succ, Fin.forall_fin_succ, Fin.forall_fin_one]
  exact ⟨show k % 3 + 1 ≤ 3 by omega, show 32 * (rt % 5) + 32 ≤ 160 by omega, show 128 * (o % 16) + 128 ≤ 2048 by omega⟩
theorem inb_half (k rt o : ℕ) : ∀ a, (![k % 3, 32 * (rt % 5), 128 * (o % 8)] : Fin 3 → ℕ) a + S1x32x128.size a ≤ S3x160x1024.size a := by
  rw [Fin.forall_fin_succ, Fin.forall_fin_succ, Fin.forall_fin_one]
  exact ⟨show k % 3 + 1 ≤ 3 by omega, show 32 * (rt % 5) + 32 ≤ 160 by omega, show 128 * (o % 8) + 128 ≤ 1024 by omega⟩
theorem inb_word (rt b : ℕ) : ∀ a, (![0, 32 * (rt % 5), 128 * (b % 64)] : Fin 3 → ℕ) a + S1x32x128.size a ≤ S1x160x8192.size a := by
  rw [Fin.forall_fin_succ, Fin.forall_fin_succ, Fin.forall_fin_one]
  exact ⟨show 0 + 1 ≤ 1 by omega, show 32 * (rt % 5) + 32 ≤ 160 by omega, show 128 * (b % 64) + 128 ≤ 8192 by omega⟩
theorem inb_cen (rt : ℕ) : ∀ a, (![32 * (rt % 5), 0] : Fin 2 → ℕ) a + S32x128.size a ≤ S160x128.size a := by
  rw [Fin.forall_fin_succ, Fin.forall_fin_one]
  exact ⟨show 32 * (rt % 5) + 32 ≤ 160 by omega, show 0 + 128 ≤ 128 by omega⟩

/-- One store of a part into a scratch of 2048 columns, and of 1024 columns. -/
def pieceW (x : FVec F S32x128 .f32) (rt o k : ℕ) : View.Piece (Elt F) S3x160x2048 .bf16 :=
  ⟨Rect.unit (s := S3x160x2048) ![k % 3, 32 * (rt % 5), 128 * (o % 16)] S1x32x128.size (inb_wide k rt o), tPart x k⟩
def pieceH (x : FVec F S32x128 .f32) (rt o k : ℕ) : View.Piece (Elt F) S3x160x1024 .bf16 :=
  ⟨Rect.unit (s := S3x160x1024) ![k % 3, 32 * (rt % 5), 128 * (o % 8)] S1x32x128.size (inb_half k rt o), tPart x k⟩

/-- The stores into a scratch of 2048 columns, the last first: `a` fills the first half, `b` the second. -/
def listW (W : ℕ → ℕ → Vec F S1x32x128 .fp8e5m2) (a b : (ℕ → Vec F S1x32x128 .fp8e5m2) → ℕ → FVec F S32x128 .f32) :
    List (View.Piece (Elt F) S3x160x2048 .bf16) :=
  [4, 3, 2, 1, 0].flatMap fun rt => [7, 6, 5, 4, 3, 2, 1, 0].flatMap fun s =>
    [pieceW (b (W rt) s) rt (8 + s) 2, pieceW (b (W rt) s) rt (8 + s) 1, pieceW (b (W rt) s) rt (8 + s) 0,
     pieceW (a (W rt) s) rt s 2, pieceW (a (W rt) s) rt s 1, pieceW (a (W rt) s) rt s 0]

/-- The stores into a scratch of 1024 columns, the last first. -/
def listH (W : ℕ → ℕ → Vec F S1x32x128 .fp8e5m2) (a : (ℕ → Vec F S1x32x128 .fp8e5m2) → ℕ → FVec F S32x128 .f32) :
    List (View.Piece (Elt F) S3x160x1024 .bf16) :=
  [4, 3, 2, 1, 0].flatMap fun rt => [7, 6, 5, 4, 3, 2, 1, 0].flatMap fun s =>
    [pieceH (a (W rt) s) rt s 2, pieceH (a (W rt) s) rt s 1, pieceH (a (W rt) s) rt s 0]

/-- The stores of the centre words, the last first. -/
def listC (W : ℕ → ℕ → Vec F S1x32x128 .fp8e5m2) : List (View.Piece (Elt F) S160x128 .f32) :=
  [4, 3, 2, 1, 0].map fun rt =>
    ⟨Rect.unit (s := S160x128) ![32 * (rt % 5), 0] S32x128.size (inb_cen rt), tCen (W rt)⟩

/-- The word at row tile `rt` and lane block `b` of the staged window. -/
def wordOf (arg2 : Memref sig .tc .vmem S1x160x8192 .fp8e5m2) (harg2 : arg2.IsWhole) (x1 : Vec F S1x160x8192 .fp8e5m2)
    (rt b : ℕ) : Vec F S1x32x128 .fp8e5m2 :=
  View.readAt (Elt F) arg2.view
    (Rect.unit (s := S1x160x8192) ![0, 32 * (rt % 5), 128 * (b % 64)] S1x32x128.size (inb_word rt b)).toLoadRect (harg2.unread x1)

end Cert.DftIdeal.Gen

end
-- ==== Proof.DftIdeal.StepD.lean ====
/- The spectra of one batch and the running maxima, as functions of the words and the tables the body loads. -/
module

public import proofs.«01_k».proof.Proof.DftIdeal.Tile

@[expose] public section

set_option maxRecDepth 16384

noncomputable section

namespace Cert.DftIdeal.Gen

open Idealize.ShloMosaic Idealize.ShloMosaic.TcCoe

variable {F : FTy → Type} [FloatOps F]

/-- The three products of a split with a table, added up. -/
def dotW (z2 z1 z0 : Vec F S1x160x2048 .bf16) (t : Vec F S2048x512 .bf16) : FVec F S160x512 .f32 :=
  addf (addf
    (matmul dot_S160x2048_S2048x512_S160x512_1_0_0_1_n_n none (shapeCast S160x2048 z2 shapeCasts_S1x160x2048_S160x2048 : FVec F S160x2048 .bf16)
      (shapeCast S2048x512 t shapeCasts_S2048x512_S2048x512 : FVec F S2048x512 .bf16) (constant S160x512 .f32 0x00000000#32))
    (matmul dot_S160x2048_S2048x512_S160x512_1_0_0_1_n_n none (shapeCast S160x2048 z1 shapeCasts_S1x160x2048_S160x2048 : FVec F S160x2048 .bf16)
      (shapeCast S2048x512 t shapeCasts_S2048x512_S2048x512 : FVec F S2048x512 .bf16) (constant S160x512 .f32 0x00000000#32)))
    (matmul dot_S160x2048_S2048x512_S160x512_1_0_0_1_n_n none (shapeCast S160x2048 z0 shapeCasts_S1x160x2048_S160x2048 : FVec F S160x2048 .bf16)
      (shapeCast S2048x512 t shapeCasts_S2048x512_S2048x512 : FVec F S2048x512 .bf16) (constant S160x512 .f32 0x00000000#32))

def dotH (z2 z1 z0 : Vec F S1x160x1024 .bf16) (t : Vec F S1024x256 .bf16) : FVec F S160x256 .f32 :=
  addf (addf
    (matmul dot_S160x1024_S1024x256_S160x256_1_0_0_1_n_n none (shapeCast S160x1024 z2 shapeCasts_S1x160x1024_S160x1024 : FVec F S160x1024 .bf16)
      (shapeCast S1024x256 t shapeCasts_S1024x256_S1024x256 : FVec F S1024x256 .bf16) (constant S160x256 .f32 0x00000000#32))
    (matmul dot_S160x1024_S1024x256_S160x256_1_0_0_1_n_n none (shapeCast S160x1024 z1 shapeCasts_S1x160x1024_S160x1024 : FVec F S160x1024 .bf16)
      (shapeCast S1024x256 t shapeCasts_S1024x256_S1024x256 : FVec F S1024x256 .bf16) (constant S160x256 .f32 0x00000000#32)))
    (matmul dot_S160x1024_S1024x256_S160x256_1_0_0_1_n_n none (shapeCast S160x1024 z0 shapeCasts_S1x160x1024_S160x1024 : FVec F S160x1024 .bf16)
      (shapeCast S1024x256 t shapeCasts_S1024x256_S1024x256 : FVec F S1024x256 .bf16) (constant S160x256 .f32 0x00000000#32))

/-- The factor of each column: `one` at the first column where `b` is set, elsewhere `two`. -/
def coefV (d : F .f32) (b : BitVec 1) : FVec F S160x256 .f32 :=
  broadcastTo S160x256
    (select (andi (cmpi .eq (iota .tc S1x256 32 [1] iota_S1x256_d1_w32) (broadcast S1x256 0#32)) (broadcast S1x256 b))
      (broadcast S1x256 (Scalar.mulf (Scalar.ofBits .f32 0x39000000#32) d))
      (broadcast S1x256 (Scalar.mulf (Scalar.ofBits .f32 0x39800000#32) d)) : FVec F S1x256 .f32) broadcasts_S1x256_S160x256

/-- The spectrum's plane `p` at the residue `r`, from the scale, the six scratch buffers' loads and the tables. -/
def specW (d : F .f32) (z2 z1 z0 : Vec F S1x160x2048 .bf16) (t : Vec F S2048x512 .bf16) : ℕ → FVec F S160x256 .f32
  | 0 => mulf (extractStridedSlice S160x256 ![0, 0] (dotW z2 z1 z0 t) slices_S160x512_o0_0_S160x256) (coefV d 0#1)
  | _ + 1 => mulf (extractStridedSlice S160x256 ![0, 256] (dotW z2 z1 z0 t) slices_S160x512_o0_256_S160x256) (coefV d 0#1)

def specH (d : F .f32) (b : BitVec 1) (z2 z1 z0 : Vec F S1x160x1024 .bf16) (t : Vec F S1024x256 .bf16) : FVec F S160x256 .f32 :=
  mulf (dotH z2 z1 z0 t) (coefV d b)

def specC (d : F .f32) (z2 z1 z0 : Vec F S1x160x1024 .bf16) (t : Vec F S1024x256 .bf16) (cen : Vec F S160x1 .f32) : FVec F S160x256 .f32 :=
  mulf (addf (dotH z2 z1 z0 t) (mulf (broadcastTo S160x256 cen broadcasts_S160x1_S160x256 : FVec F S160x256 .f32)
    (broadcastTo S160x256 (k0_pay3402 2#32 k0_pay3400 k0_pay3401 : FVec F S1x256 .f32) broadcasts_S1x256_S160x256))) (coefV d 1#1)

section
variable (arg1 : Memref sig .tc .smem S1 .f32) (harg1 : arg1.IsWhole) (arg2 : Memref sig .tc .vmem S1x160x8192 .fp8e5m2) (harg2 : arg2.IsWhole)
  (arg3 arg4 : Memref sig .tc .vmem S2048x512 .bf16) (harg3 : arg3.IsWhole) (harg4 : arg4.IsWhole)
  (arg5 arg6 arg7 arg8 : Memref sig .tc .vmem S1024x256 .bf16) (harg5 : arg5.IsWhole) (harg6 : arg6.IsWhole) (harg7 : arg7.IsWhole) (harg8 : arg8.IsWhole)
  (arg15 : Memref sig .tc .vmem S160x128 .f32) (arg16 arg17 : Memref sig .tc .vmem S3x160x2048 .bf16) (arg18 arg19 arg20 arg21 : Memref sig .tc .vmem S3x160x1024 .bf16)
  (x0 : Vec F S1 .f32) (x1 : Vec F S1x160x8192 .fp8e5m2) (x2 x3 : Vec F S2048x512 .bf16) (x4 x5 x6 x7 : Vec F S1024x256 .bf16)

/-- The scale the body loads. -/
def dysOf : F .f32 := View.readAt (Elt F) arg1.view (Rect.unit (s := S1) ![0] S1.size inb_S1_S1_0).toLoadRect (harg1.unread x0) (Shape.Idx.first (by decide))

def tabW (a : Memref sig .tc .vmem S2048x512 .bf16) (ha : a.IsWhole) (x : Vec F S2048x512 .bf16) : Vec F S2048x512 .bf16 :=
  View.readAt (Elt F) a.view (Rect.unit (s := S2048x512) ![0, 0] S2048x512.size inb_S2048x512_S2048x512_0_0).toLoadRect (ha.unread x)
def tabH (a : Memref sig .tc .vmem S1024x256 .bf16) (ha : a.IsWhole) (x : Vec F S1024x256 .bf16) : Vec F S1024x256 .bf16 :=
  View.readAt (Elt F) a.view (Rect.unit (s := S1024x256) ![0, 0] S1024x256.size inb_S1024x256_S1024x256_0_0).toLoadRect (ha.unread x)

theorem inb_ldW (k : ℕ) : ∀ a, (![k % 3, 0, 0] : Fin 3 → ℕ) a + S1x160x2048.size a ≤ S3x160x2048.size a := by
  rw [Fin.forall_fin_succ, Fin.forall_fin_succ, Fin.forall_fin_one]
  exact ⟨show k % 3 + 1 ≤ 3 by omega, show 0 + 160 ≤ 160 by omega, show 0 + 2048 ≤ 2048 by omega⟩
theorem inb_ldH (k : ℕ) : ∀ a, (![k % 3, 0, 0] : Fin 3 → ℕ) a + S1x160x1024.size a ≤ S3x160x1024.size a := by
  rw [Fin.forall_fin_succ, Fin.forall_fin_succ, Fin.forall_fin_one]
  exact ⟨show k % 3 + 1 ≤ 3 by omega, show 0 + 160 ≤ 160 by omega, show 0 + 1024 ≤ 1024 by omega⟩

/-- The load of part `k` of a scratch. -/
def ldW (a : Memref sig .tc .vmem S3x160x2048 .bf16) (L : List (View.Piece (Elt F) S3x160x2048 .bf16)) (k : ℕ) : Vec F S1x160x2048 .bf16 :=
  a.view.readCov L (Rect.unit (s := S3x160x2048) ![k % 3, 0, 0] S1x160x2048.size (inb_ldW k)).toLoadRect
def ldH (a : Memref sig .tc .vmem S3x160x1024 .bf16) (L : List (View.Piece (Elt F) S3x160x1024 .bf16)) (k : ℕ) : Vec F S1x160x1024 .bf16 :=
  a.view.readCov L (Rect.unit (s := S3x160x1024) ![k % 3, 0, 0] S1x160x1024.size (inb_ldH k)).toLoadRect

/-- The eight values of the spectrum the body forms. -/
def spec (p r : ℕ) : FVec F S160x256 .f32 :=
  match p, r with
  | 0, 0 => specC (dysOf arg1 harg1 x0) (ldH arg20 (listH (wordOf arg2 harg2 x1) tE0) 2) (ldH arg20 (listH (wordOf arg2 harg2 x1) tE0) 1)
      (ldH arg20 (listH (wordOf arg2 harg2 x1) tE0) 0) (tabH arg7 harg7 x6)
      (arg15.view.readCov (listC (wordOf arg2 harg2 x1)) (Rect.unit (s := S160x128) ![0, 0] S160x1.size inb_S160x128_S160x1_0_0).toLoadRect)
  | 0, 1 => specW (dysOf arg1 harg1 x0) (ldW arg16 (listW (wordOf arg2 harg2 x1) tEa tEb) 2) (ldW arg16 (listW (wordOf arg2 harg2 x1) tEa tEb) 1)
      (ldW arg16 (listW (wordOf arg2 harg2 x1) tEa tEb) 0) (tabW arg3 harg3 x2) 0
  | 0, 2 => specH (dysOf arg1 harg1 x0) 0#1 (ldH arg18 (listH (wordOf arg2 harg2 x1) tE2) 2) (ldH arg18 (listH (wordOf arg2 harg2 x1) tE2) 1)
      (ldH arg18 (listH (wordOf arg2 harg2 x1) tE2) 0) (tabH arg5 harg5 x4)
  | 0, _ => specW (dysOf arg1 harg1 x0) (ldW arg16 (listW (wordOf arg2 harg2 x1) tEa tEb) 2) (ldW arg16 (listW (wordOf arg2 harg2 x1) tEa tEb) 1)
      (ldW arg16 (listW (wordOf arg2 harg2 x1) tEa tEb) 0) (tabW arg3 harg3 x2) 1
  | _, 0 => specH (dysOf arg1 harg1 x0) 1#1 (ldH arg21 (listH (wordOf arg2 harg2 x1) tO0) 2) (ldH arg21 (listH (wordOf arg2 harg2 x1) tO0) 1)
      (ldH arg21 (listH (wordOf arg2 harg2 x1) tO0) 0) (tabH arg8 harg8 x7)
  | _, 1 => specW (dysOf arg1 harg1 x0) (ldW arg17 (listW (wordOf arg2 harg2 x1) tOa tOb) 2) (ldW arg17 (listW (wordOf arg2 harg2 x1) tOa tOb) 1)
      (ldW arg17 (listW (wordOf arg2 harg2 x1) tOa tOb) 0) (tabW arg4 harg4 x3) 0
  | _, 2 => specH (dysOf arg1 harg1 x0) 0#1 (ldH arg19 (listH (wordOf arg2 harg2 x1) tO2) 2) (ldH arg19 (listH (wordOf arg2 harg2 x1) tO2) 1)
      (ldH arg19 (listH (wordOf arg2 harg2 x1) tO2) 0) (tabH arg6 harg6 x5)
  | _, _ => specW (dysOf arg1 harg1 x0) (ldW arg17 (listW (wordOf arg2 harg2 x1) tOa tOb) 2) (ldW arg17 (listW (wordOf arg2 harg2 x1) tOa tOb) 1)
      (ldW arg17 (listW (wordOf arg2 harg2 x1) tOa tOb) 0) (tabW arg4 harg4 x3) 1

end

/-- A running maximum, updated with the magnitudes of one value of the spectrum. -/
def aUpd (v : FVec F S160x256 .f32) (old : Vec F S8x256 .f32) : Vec F S8x256 .f32 :=
  shapeCast S8x256 (maximumf old (multiReduction .maximumf [0] S8x256 (shapeCast S20x8x256 (absf v) shapeCasts_S160x256_S20x8x256)
    0xFF800000#32 reduces_S20x8x256_S8x256 (.inl rfl) rfl) : FVec F S8x256 .f32) shapeCasts_S8x256_S8x256

theorem inb_col (r : ℕ) : ∀ a, (![0, 256 * (r % 4)] : Fin 2 → ℕ) a + S8x256.size a ≤ S8x1024.size a := by
  rw [Fin.forall_fin_succ, Fin.forall_fin_one]
  exact ⟨show 0 + 8 ≤ 8 by omega, show 256 * (r % 4) + 256 ≤ 1024 by omega⟩

/-- The columns of residue `r`. -/
def colR (r : ℕ) : Rect S8x1024 := Rect.unit (s := S8x1024) ![0, 256 * (r % 4)] S8x256.size (inb_col r)

/-- One store into the running maxima. -/
def aPiece (r : ℕ) (v : FVec F S160x256 .f32) (old : Vec F S8x256 .f32) : View.Piece (Elt F) S8x1024 .f32 := ⟨colR r, aUpd v old⟩

def aPut (arg13 : Memref sig .tc .vmem S8x1024 .f32) (r : ℕ) (v : FVec F S160x256 .f32) (L : List (View.Piece (Elt F) S8x1024 .f32)) :
    List (View.Piece (Elt F) S8x1024 .f32) :=
  aPiece r v (arg13.view.readCov L (colR r).toLoadRect) :: L

/-- The stores into the running maxima at the first batch, where they start at zero. -/
def listA0 (arg13 : Memref sig .tc .vmem S8x1024 .f32) (v : ℕ → ℕ → FVec F S160x256 .f32) : List (View.Piece (Elt F) S8x1024 .f32) :=
  aPut arg13 0 (v 1 0) <| aPut arg13 0 (v 0 0) <| aPut arg13 2 (v 1 2) <| aPut arg13 2 (v 0 2) <|
  aPut arg13 3 (v 1 3) <| aPut arg13 1 (v 1 1) <| aPut arg13 3 (v 0 3) <| aPut arg13 1 (v 0 1)
  [⟨Rect.unit (s := S8x1024) ![0, 0] S8x1024.size inb_S8x1024_S8x1024_0_0, k0_pay1⟩]

/-- A load of the running maxima as the batch found them. -/
def aOld (arg13 : Memref sig .tc .vmem S8x1024 .f32) (harg13 : arg13.IsWhole) (xs1 : Vec F S8x1024 .f32) (r : ℕ) : Vec F S8x256 .f32 :=
  View.readAt (Elt F) arg13.view (colR r).toLoadRect (harg13.unread xs1)

/-- The stores into the running maxima at a later batch. -/
def listA1 (arg13 : Memref sig .tc .vmem S8x1024 .f32) (harg13 : arg13.IsWhole) (xs1 : Vec F S8x1024 .f32) (v : ℕ → ℕ → FVec F S160x256 .f32) :
    List (View.Piece (Elt F) S8x1024 .f32) :=
  aPut arg13 0 (v 1 0) <| (aPiece 0 (v 0 0) (aOld arg13 harg13 xs1 0) :: ·) <| aPut arg13 2 (v 1 2) <| (aPiece 2 (v 0 2) (aOld arg13 harg13 xs1 2) :: ·) <|
  aPut arg13 3 (v 1 3) <| aPut arg13 1 (v 1 1) <| (aPiece 3 (v 0 3) (aOld arg13 harg13 xs1 3) :: ·) <| (aPiece 1 (v 0 1) (aOld arg13 harg13 xs1 1) :: ·) []

/-- The stores of the spectra of one batch. -/
def listY (i : grid0.Coords) (h : k0_cond2 i = 1#1) (v : ℕ → ℕ → FVec F S160x256 .f32) : List (View.Piece (Elt F) S24x2x160x1024 .f32) :=
  [⟨Rect.unit (s := S24x2x160x1024) (k0_off8 i) S1x1x160x256.size (k0_off8_inb i h), shapeCast S1x1x160x256 (v 1 0) shapeCasts_S160x256_S1x1x160x256⟩,
   ⟨Rect.unit (s := S24x2x160x1024) (k0_off7 i) S1x1x160x256.size (k0_off7_inb i h), shapeCast S1x1x160x256 (v 0 0) shapeCasts_S160x256_S1x1x160x256⟩,
   ⟨Rect.unit (s := S24x2x160x1024) (k0_off6 i) S1x1x160x256.size (k0_off6_inb i h), shapeCast S1x1x160x256 (v 1 2) shapeCasts_S160x256_S1x1x160x256⟩,
   ⟨Rect.unit (s := S24x2x160x1024) (k0_off5 i) S1x1x160x256.size (k0_off5_inb i h), shapeCast S1x1x160x256 (v 0 2) shapeCasts_S160x256_S1x1x160x256⟩,
   ⟨Rect.unit (s := S24x2x160x1024) (k0_off4 i) S1x1x160x256.size (k0_off4_inb i h), shapeCast S1x1x160x256 (v 1 3) shapeCasts_S160x256_S1x1x160x256⟩,
   ⟨Rect.unit (s := S24x2x160x1024) (k0_off3 i) S1x1x160x256.size (k0_off3_inb i h), shapeCast S1x1x160x256 (v 1 1) shapeCasts_S160x256_S1x1x160x256⟩,
   ⟨Rect.unit (s := S24x2x160x1024) (k0_off2 i) S1x1x160x256.size (k0_off2_inb i h), shapeCast S1x1x160x256 (v 0 3) shapeCasts_S160x256_S1x1x160x256⟩,
   ⟨Rect.unit (s := S24x2x160x1024) (k0_off1 i) S1x1x160x256.size (k0_off1_inb i h), shapeCast S1x1x160x256 (v 0 1) shapeCasts_S160x256_S1x1x160x256⟩]

end Cert.DftIdeal.Gen

end
-- ==== Proof.DftIdeal.RunAV.lean ====
/- The run of the kernel's body at the first grid point, which clears the running maximum and then transforms batch 0. -/
module

public import proofs.«01_k».proof.Proof.DftIdeal.Runs

@[expose] public section

set_option maxRecDepth 16384

noncomputable section

namespace Cert.DftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 60000000 in
/-- The body at the first grid point, which clears the running maximum and then transforms batch 0: run on whole
    buffers, with the inputs at `x0 … x7` and the scratch that lives on at `xs0` (the spectra), `xs1` (the running maxima) and
    `xs2` (the inverse scales), it ends with the pieces listed here written to each buffer it stores into. -/
noncomputable def runA (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) :
    Σ' (LS0 : List (View.Piece (Elt F) S24x2x160x1024 .f32)), Σ' (LS1 : List (View.Piece (Elt F) S8x1024 .f32)), Σ' (LT3 : List (View.Piece (Elt F) S160x128 .f32)), Σ' (LT4 : List (View.Piece (Elt F) S3x160x2048 .bf16)), Σ' (LT5 : List (View.Piece (Elt F) S3x160x2048 .bf16)), Σ' (LT6 : List (View.Piece (Elt F) S3x160x1024 .bf16)), Σ' (LT7 : List (View.Piece (Elt F) S3x160x1024 .bf16)), Σ' (LT8 : List (View.Piece (Elt F) S3x160x1024 .bf16)), { LT9 : List (View.Piece (Elt F) S3x160x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (arg12.view.loc (c : Thread nD τ) ↦[arg12.view.set]{fullShare} arg12.view.writes (Elt F) (harg12.unread xs0) LS0) ∗ (∃ f, arg13.view.loc (c : Thread nD τ) ↦[arg13.view.set]{fullShare} arg13.view.writes (Elt F) f LS1) ∗ (∃ d, owns (c : Thread nD τ) arg14 fullShare d) ∗ (∃ f, arg15.view.loc (c : Thread nD τ) ↦[arg15.view.set]{fullShare} arg15.view.writes (Elt F) f LT3) ∗ (∃ f, arg16.view.loc (c : Thread nD τ) ↦[arg16.view.set]{fullShare} arg16.view.writes (Elt F) f LT4) ∗ (∃ f, arg17.view.loc (c : Thread nD τ) ↦[arg17.view.set]{fullShare} arg17.view.writes (Elt F) f LT5) ∗ (∃ f, arg18.view.loc (c : Thread nD τ) ↦[arg18.view.set]{fullShare} arg18.view.writes (Elt F) f LT6) ∗ (∃ f, arg19.view.loc (c : Thread nD τ) ↦[arg19.view.set]{fullShare} arg19.view.writes (Elt F) f LT7) ∗ (∃ f, arg20.view.loc (c : Thread nD τ) ↦[arg20.view.set]{fullShare} arg20.view.writes (Elt F) f LT8) ∗ (∃ f, arg21.view.loc (c : Thread nD τ) ↦[arg21.view.set]{fullShare} arg21.view.writes (Elt F) f LT9)) -∗ K ⟨⟩))
          ⊢ wp frame (wpE (defs₀ (F := F)) Variants.none c none) E (cc0_fold_dft i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, fun E K => ?run⟩
  case run =>
    simp only [cc0_fold_dft_eq_skeleton]; unfold cc0_fold_dft_skel
    simp only [k0_part329_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part330_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part331_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part332_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part333_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part334_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %g9, -, H8⟩, ⟨%d10, %g10, -, H9⟩, ⟨%d11, %g11, -, H10⟩, ⟨%g12, %hg12, HS0⟩, ⟨%d13, %g13, -, HS1⟩, ⟨%d14, %g14, -, HS2⟩, ⟨%d15, %g15, -, HS3⟩, ⟨%d16, %g16, -, HS4⟩, ⟨%d17, %g17, -, HS5⟩, ⟨%d18, %g18, -, HS6⟩, ⟨%d19, %g19, -, HS7⟩, ⟨%d20, %g20, -, HS8⟩, ⟨%d21, %g21, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hg12
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexact HS0
    isplitl [HS1]
    · iexists _; iexact HS1
    isplitl [HS2]
    · iexists _, _; isplitr; swap; · iexact HS2
      ipureintro; rfl
    isplitl [HS3]
    · iexists _; iexact HS3
    isplitl [HS4]
    · iexists _; iexact HS4
    isplitl [HS5]
    · iexists _; iexact HS5
    isplitl [HS6]
    · iexists _; iexact HS6
    isplitl [HS7]
    · iexists _; iexact HS7
    isplitl [HS8]
    · iexists _; iexact HS8
    iexists _; iexact HS9

end Cert.DftIdeal.Gen

end
-- ==== Proof.DftIdeal.EqA.lean ====
module
public import proofs.«01_k».proof.Proof.DftIdeal.StepD
public import proofs.«01_k».proof.Proof.DftIdeal.RunAV
@[expose] public section
set_option maxRecDepth 16384
noncomputable section
namespace Cert.DftIdeal.Gen
open Idealize.ShloMosaic Idealize.ShloMosaic.TcCoe
variable {F : FTy → Type} [FloatOps F]
set_option maxHeartbeats 8000000 in
/-- The spectra the run stores. -/
theorem runA_y (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) (h : k0_cond2 i = 1#1) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0).1 = listY i h (spec arg1 harg1 arg2 harg2 arg3 arg4 harg3 harg4 arg5 arg6 arg7 arg8 harg5 harg6 harg7 harg8 arg15 arg16 arg17 arg18 arg19 arg20 arg21 x0 x1 x2 x3 x4 x5 x6 x7) := rfl
set_option maxHeartbeats 8000000 in
/-- The running maxima the run stores. -/
theorem runA_a (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0).2.1 = listA0 arg13 (spec arg1 harg1 arg2 harg2 arg3 arg4 harg3 harg4 arg5 arg6 arg7 arg8 harg5 harg6 harg7 harg8 arg15 arg16 arg17 arg18 arg19 arg20 arg21 x0 x1 x2 x3 x4 x5 x6 x7) := rfl
end Cert.DftIdeal.Gen
-- ==== Proof.DftIdeal.RunBV.lean ====
/- The run of the kernel's body at the grid points 1 … 23, which transform one batch each. -/
module

public import proofs.«01_k».proof.Proof.DftIdeal.Runs

@[expose] public section

set_option maxRecDepth 16384

noncomputable section

namespace Cert.DftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 60000000 in
/-- The body at the grid points 1 … 23, which transform one batch each: run on whole
    buffers, with the inputs at `x0 … x7` and the scratch that lives on at `xs0` (the spectra), `xs1` (the running maxima) and
    `xs2` (the inverse scales), it ends with the pieces listed here written to each buffer it stores into. -/
noncomputable def runB (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) (xs1 : Vec F S8x1024 .f32) :
    Σ' (LS0 : List (View.Piece (Elt F) S24x2x160x1024 .f32)), Σ' (LS1 : List (View.Piece (Elt F) S8x1024 .f32)), Σ' (LT3 : List (View.Piece (Elt F) S160x128 .f32)), Σ' (LT4 : List (View.Piece (Elt F) S3x160x2048 .bf16)), Σ' (LT5 : List (View.Piece (Elt F) S3x160x2048 .bf16)), Σ' (LT6 : List (View.Piece (Elt F) S3x160x1024 .bf16)), Σ' (LT7 : List (View.Piece (Elt F) S3x160x1024 .bf16)), Σ' (LT8 : List (View.Piece (Elt F) S3x160x1024 .bf16)), { LT9 : List (View.Piece (Elt F) S3x160x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1) ∗ (∃ d, owns (c : Thread nD τ) arg14 fullShare d) ∗ (∃ f, arg15.view.loc (c : Thread nD τ) ↦[arg15.view.set]{fullShare} arg15.view.writes (Elt F) f LT3) ∗ (∃ f, arg16.view.loc (c : Thread nD τ) ↦[arg16.view.set]{fullShare} arg16.view.writes (Elt F) f LT4) ∗ (∃ f, arg17.view.loc (c : Thread nD τ) ↦[arg17.view.set]{fullShare} arg17.view.writes (Elt F) f LT5) ∗ (∃ f, arg18.view.loc (c : Thread nD τ) ↦[arg18.view.set]{fullShare} arg18.view.writes (Elt F) f LT6) ∗ (∃ f, arg19.view.loc (c : Thread nD τ) ↦[arg19.view.set]{fullShare} arg19.view.writes (Elt F) f LT7) ∗ (∃ f, arg20.view.loc (c : Thread nD τ) ↦[arg20.view.set]{fullShare} arg20.view.writes (Elt F) f LT8) ∗ (∃ f, arg21.view.loc (c : Thread nD τ) ↦[arg21.view.set]{fullShare} arg21.view.writes (Elt F) f LT9)) -∗ K ⟨⟩))
          ⊢ wp frame (wpE (defs₀ (F := F)) Variants.none c none) E (cc0_fold_dft i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, fun E K => ?run⟩
  case run =>
    simp only [cc0_fold_dft_eq_skeleton]; unfold cc0_fold_dft_skel
    simp only [k0_part329_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part330_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part331_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part332_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part333_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part334_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %g9, -, H8⟩, ⟨%d10, %g10, -, H9⟩, ⟨%d11, %g11, -, H10⟩, ⟨%g12, %hg12, HS0⟩, ⟨%g13, %hg13, HS1⟩, ⟨%d14, %g14, -, HS2⟩, ⟨%d15, %g15, -, HS3⟩, ⟨%d16, %g16, -, HS4⟩, ⟨%d17, %g17, -, HS5⟩, ⟨%d18, %g18, -, HS6⟩, ⟨%d19, %g19, -, HS7⟩, ⟨%d20, %g20, -, HS8⟩, ⟨%d21, %g21, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hg12; obtain rfl := harg13.eq_unread hg13
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexact HS0
    isplitl [HS1]
    · iexact HS1
    isplitl [HS2]
    · iexists _, _; isplitr; swap; · iexact HS2
      ipureintro; rfl
    isplitl [HS3]
    · iexists _; iexact HS3
    isplitl [HS4]
    · iexists _; iexact HS4
    isplitl [HS5]
    · iexists _; iexact HS5
    isplitl [HS6]
    · iexists _; iexact HS6
    isplitl [HS7]
    · iexists _; iexact HS7
    isplitl [HS8]
    · iexists _; iexact HS8
    iexists _; iexact HS9

end Cert.DftIdeal.Gen

end
-- ==== Proof.DftIdeal.EqB.lean ====
module
public import proofs.«01_k».proof.Proof.DftIdeal.StepD
public import proofs.«01_k».proof.Proof.DftIdeal.RunBV
@[expose] public section
set_option maxRecDepth 16384
noncomputable section
namespace Cert.DftIdeal.Gen
open Idealize.ShloMosaic Idealize.ShloMosaic.TcCoe
variable {F : FTy → Type} [FloatOps F]
set_option maxHeartbeats 8000000 in
/-- The spectra the run stores. -/
theorem runB_y (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) (xs1 : Vec F S8x1024 .f32) (h : k0_cond2 i = 1#1) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1).1 = listY i h (spec arg1 harg1 arg2 harg2 arg3 arg4 harg3 harg4 arg5 arg6 arg7 arg8 harg5 harg6 harg7 harg8 arg15 arg16 arg17 arg18 arg19 arg20 arg21 x0 x1 x2 x3 x4 x5 x6 x7) := rfl
set_option maxHeartbeats 8000000 in
/-- The running maxima the run stores. -/
theorem runB_a (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : cond0_1 i) (hc2 : ¬cond0_2 i) (hc3 : ¬cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) (xs1 : Vec F S8x1024 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1).2.1 = listA1 arg13 harg13 xs1 (spec arg1 harg1 arg2 harg2 arg3 arg4 harg3 harg4 arg5 arg6 arg7 arg8 harg5 harg6 harg7 harg8 arg15 arg16 arg17 arg18 arg19 arg20 arg21 x0 x1 x2 x3 x4 x5 x6 x7) := rfl
end Cert.DftIdeal.Gen
-- ==== Proof.DftIdeal.StepE.lean ====
/- The scales and the codes of one grid point after the last batch, as functions of the spectra and the running maxima. -/
module

public import proofs.«01_k».proof.Proof.DftIdeal.StepD

@[expose] public section

set_option maxRecDepth 16384

noncomputable section

namespace Cert.DftIdeal.Gen

open Idealize.ShloMosaic Idealize.ShloMosaic.TcCoe

variable {F : FTy → Type} [FloatOps F]

/-- The quotient of each lane by four, plus `o`. -/
def ilQuot (s : Shape) (v : IVec s 32) (o : BitVec 32) : IVec s 32 :=
  addi (broadcast s o)
    (select (andi (cmpi .ne (subi (extui 32 (cmpi .sgt v (broadcast s 0#32)) natLt_1_32) (extui 32 (cmpi .slt v (broadcast s 0#32)) natLt_1_32))
        (broadcast s (Scalar.subi (Scalar.extui (Scalar.cmpi .sgt 4#32 0#32)) (Scalar.extui (Scalar.cmpi .slt 4#32 0#32)))))
        (cmpi .ne (remsi v (broadcast s 4#32)) (broadcast s 0#32)))
      (subi (divsi v (broadcast s 4#32)) (broadcast s 1#32)) (divsi v (broadcast s 4#32)))

/-- The lanes an interleaving takes, in range. -/
def ilIdx (s : Shape) (v : IVec s 32) (o : BitVec 32) : IVec s 32 :=
  select (cmpi .slt (ilQuot s v o) (broadcast s 0#32)) (addi (ilQuot s v o) (broadcast s 128#32)) (ilQuot s v o)

def ilFour : BitVec 32 := Scalar.select (Scalar.cmpi .eq 4#32 0#32) 1#32 4#32

/-- The remainder of each lane by four; `neg` says whether four is negative. -/
def ilRem (s : Shape) (v : IVec s 32) (neg : IVec s 1) : IVec s 32 :=
  select (andi (xori (cmpi .slt (remsi v (broadcast s ilFour)) (broadcast s 0#32)) neg)
      (cmpi .ne (remsi v (broadcast s ilFour)) (broadcast s 0#32)))
    (addi (remsi v (broadcast s ilFour)) (broadcast s ilFour)) (remsi v (broadcast s ilFour))

/-- One of four by the remainder. -/
def ilMix (s : Shape) {α : Type} (r : IVec s 32) (g : ℕ → s.Idx → α) : s.Idx → α :=
  select (cmpi .eq r (broadcast s 0#32)) (g 0) (select (cmpi .eq r (broadcast s 1#32)) (g 1) (select (cmpi .eq r (broadcast s 2#32)) (g 2) (g 3)))

def lane160 : IVec S160x128 32 := iota .tc S160x128 32 [1] iota_S160x128_d1_w32
def lane8 : IVec S8x128 32 := iota .tc S8x128 32 [1] iota_S8x128_d1_w32
def rem160 : IVec S160x128 32 := ilRem S160x128 lane160 (broadcastTo S160x128 (broadcast S160x128 (Scalar.cmpi .slt ilFour 0#32)) broadcasts_S160x128_S160x128)
def rem8 : IVec S8x128 32 := ilRem S8x128 lane8 (broadcastTo S8x128 (broadcast S8x128 (Scalar.cmpi .slt ilFour 0#32)) broadcasts_S8x128_S8x128)

def take160 (x : FVec F S160x128 .f32) (o : BitVec 32) : FVec F S160x128 .f32 :=
  dynamicGather 1 x (shapeCast S160x128 (shapeCast S160x128x1 (ilIdx S160x128 lane160 o) shapeCasts_S160x128_S160x128x1) shapeCasts_S160x128x1_S160x128)
def take8 (x : IVec S8x128 32) (o : BitVec 32) : IVec S8x128 32 :=
  dynamicGather 1 x (shapeCast S8x128 (shapeCast S8x128x1 (ilIdx S8x128 lane8 o) shapeCasts_S8x128_S8x128x1) shapeCasts_S8x128x1_S8x128)

/-- The code of each value of a block of the spectrum, as a float. -/
def codeV (y : Vec F S1x1x160x128 .f32) (v : Vec F S1x128 .f32) : FVec F S160x128 .f32 :=
  extf .f32 (truncf .fp8e5m2 (minimumf (broadcast S160x128 (Scalar.ofBits .f32 0x47600000#32))
    (maximumf (broadcast S160x128 (Scalar.ofBits .f32 0xC7600000#32))
      (mulf (shapeCast S160x128 y shapeCasts_S1x1x160x128_S160x128) (broadcastTo S160x128 v broadcasts_S1x128_S160x128)))) bitsLt_fp8e5m2_f32) bitsLt_fp8e5m2_f32

theorem inb_code (t : ℕ) : ∀ a, (![0, 0, 128 * (t % 8)] : Fin 3 → ℕ) a + S1x160x128.size a ≤ S1x160x1024.size a := by
  rw [Fin.forall_fin_succ, Fin.forall_fin_succ, Fin.forall_fin_one]
  exact ⟨show 0 + 1 ≤ 1 by omega, show 0 + 160 ≤ 160 by omega, show 128 * (t % 8) + 128 ≤ 1024 by omega⟩
theorem inb_scale (t : ℕ) : ∀ a, (![0, 128 * (t % 8)] : Fin 2 → ℕ) a + S1x128.size a ≤ S1x1024.size a := by
  rw [Fin.forall_fin_succ, Fin.forall_fin_one]
  exact ⟨show 0 + 1 ≤ 1 by omega, show 128 * (t % 8) + 128 ≤ 1024 by omega⟩
theorem inb_inv (t : ℕ) : ∀ a, (![0, 128 * (t % 8)] : Fin 2 → ℕ) a + S1x128.size a ≤ S8x1024.size a := by
  rw [Fin.forall_fin_succ, Fin.forall_fin_one]
  exact ⟨show 0 + 1 ≤ 8 by omega, show 128 * (t % 8) + 128 ≤ 1024 by omega⟩

/-- The block of the spectra a load takes: plane `p`, block `q` of 128 columns, at the batch of point `i`. -/
def cOff (i : grid0.Coords) (p q : ℕ) : Fin 4 → ℕ :=
  ![(Scalar.indexCast (Scalar.subi (BitVec.ofNat 32 (i 0).val) 24#32)).toNat, p % 2, 0, 128 * (q % 8)]
theorem cOff_inb (i : grid0.Coords) (h : k0_cond4 i = 1#1) (p q : ℕ) : ∀ a, cOff i p q a + S1x1x160x128.size a ≤ S24x2x160x1024.size a := by
  rw [Fin.forall_fin_succ, Fin.forall_fin_succ, Fin.forall_fin_succ, Fin.forall_fin_one]
  exact ⟨k0_off9_inb i h 0, show p % 2 + 1 ≤ 2 by omega, show 0 + 160 ≤ 160 by omega, show 128 * (q % 8) + 128 ≤ 1024 by omega⟩

/-- The stores of one plane's codes, from the loads of the spectra and of the inverse scales by block of columns. -/
def listCode (y : ℕ → Vec F S1x1x160x128 .f32) (v : ℕ → Vec F S1x128 .f32) : List (View.Piece (Elt F) S1x160x1024 .fp8e5m2) :=
  [7, 6, 5, 4, 3, 2, 1, 0].map fun t =>
    ⟨Rect.unit (s := S1x160x1024) ![0, 0, 128 * (t % 8)] S1x160x128.size (inb_code t),
      shapeCast S1x160x128 (truncf .fp8e5m2 (ilMix S160x128 rem160 fun r =>
        take160 (codeV (y (2 * r + t / 4)) (v (2 * r + t / 4))) (BitVec.ofNat 32 (32 * (t % 4)))) bitsLt_fp8e5m2_f32)
        shapeCasts_S160x128_S1x160x128⟩

/-- The exponent fields of the running maxima. -/
def fieldOf (arg13 : Memref sig .tc .vmem S8x1024 .f32) (harg13 : arg13.IsWhole) (xs1 : Vec F S8x1024 .f32) : IVec S8x1024 32 :=
  Scf.fold (fun a b => k0_pay3412 (View.readAt (Elt F) arg13.view (Rect.unit (s := S8x1024) ![0, 0] S8x1024.size inb_S8x1024_S8x1024_0_0).toLoadRect
    (harg13.unread xs1)) a b) (k0_pay3411 : IVec S8x1024 32)

theorem slices_q (q : ℕ) : S8x1024.Slices ![0, 128 * (q % 8)] S8x128 := by
  have h : q % 8 < 8 := Nat.mod_lt _ (by decide)
  generalize q % 8 = k at h
  revert k
  decide

/-- The stores of the scales, from the exponent fields. -/
def listScale (n : IVec S8x1024 32) : List (View.Piece (Elt F) S1x1024 .f32) :=
  [7, 6, 5, 4, 3, 2, 1, 0].map fun t =>
    ⟨Rect.unit (s := S1x1024) ![0, 128 * (t % 8)] S1x128.size (inb_scale t),
      extractStridedSlice S1x128 ![0, 0] (bitcastToFloat .f32 (ilMix S8x128 rem8 fun r =>
        take8 (extractStridedSlice S8x128 ![0, 128 * ((2 * r + t / 4) % 8)] (k0_pay3415 n) (slices_q (2 * r + t / 4)))
          (BitVec.ofNat 32 (32 * (t % 4)))) : FVec F S8x128 .f32) slices_S8x128_o0_0_S1x128⟩

/-- The store of the inverse scales. -/
def listInv (n : IVec S8x1024 32) : List (View.Piece (Elt F) S8x1024 .f32) :=
  [⟨Rect.unit (s := S8x1024) ![0, 0] S8x1024.size inb_S8x1024_S8x1024_0_0, k0_pay3414 n⟩]

/-- The loads of the spectra and of the inverse scales. -/
def ldY (arg12 : Memref sig .tc .vmem S24x2x160x1024 .f32) (harg12 : arg12.IsWhole) (xs0 : Vec F S24x2x160x1024 .f32)
    (i : grid0.Coords) (h : k0_cond4 i = 1#1) (p q : ℕ) : Vec F S1x1x160x128 .f32 :=
  View.readAt (Elt F) arg12.view (Rect.unit (s := S24x2x160x1024) (cOff i p q) S1x1x160x128.size (cOff_inb i h p q)).toLoadRect (harg12.unread xs0)
def ldV0 (arg14 : Memref sig .tc .vmem S8x1024 .f32) (n : IVec S8x1024 32) (q : ℕ) : Vec F S1x128 .f32 :=
  arg14.view.readCov (listInv n) (Rect.unit (s := S8x1024) ![0, 128 * (q % 8)] S1x128.size (inb_inv q)).toLoadRect
def ldV1 (arg14 : Memref sig .tc .vmem S8x1024 .f32) (harg14 : arg14.IsWhole) (xs2 : Vec F S8x1024 .f32) (q : ℕ) : Vec F S1x128 .f32 :=
  View.readAt (Elt F) arg14.view (Rect.unit (s := S8x1024) ![0, 128 * (q % 8)] S1x128.size (inb_inv q)).toLoadRect (harg14.unread xs2)

end Cert.DftIdeal.Gen

end
-- ==== Proof.DftIdeal.RunCV.lean ====
/- The run of the kernel's body at the grid point 24, which forms the scales and writes the codes of batch 0. -/
module

public import proofs.«01_k».proof.Proof.DftIdeal.Runs

@[expose] public section

set_option maxRecDepth 16384

noncomputable section

namespace Cert.DftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 60000000 in
/-- The body at the grid point 24, which forms the scales and writes the codes of batch 0: run on whole
    buffers, with the inputs at `x0 … x7` and the scratch that lives on at `xs0` (the spectra), `xs1` (the running maxima) and
    `xs2` (the inverse scales), it ends with the pieces listed here written to each buffer it stores into. -/
noncomputable def runC (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) (xs1 : Vec F S8x1024 .f32) :
    Σ' (L8 : List (View.Piece (Elt F) S1x160x1024 .fp8e5m2)), Σ' (L9 : List (View.Piece (Elt F) S1x160x1024 .fp8e5m2)), Σ' (L10 : List (View.Piece (Elt F) S1x1024 .f32)), { LS2 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xs0 ∗ owns (c : Thread nD τ) arg13 fullShare xs1 ∗ (∃ f, arg14.view.loc (c : Thread nD τ) ↦[arg14.view.set]{fullShare} arg14.view.writes (Elt F) f LS2) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_fold_dft i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, fun E K => ?run⟩
  case run =>
    simp only [cc0_fold_dft_eq_skeleton]; unfold cc0_fold_dft_skel
    simp only [k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %g9, -, H8⟩, ⟨%d10, %g10, -, H9⟩, ⟨%d11, %g11, -, H10⟩, ⟨%g12, %hg12, HS0⟩, ⟨%g13, %hg13, HS1⟩, ⟨%d14, %g14, -, HS2⟩, ⟨%d15, %g15, -, HS3⟩, ⟨%d16, %g16, -, HS4⟩, ⟨%d17, %g17, -, HS5⟩, ⟨%d18, %g18, -, HS6⟩, ⟨%d19, %g19, -, HS7⟩, ⟨%d20, %g20, -, HS8⟩, ⟨%d21, %g21, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hg12; obtain rfl := harg13.eq_unread hg13
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    isplitl [H9]
    · iexists _; iexact H9
    isplitl [H10]
    · iexists _; iexact H10
    isplitl [HS0]
    · iexists _; isplitr; · ipureintro; exact harg12.read_unread _
      iexact HS0
    isplitl [HS1]
    · iexists _; isplitr; · ipureintro; exact harg13.read_unread _
      iexact HS1
    isplitl [HS2]
    · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.DftIdeal.Gen

end
-- ==== Proof.DftIdeal.EqC.lean ====
module
public import proofs.«01_k».proof.Proof.DftIdeal.StepE
public import proofs.«01_k».proof.Proof.DftIdeal.RunCV
@[expose] public section
set_option maxRecDepth 16384
noncomputable section
namespace Cert.DftIdeal.Gen
open Idealize.ShloMosaic Idealize.ShloMosaic.TcCoe
variable {F : FTy → Type} [FloatOps F]
set_option maxHeartbeats 8000000 in
/-- The spectra's real parts' codes the run stores. -/
theorem runC_re (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) (xs1 : Vec F S8x1024 .f32) (h : k0_cond4 i = 1#1) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1).1 = listCode (ldY arg12 harg12 xs0 i h 0) (ldV0 arg14 (fieldOf arg13 harg13 xs1)) := rfl
set_option maxHeartbeats 8000000 in
/-- The imaginary the run stores. -/
theorem runC_im (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) (xs1 : Vec F S8x1024 .f32) (h : k0_cond4 i = 1#1) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1).2.1 = listCode (ldY arg12 harg12 xs0 i h 1) (ldV0 arg14 (fieldOf arg13 harg13 xs1)) := rfl
set_option maxHeartbeats 8000000 in
/-- The scales the run stores. -/
theorem runC_s (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) (xs1 : Vec F S8x1024 .f32) (h : k0_cond4 i = 1#1) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1).2.2.1 = listScale (fieldOf arg13 harg13 xs1) := rfl
set_option maxHeartbeats 8000000 in
/-- The inv the run stores. -/
theorem runC_v (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) (xs1 : Vec F S8x1024 .f32) (h : k0_cond4 i = 1#1) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1).2.2.2.1 = listInv (fieldOf arg13 harg13 xs1) := rfl
end Cert.DftIdeal.Gen
-- ==== Proof.DftIdeal.RunDV.lean ====
/- The run of the kernel's body at the grid points 25 … 47, which write the codes of one batch each. -/
module

public import proofs.«01_k».proof.Proof.DftIdeal.Runs

@[expose] public section

set_option maxRecDepth 16384

noncomputable section

namespace Cert.DftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 60000000 in
/-- The body at the grid points 25 … 47, which write the codes of one batch each: run on whole
    buffers, with the inputs at `x0 … x7` and the scratch that lives on at `xs0` (the spectra), `xs1` (the running maxima) and
    `xs2` (the inverse scales) and the window of the scales at `x10`, it ends with the pieces listed here written to each buffer it stores into. -/
noncomputable def runD (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : ¬cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) (xs2 : Vec F S8x1024 .f32) (x10 : Vec F S1x1024 .f32) :
    Σ' (L8 : List (View.Piece (Elt F) S1x160x1024 .fp8e5m2)), { L9 : List (View.Piece (Elt F) S1x160x1024 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare x10 ∗ owns (c : Thread nD τ) arg12 fullShare xs0 ∗ (∃ d, owns (c : Thread nD τ) arg13 fullShare d) ∗ owns (c : Thread nD τ) arg14 fullShare xs2 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare x10 ∗ owns (c : Thread nD τ) arg12 fullShare xs0 ∗ (∃ d, owns (c : Thread nD τ) arg13 fullShare d) ∗ owns (c : Thread nD τ) arg14 fullShare xs2 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_fold_dft i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0_fold_dft_eq_skeleton]; unfold cc0_fold_dft_skel
    simp only [k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %g9, -, H8⟩, ⟨%d10, %g10, -, H9⟩, ⟨%g11, %hg11, H10⟩, ⟨%g12, %hg12, HS0⟩, ⟨%d13, %g13, -, HS1⟩, ⟨%g14, %hg14, HS2⟩, ⟨%d15, %g15, -, HS3⟩, ⟨%d16, %g16, -, HS4⟩, ⟨%d17, %g17, -, HS5⟩, ⟨%d18, %g18, -, HS6⟩, ⟨%d19, %g19, -, HS7⟩, ⟨%d20, %g20, -, HS8⟩, ⟨%d21, %g21, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hg12; obtain rfl := harg14.eq_unread hg14
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    isplitl [H9]
    · iexists _; iexact H9
    isplitl [H10]
    · iexists _; isplitr; · ipureintro; exact hg11
      iexact H10
    isplitl [HS0]
    · iexists _; isplitr; · ipureintro; exact harg12.read_unread _
      iexact HS0
    isplitl [HS1]
    · iexists _, _; isplitr; swap; · iexact HS1
      ipureintro; rfl
    isplitl [HS2]
    · iexists _; isplitr; · ipureintro; exact harg14.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.DftIdeal.Gen

end
-- ==== Proof.DftIdeal.EqD.lean ====
module
public import proofs.«01_k».proof.Proof.DftIdeal.StepE
public import proofs.«01_k».proof.Proof.DftIdeal.RunDV
@[expose] public section
set_option maxRecDepth 16384
noncomputable section
namespace Cert.DftIdeal.Gen
open Idealize.ShloMosaic Idealize.ShloMosaic.TcCoe
variable {F : FTy → Type} [FloatOps F]
set_option maxHeartbeats 8000000 in
/-- The spectra's real parts' codes the run stores. -/
theorem runD_re (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : ¬cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) (xs2 : Vec F S8x1024 .f32) (x10 : Vec F S1x1024 .f32) (h : k0_cond4 i = 1#1) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs2 x10).1 = listCode (ldY arg12 harg12 xs0 i h 0) (ldV1 arg14 harg14 xs2) := rfl
set_option maxHeartbeats 8000000 in
/-- The imaginary the run stores. -/
theorem runD_im (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : ¬cond0_2 i) (hc3 : cond0_3 i)
    (x0 : Vec F S1 .f32) (x1 : Vec F S1x160x8192 .fp8e5m2) (x2 : Vec F S2048x512 .bf16) (x3 : Vec F S2048x512 .bf16) (x4 : Vec F S1024x256 .bf16) (x5 : Vec F S1024x256 .bf16) (x6 : Vec F S1024x256 .bf16) (x7 : Vec F S1024x256 .bf16) (xs0 : Vec F S24x2x160x1024 .f32) (xs2 : Vec F S8x1024 .f32) (x10 : Vec F S1x1024 .f32) (h : k0_cond4 i = 1#1) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs2 x10).2.1 = listCode (ldY arg12 harg12 xs0 i h 1) (ldV1 arg14 harg14 xs2) := rfl
end Cert.DftIdeal.Gen
-- ==== Proof.Fold.lean ====
module

public import Mathlib.Analysis.SpecialFunctions.Trigonometric.Basic
public import Mathlib.Algebra.BigOperators.Intervals

@[expose] public section

/-! # A Fourier sum of 8192 samples from its fold

The kernel never multiplies the 8192 samples of a row by the whole cosine and sine tables. It first adds and
subtracts the samples at the eight positions where the tables agree up to sign, and multiplies the folded
samples, 1024 or 2048 of them, by a quarter of the table. This module proves over the reals that the folded sums
are the full sums, mode by mode: the modes `m` split by `m mod 4`. -/

namespace Cert.Fold

open Finset

/-- The cosine of `k` steps of a turn cut into 8192. -/
noncomputable def C (k : ℕ) : ℝ := Real.cos ((k : ℝ) * (2 * Real.pi / 8192))

/-- The sine of `k` steps of a turn cut into 8192. -/
noncomputable def S (k : ℕ) : ℝ := Real.sin ((k : ℝ) * (2 * Real.pi / 8192))

theorem C_mod (k : ℕ) : C (k % 8192) = C k := by
  unfold C
  conv_rhs => rw [← Nat.mod_add_div k 8192]
  have : (((k % 8192 + 8192 * (k / 8192) : ℕ) : ℝ)) * (2 * Real.pi / 8192)
      = ((k % 8192 : ℕ) : ℝ) * (2 * Real.pi / 8192) + ((k / 8192 : ℕ) : ℝ) * (2 * Real.pi) := by
    push_cast; ring
  rw [this, Real.cos_add_nat_mul_two_pi]

theorem S_mod (k : ℕ) : S (k % 8192) = S k := by
  unfold S
  conv_rhs => rw [← Nat.mod_add_div k 8192]
  have : (((k % 8192 + 8192 * (k / 8192) : ℕ) : ℝ)) * (2 * Real.pi / 8192)
      = ((k % 8192 : ℕ) : ℝ) * (2 * Real.pi / 8192) + ((k / 8192 : ℕ) : ℝ) * (2 * Real.pi) := by
    push_cast; ring
  rw [this, Real.sin_add_nat_mul_two_pi]

/-! ## The samples at the eight positions -/

/-- The sample `n` places after the quarter point `2048 q`. -/
def P (x : ℕ → ℝ) (q n : ℕ) : ℝ := x (2048 * q + n)

/-- The sample `n` places before the quarter point `2048 q`, nothing at the point itself. -/
def M (x : ℕ → ℝ) (q n : ℕ) : ℝ := if n = 0 then 0 else x (2048 * q - n)

theorem M_pos (x : ℕ → ℝ) (q n : ℕ) (h : n ≠ 0) : M x q n = x (2048 * q - n) := if_neg h

/-- A quarter of the samples, as those after its start, those before its end and its centre. -/
theorem sum_quarter (g : ℕ → ℝ) (q : ℕ) :
    ∑ i ∈ range 2048, g (2048 * q + i)
      = ∑ n ∈ range 1024, (P g q n + M g (q + 1) n) + g (2048 * q + 1024) := by
  rw [show (2048 : ℕ) = 1024 + 1024 from rfl, sum_range_add, sum_add_distrib, add_assoc]
  congr 1
  rw [show (1024 : ℕ) = 1023 + 1 from rfl, sum_range_succ' (fun x => g _), sum_range_succ' (M g (q + 1))]
  simp only [M, Nat.add_eq_zero_iff, one_ne_zero, and_false, ↓reduceIte, add_zero]
  congr 1
  rw [← sum_range_reflect]
  refine sum_congr rfl fun j hj => ?_
  have := mem_range.mp hj
  congr 1; omega

/-- The 8192 samples by their distance from the nearest quarter point, and the four centres. -/
theorem sum_fold (g : ℕ → ℝ) :
    ∑ i ∈ range 8192, g i
      = ∑ n ∈ range 1024, (P g 0 n + M g 1 n + (P g 1 n + M g 2 n) + (P g 2 n + M g 3 n) + (P g 3 n + M g 4 n))
        + (g 1024 + g 3072 + g 5120 + g 7168) := by
  rw [show (8192 : ℕ) = 2048 + 2048 + 2048 + 2048 from rfl, sum_range_add, sum_range_add, sum_range_add]
  have h0 := sum_quarter g 0
  have h1 := sum_quarter g 1
  have h2 := sum_quarter g 2
  have h3 := sum_quarter g 3
  simp only [mul_zero, zero_add, mul_one] at h0 h1 h2 h3
  norm_num at h0 h1 h2 h3 ⊢
  rw [h0, h1, h2, h3]
  simp only [sum_add_distrib]; ring

/-! ## The tables at the eight positions -/

/-- The cosine of `k` quarter turns. -/
noncomputable def cq (k : ℕ) : ℝ := Real.cos ((k : ℝ) * (Real.pi / 2))
/-- The sine of `k` quarter turns. -/
noncomputable def sq (k : ℕ) : ℝ := Real.sin ((k : ℝ) * (Real.pi / 2))

theorem cq_add4 (j r : ℕ) : cq (4 * j + r) = cq r := by
  unfold cq
  rw [show (((4 * j + r : ℕ) : ℝ)) * (Real.pi / 2) = (r : ℝ) * (Real.pi / 2) + (j : ℝ) * (2 * Real.pi) by push_cast; ring,
    Real.cos_add_nat_mul_two_pi]
theorem sq_add4 (j r : ℕ) : sq (4 * j + r) = sq r := by
  unfold sq
  rw [show (((4 * j + r : ℕ) : ℝ)) * (Real.pi / 2) = (r : ℝ) * (Real.pi / 2) + (j : ℝ) * (2 * Real.pi) by push_cast; ring,
    Real.sin_add_nat_mul_two_pi]
theorem cq_mod (k : ℕ) : cq k = cq (k % 4) := by
  conv_lhs => rw [← Nat.div_add_mod k 4]
  exact cq_add4 _ _
theorem sq_mod (k : ℕ) : sq k = sq (k % 4) := by
  conv_lhs => rw [← Nat.div_add_mod k 4]
  exact sq_add4 _ _
theorem cq0 : cq 0 = 1 := by simp [cq]
theorem cq1 : cq 1 = 0 := by simp [cq]
theorem cq2 : cq 2 = -1 := by
  unfold cq; rw [show ((2 : ℕ) : ℝ) * (Real.pi / 2) = Real.pi by push_cast; ring]; exact Real.cos_pi
theorem cq3 : cq 3 = 0 := by
  unfold cq; rw [show ((3 : ℕ) : ℝ) * (Real.pi / 2) = Real.pi / 2 + Real.pi by push_cast; ring, Real.cos_add_pi]; simp
theorem sq0 : sq 0 = 0 := by simp [sq]
theorem sq1 : sq 1 = 1 := by simp [sq]
theorem sq2 : sq 2 = 0 := by
  unfold sq; rw [show ((2 : ℕ) : ℝ) * (Real.pi / 2) = Real.pi by push_cast; ring]; exact Real.sin_pi
theorem sq3 : sq 3 = -1 := by
  unfold sq; rw [show ((3 : ℕ) : ℝ) * (Real.pi / 2) = Real.pi / 2 + Real.pi by push_cast; ring, Real.sin_add_pi]; simp

theorem C_after (q n m : ℕ) : C ((2048 * q + n) * m) = C (n * m) * cq (q * m) - S (n * m) * sq (q * m) := by
  unfold C S cq sq
  rw [← Real.cos_add]; congr 1; push_cast; ring
theorem S_after (q n m : ℕ) : S ((2048 * q + n) * m) = S (n * m) * cq (q * m) + C (n * m) * sq (q * m) := by
  unfold C S cq sq
  rw [← Real.sin_add]; congr 1; push_cast; ring
theorem C_before (q n m : ℕ) (h : n ≤ 2048 * q) :
    C ((2048 * q - n) * m) = C (n * m) * cq (q * m) + S (n * m) * sq (q * m) := by
  unfold C S cq sq
  rw [mul_comm (Real.cos _), mul_comm (Real.sin _), ← Real.cos_sub]; congr 1; push_cast [Nat.cast_sub h]; ring
theorem S_before (q n m : ℕ) (h : n ≤ 2048 * q) :
    S ((2048 * q - n) * m) = C (n * m) * sq (q * m) - S (n * m) * cq (q * m) := by
  have e : (((2048 * q - n) * m : ℕ) : ℝ) * (2 * Real.pi / 8192)
      = ((q * m : ℕ) : ℝ) * (Real.pi / 2) - ((n * m : ℕ) : ℝ) * (2 * Real.pi / 8192) := by
    push_cast [Nat.cast_sub h]; ring
  unfold C S cq sq
  rw [e, Real.sin_sub]; ring

theorem C_zero (m : ℕ) : C (0 * m) = 1 := by simp [C]
theorem S_zero (m : ℕ) : S (0 * m) = 0 := by simp [S]
theorem C_centre (m : ℕ) : C (1024 * m) = Real.cos ((m : ℝ) * (Real.pi / 4)) := by
  unfold C; congr 1; push_cast; ring
theorem S_centre (m : ℕ) : S (1024 * m) = Real.sin ((m : ℝ) * (Real.pi / 4)) := by
  unfold S; congr 1; push_cast; ring
theorem C_centre_two (j : ℕ) : C (1024 * (4 * j + 2)) = 0 := by
  rw [C_centre, show (((4 * j + 2 : ℕ) : ℝ)) * (Real.pi / 4) = ((2 * j + 1 : ℕ) : ℝ) * (Real.pi / 2) by push_cast; ring]
  change cq (2 * j + 1) = 0
  rcases Nat.even_or_odd' j with ⟨i, rfl | rfl⟩
  · rw [show 2 * (2 * i) + 1 = 4 * i + 1 by ring, cq_add4, cq1]
  · rw [show 2 * (2 * i + 1) + 1 = 4 * i + 3 by ring, cq_add4, cq3]
theorem C_centre_zero (j : ℕ) : C (1024 * (4 * j)) = if j % 2 = 0 then 1 else -1 := by
  rw [C_centre, show (((4 * j : ℕ) : ℝ)) * (Real.pi / 4) = ((2 * j : ℕ) : ℝ) * (Real.pi / 2) by push_cast; ring]
  change cq (2 * j) = _
  rcases Nat.even_or_odd' j with ⟨i, rfl | rfl⟩
  · rw [show 2 * (2 * i) = 4 * i + 0 by ring, cq_add4, cq0, if_pos (by omega)]
  · rw [show 2 * (2 * i + 1) = 4 * i + 2 by ring, cq_add4, cq2, if_neg (by omega)]
theorem S_centre_zero (j : ℕ) : S (1024 * (4 * j)) = 0 := by
  rw [S_centre, show (((4 * j : ℕ) : ℝ)) * (Real.pi / 4) = ((2 * j : ℕ) : ℝ) * (Real.pi / 2) by push_cast; ring]
  change sq (2 * j) = _
  rcases Nat.even_or_odd' j with ⟨i, rfl | rfl⟩
  · rw [show 2 * (2 * i) = 4 * i + 0 by ring, sq_add4, sq0]
  · rw [show 2 * (2 * i + 1) = 4 * i + 2 by ring, sq_add4, sq2]

/-! ## The folded samples -/

/-- Folded for the cosines of the odd modes, at position `n`. -/
def ea (x : ℕ → ℝ) (n : ℕ) : ℝ := (P x 0 n - P x 2 n) - (M x 2 n - M x 4 n)
/-- Folded for the cosines of the odd modes, at position `2048 - n`; at `n = 0` the centre. -/
def eb (x : ℕ → ℝ) (n : ℕ) : ℝ :=
  if n = 0 then (x 1024 - x 5120) - (x 3072 - x 7168) else (M x 1 n - M x 3 n) - (P x 1 n - P x 3 n)
/-- Folded for the sines of the odd modes, at position `n`; at `n = 0` the centre. -/
def oa (x : ℕ → ℝ) (n : ℕ) : ℝ :=
  if n = 0 then (x 1024 - x 5120) + (x 3072 - x 7168) else (P x 0 n - P x 2 n) + (M x 2 n - M x 4 n)
/-- Folded for the sines of the odd modes, at position `2048 - n`. -/
def ob (x : ℕ → ℝ) (n : ℕ) : ℝ := (M x 1 n - M x 3 n) + (P x 1 n - P x 3 n)
/-- Folded for the cosines of the modes `4 j + 2`. -/
def e2 (x : ℕ → ℝ) (n : ℕ) : ℝ :=
  ((P x 0 n + P x 2 n) + (M x 2 n + M x 4 n)) - ((M x 1 n + M x 3 n) + (P x 1 n + P x 3 n))
/-- Folded for the sines of the modes `4 j + 2`; at `n = 0` the centre. -/
def o2 (x : ℕ → ℝ) (n : ℕ) : ℝ :=
  if n = 0 then (x 1024 + x 5120) - (x 3072 + x 7168)
  else ((P x 0 n + P x 2 n) - (M x 2 n + M x 4 n)) + ((M x 1 n + M x 3 n) - (P x 1 n + P x 3 n))
/-- Folded for the cosines of the modes `4 j`. -/
def e0 (x : ℕ → ℝ) (n : ℕ) : ℝ :=
  ((P x 0 n + P x 2 n) + (M x 2 n + M x 4 n)) + ((M x 1 n + M x 3 n) + (P x 1 n + P x 3 n))
/-- Folded for the sines of the modes `4 j`. -/
def o0 (x : ℕ → ℝ) (n : ℕ) : ℝ :=
  ((P x 0 n + P x 2 n) - (M x 2 n + M x 4 n)) - ((M x 1 n + M x 3 n) - (P x 1 n + P x 3 n))
/-- The four centres. -/
def cen (x : ℕ → ℝ) : ℝ := (x 1024 + x 5120) + (x 3072 + x 7168)

/-- The position `n`, the centre's in place of 0. -/
def nC (n : ℕ) : ℕ := if n = 0 then 1024 else n
/-- The position `2048 - n`, the centre's in place of 2048. -/
def betaC (n : ℕ) : ℕ := if n = 0 then 1024 else 2048 - n

/-! ## The folded sums are the full sums -/

/-- A Fourier sum by distance from the quarter points: what remains for each `n` is one identity between
    the eight samples. -/
theorem sum_eq_of (g : ℕ → ℝ) (k : ℕ → ℝ) (z : ℝ)
    (h0 : P g 0 0 + P g 1 0 + P g 2 0 + P g 3 0 + (g 1024 + g 3072 + g 5120 + g 7168) = k 0 + z)
    (hn : ∀ n, n ≠ 0 → n < 1024 → P g 0 n + M g 1 n + (P g 1 n + M g 2 n) + (P g 2 n + M g 3 n) + (P g 3 n + M g 4 n) = k n) :
    ∑ i ∈ range 8192, g i = ∑ n ∈ range 1024, k n + z := by
  rw [sum_fold, show (1024 : ℕ) = 1023 + 1 from rfl, sum_range_succ', sum_range_succ' k]
  have e : ∑ n ∈ range 1023, (P g 0 (n + 1) + M g 1 (n + 1) + (P g 1 (n + 1) + M g 2 (n + 1)) + (P g 2 (n + 1) + M g 3 (n + 1)) + (P g 3 (n + 1) + M g 4 (n + 1)))
      = ∑ n ∈ range 1023, k (n + 1) :=
    sum_congr rfl fun n h => hn (n + 1) (by omega) (by have := mem_range.mp h; omega)
  rw [e]
  simp only [M, ↓reduceIte]
  norm_num at h0 ⊢
  linarith

theorem cq_mul {m r : ℕ} (hm : m % 4 = r) (q : ℕ) : cq (q * m) = cq (q * r % 4) := by
  rw [cq_mod, Nat.mul_mod, hm, Nat.mul_mod q r, ← hm, Nat.mod_mod]
theorem sq_mul {m r : ℕ} (hm : m % 4 = r) (q : ℕ) : sq (q * m) = sq (q * r % 4) := by
  rw [sq_mod, Nat.mul_mod, hm, Nat.mul_mod q r, ← hm, Nat.mod_mod]

theorem C_beta (n m : ℕ) (h : n ≤ 2048) : C ((2048 - n) * m) = C (n * m) * cq (1 * m) + S (n * m) * sq (1 * m) :=
  C_before 1 n m h
theorem S_beta (n m : ℕ) (h : n ≤ 2048) : S ((2048 - n) * m) = C (n * m) * sq (1 * m) - S (n * m) * cq (1 * m) :=
  S_before 1 n m h

/-- What the centres' cosines and sines are in terms of the first centre's. -/
theorem centres (m : ℕ) :
    (C (3072 * m) = C (1024 * m) * cq (1 * m) - S (1024 * m) * sq (1 * m)
      ∧ C (5120 * m) = C (1024 * m) * cq (2 * m) - S (1024 * m) * sq (2 * m)
      ∧ C (7168 * m) = C (1024 * m) * cq (3 * m) - S (1024 * m) * sq (3 * m))
    ∧ (S (3072 * m) = S (1024 * m) * cq (1 * m) + C (1024 * m) * sq (1 * m)
      ∧ S (5120 * m) = S (1024 * m) * cq (2 * m) + C (1024 * m) * sq (2 * m)
      ∧ S (7168 * m) = S (1024 * m) * cq (3 * m) + C (1024 * m) * sq (3 * m))
    ∧ C (1024 * m) = C (1024 * m) * cq (1 * m) + S (1024 * m) * sq (1 * m)
    ∧ S (1024 * m) = C (1024 * m) * sq (1 * m) - S (1024 * m) * cq (1 * m) :=
  ⟨⟨C_after 1 1024 m, C_after 2 1024 m, C_after 3 1024 m⟩, ⟨S_after 1 1024 m, S_after 2 1024 m, S_after 3 1024 m⟩,
    C_before 1 1024 m (by norm_num), S_before 1 1024 m (by norm_num)⟩

theorem odd_cos (x : ℕ → ℝ) (m : ℕ) (hm : m % 4 = 1 ∨ m % 4 = 3) :
    ∑ i ∈ range 8192, x i * C (i * m)
      = ∑ n ∈ range 1024, (ea x n * C (n * m) + eb x n * C (betaC n * m)) := by
  obtain ⟨⟨c3, c5, c7⟩, -, s1, -⟩ := centres m
  rw [← add_zero (∑ n ∈ range 1024, _)]
  rcases hm with hm | hm
  all_goals
    apply sum_eq_of
    · simp only [P, ea, eb, M, betaC, ↓reduceIte, C_after, C_zero, S_zero, c3, c5, c7]
      simp only [cq_mul hm, sq_mul hm, Nat.reduceMul, Nat.reduceMod, cq0, cq1, cq2, cq3, sq0, sq1, sq2, sq3] at s1 ⊢
      rw [s1]; ring
    · intro n h0 h1
      simp only [P, M_pos _ _ _ h0, ea, eb, betaC, if_neg h0]
      rw [C_after 0, C_after 1, C_after 2, C_after 3, C_before 1 n m (by omega), C_before 2 n m (by omega),
        C_before 3 n m (by omega), C_before 4 n m (by omega)]
      simp only [cq_mul hm, sq_mul hm, Nat.reduceMul, Nat.reduceMod, cq0, cq1, cq2, cq3, sq0, sq1, sq2, sq3]
      ring

theorem odd_sin (x : ℕ → ℝ) (m : ℕ) (hm : m % 4 = 1 ∨ m % 4 = 3) :
    ∑ i ∈ range 8192, x i * S (i * m)
      = ∑ n ∈ range 1024, (oa x n * S (nC n * m) + ob x n * S ((2048 - n) * m)) := by
  obtain ⟨-, ⟨c3, c5, c7⟩, -, s1⟩ := centres m
  rw [← add_zero (∑ n ∈ range 1024, _)]
  rcases hm with hm | hm
  all_goals
    apply sum_eq_of
    · have e := S_beta 0 m (by omega)
      simp only [P, oa, ob, M, nC, ↓reduceIte, S_after, C_zero, S_zero, c3, c5, c7, e]
      simp only [cq_mul hm, sq_mul hm, Nat.reduceMul, Nat.reduceMod, cq0, cq1, cq2, cq3, sq0, sq1, sq2, sq3] at s1 ⊢
      rw [s1]; ring
    · intro n h0 h1
      simp only [P, M_pos _ _ _ h0, oa, ob, nC, if_neg h0]
      rw [S_after 0, S_after 1, S_after 2, S_after 3, S_before 1 n m (by omega), S_before 2 n m (by omega),
        S_before 3 n m (by omega), S_before 4 n m (by omega)]
      simp only [cq_mul hm, sq_mul hm, Nat.reduceMul, Nat.reduceMod, cq0, cq1, cq2, cq3, sq0, sq1, sq2, sq3]
      ring

theorem two_cos (x : ℕ → ℝ) (j : ℕ) :
    ∑ i ∈ range 8192, x i * C (i * (4 * j + 2)) = ∑ n ∈ range 1024, e2 x n * C (n * (4 * j + 2)) := by
  have hm : (4 * j + 2) % 4 = 2 := by omega
  have hc := C_centre_two j
  generalize 4 * j + 2 = m at *
  obtain ⟨⟨c3, c5, c7⟩, -, s1, -⟩ := centres m
  rw [← add_zero (∑ n ∈ range 1024, _)]
  apply sum_eq_of
  · simp only [P, e2, M, ↓reduceIte, C_after, C_zero, S_zero, c3, c5, c7, hc]
    simp only [cq_mul hm, sq_mul hm, Nat.reduceMul, Nat.reduceMod, cq0, cq1, cq2, cq3, sq0, sq1, sq2, sq3] at s1 ⊢
    ring
  · intro n h0 h1
    simp only [P, M_pos _ _ _ h0, e2]
    rw [C_after 0, C_after 1, C_after 2, C_after 3, C_before 1 n m (by omega), C_before 2 n m (by omega),
      C_before 3 n m (by omega), C_before 4 n m (by omega)]
    simp only [cq_mul hm, sq_mul hm, Nat.reduceMul, Nat.reduceMod, cq0, cq1, cq2, cq3, sq0, sq1, sq2, sq3]
    ring

theorem two_sin (x : ℕ → ℝ) (j : ℕ) :
    ∑ i ∈ range 8192, x i * S (i * (4 * j + 2)) = ∑ n ∈ range 1024, o2 x n * S (nC n * (4 * j + 2)) := by
  have hm : (4 * j + 2) % 4 = 2 := by omega
  have hc := C_centre_two j
  generalize 4 * j + 2 = m at *
  obtain ⟨-, ⟨c3, c5, c7⟩, -, s1⟩ := centres m
  rw [← add_zero (∑ n ∈ range 1024, _)]
  apply sum_eq_of
  · simp only [P, o2, M, nC, ↓reduceIte, S_after, C_zero, S_zero, c3, c5, c7, hc]
    simp only [cq_mul hm, sq_mul hm, Nat.reduceMul, Nat.reduceMod, cq0, cq1, cq2, cq3, sq0, sq1, sq2, sq3] at s1 ⊢
    ring
  · intro n h0 h1
    simp only [P, M_pos _ _ _ h0, o2, nC, if_neg h0]
    rw [S_after 0, S_after 1, S_after 2, S_after 3, S_before 1 n m (by omega), S_before 2 n m (by omega),
      S_before 3 n m (by omega), S_before 4 n m (by omega)]
    simp only [cq_mul hm, sq_mul hm, Nat.reduceMul, Nat.reduceMod, cq0, cq1, cq2, cq3, sq0, sq1, sq2, sq3]
    ring

theorem zero_cos (x : ℕ → ℝ) (j : ℕ) :
    ∑ i ∈ range 8192, x i * C (i * (4 * j))
      = ∑ n ∈ range 1024, e0 x n * C (n * (4 * j)) + cen x * (if j % 2 = 0 then 1 else -1) := by
  have hm : (4 * j) % 4 = 0 := by omega
  have hc := C_centre_zero j
  rw [← hc]
  generalize 4 * j = m at *
  obtain ⟨⟨c3, c5, c7⟩, -, s1, -⟩ := centres m
  apply sum_eq_of
  · simp only [P, e0, M, cen, ↓reduceIte, C_after, C_zero, S_zero, c3, c5, c7]
    simp only [cq_mul hm, sq_mul hm, Nat.reduceMul, Nat.reduceMod, cq0, cq1, cq2, cq3, sq0, sq1, sq2, sq3] at s1 ⊢
    ring
  · intro n h0 h1
    simp only [P, M_pos _ _ _ h0, e0]
    rw [C_after 0, C_after 1, C_after 2, C_after 3, C_before 1 n m (by omega), C_before 2 n m (by omega),
      C_before 3 n m (by omega), C_before 4 n m (by omega)]
    simp only [cq_mul hm, sq_mul hm, Nat.reduceMul, Nat.reduceMod, cq0, cq1, cq2, cq3, sq0, sq1, sq2, sq3]
    ring

theorem zero_sin (x : ℕ → ℝ) (j : ℕ) :
    ∑ i ∈ range 8192, x i * S (i * (4 * j)) = ∑ n ∈ range 1024, o0 x n * S (n * (4 * j)) := by
  have hm : (4 * j) % 4 = 0 := by omega
  have hc := S_centre_zero j
  generalize 4 * j = m at *
  obtain ⟨-, ⟨c3, c5, c7⟩, -, s1⟩ := centres m
  rw [← add_zero (∑ n ∈ range 1024, _)]
  apply sum_eq_of
  · simp only [P, o0, M, ↓reduceIte, S_after, C_zero, S_zero, c3, c5, c7, hc]
    simp only [cq_mul hm, sq_mul hm, Nat.reduceMul, Nat.reduceMod, cq0, cq1, cq2, cq3, sq0, sq1, sq2, sq3] at s1 ⊢
    ring
  · intro n h0 h1
    simp only [P, M_pos _ _ _ h0, o0]
    rw [S_after 0, S_after 1, S_after 2, S_after 3, S_before 1 n m (by omega), S_before 2 n m (by omega),
      S_before 3 n m (by omega), S_before 4 n m (by omega)]
    simp only [cq_mul hm, sq_mul hm, Nat.reduceMul, Nat.reduceMod, cq0, cq1, cq2, cq3, sq0, sq1, sq2, sq3]
    ring

end Cert.Fold
-- ==== Proof.DftIdeal.Val1.lean ====
/- The values of the tiles over the reals: each combination of words is the folded sample, and the split leaves it whole in
   its first part. -/
module

public import proofs.«01_k».proof.Proof.DftIdeal.StepE
public import proofs.«01_k».proof.Proof.Fold
public import Idealize.ShloMosaic.Lib.Pointwise

@[expose] public section

set_option maxRecDepth 16384

noncomputable section

namespace Cert.DftIdeal.Gen

open Idealize.ShloMosaic Idealize.ShloMosaic.TcCoe

/-- A word of the format, clipped to its finite range, as a real number. -/
def clipR (v : EReal) : ℝ := (min ((57344 : ℝ) : EReal) (max ((-57344 : ℝ) : EReal) v)).toReal

theorem clipR_eq (v : EReal) : min ((57344 : ℝ) : EReal) (max ((-57344 : ℝ) : EReal) v) = (clipR v : EReal) := by
  unfold clipR
  rw [EReal.coe_toReal]
  · exact ne_of_lt (lt_of_le_of_lt (min_le_left _ _) (EReal.coe_lt_top _))
  · refine ne_of_gt (lt_min (EReal.bot_lt_coe _) (lt_of_lt_of_le (EReal.bot_lt_coe _) (le_max_left _ _)))

theorem abs_clipR (v : EReal) : |clipR v| ≤ 57344 := by
  have h := clipR_eq v
  rw [abs_le]
  constructor
  · rw [← EReal.coe_le_coe_iff, ← h]
    exact le_min (EReal.coe_le_coe_iff.2 (by norm_num)) (le_max_left _ _)
  · rw [← EReal.coe_le_coe_iff, ← h]
    exact min_le_left _ _

theorem bits_hi : Ideal.ofBits .f32 0x47600000#32 = ((57344 : ℝ) : EReal) := by
  simp [Ideal.ofBits, Ideal.ieee]; norm_cast; norm_num
theorem bits_lo : Ideal.ofBits .f32 0xC7600000#32 = ((-57344 : ℝ) : EReal) := by
  simp [Ideal.ofBits, Ideal.ieee]; norm_cast; norm_num

theorem tWord_at (v : Vec Ideal S1x32x128 .fp8e5m2) (r : Fin 32) (l : Fin 128) : tWord v (ix2 r l) = (clipR (v (ix3 0 r l)) : EReal) := by
  pointwise [tWord]
  rw [← clipR_eq, ← bits_hi, ← bits_lo]

theorem tLane_at (r : Fin 32) (l : Fin 128) : tLane (ix2 r l) = BitVec.ofNat 32 l := by
  pointwise [tLane]

theorem tIdx_at (r : Fin 32) (l : Fin 128) : (tIdx (ix2 r l)).toNat % 128 = (128 - l) % 128 := by
  pointwise [tIdx, k0_pay5]
  revert l
  decide +kernel

/-- Whether a lane is the first. -/
theorem lane_eq_zero (l : Fin 128) : IntOp.cmpi .eq (BitVec.ofNat 32 l) 0#32 = if (l : ℕ) = 0 then 1#1 else 0#1 := by
  revert l; decide +kernel

variable (w : ℕ → Vec Ideal S1x32x128 .fp8e5m2) (x : ℕ → ℝ) (r : Fin 32)

/-- The words hold the samples `x`. -/
def Words : Prop := ∀ b < 64, ∀ l : Fin 128, clipR (w b (ix3 0 r l)) = x (128 * b + l)

variable {w x r}

theorem tFwd_at (h : Words w x r) (q s : ℕ) (hq : q ≤ 3) (hs : s < 8) (l : Fin 128) :
    tFwd w q s (ix2 r l) = (Cert.Fold.P x q (128 * s + l) : EReal) := by
  unfold tFwd
  rw [tWord_at, h _ (by omega)]
  unfold Cert.Fold.P
  congr 2; omega

theorem tMid_at (h : Words w x r) (q : ℕ) (hq : q ≤ 3) (l : Fin 128) :
    tMid w q (ix2 r l) = (x (2048 * q + 1024 + l) : EReal) := by
  unfold tMid
  rw [tWord_at, h _ (by omega)]
  congr 2; omega

theorem select_ite (c : Prop) [Decidable c] {α : Type} (a b : α) : Scalar.select (if c then 1#1 else 0#1) a b = if c then a else b := by
  split <;> rfl

theorem tBwd_at (h : Words w x r) (q s : ℕ) (hq : 1 ≤ q) (hq' : q ≤ 4) (hs : s < 8) (l : Fin 128) :
    tBwd w q s (ix2 r l) = (Cert.Fold.M x q (128 * s + l) : EReal) := by
  pointwise [tBwd]
  rw [tLane_at, lane_eq_zero, select_ite]
  split
  · rename_i hl
    cases s with
    | zero =>
      simp only [tEdge]
      pointwise []
      simp [Cert.Fold.M, hl]
    | succ s =>
      simp only [tEdge]
      rw [tWord_at, h _ (by omega), Cert.Fold.M_pos _ _ _ (by omega)]
      congr 2; omega
  · rename_i hl
    rw [tWord_at, h _ (by omega), Cert.Fold.M_pos _ _ _ (by omega)]
    simp only [tIdx_at]
    congr 2
    have := l.isLt
    rw [Nat.mod_eq_of_lt (by omega)]
    omega

theorem sub_at {f g : FVec Ideal S32x128 .f32} {j : S32x128.Idx} {a b : ℝ} (hf : f j = (a : EReal)) (hg : g j = (b : EReal)) :
    subf f g j = ((a - b : ℝ) : EReal) := by
  change f j - g j = _
  rw [hf, hg, EReal.coe_sub]
theorem add_at {f g : FVec Ideal S32x128 .f32} {j : S32x128.Idx} {a b : ℝ} (hf : f j = (a : EReal)) (hg : g j = (b : EReal)) :
    addf f g j = ((a + b : ℝ) : EReal) := by
  change f j + g j = _
  rw [hf, hg, EReal.coe_add]

theorem tFirst_at {s : ℕ} {f g : FVec Ideal S32x128 .f32} {l : Fin 128} {a b : ℝ}
    (hf : s = 0 → (l : ℕ) = 0 → f (ix2 r l) = (a : EReal)) (hg : ¬(s = 0 ∧ (l : ℕ) = 0) → g (ix2 r l) = (b : EReal)) :
    tFirst s f g (ix2 r l) = ((if 128 * s + l = 0 then a else b : ℝ) : EReal) := by
  cases s with
  | zero =>
    simp only [tFirst]
    pointwise [k0_pay6]
    rw [lane_eq_zero, select_ite]
    by_cases hl : (l : ℕ) = 0
    · simp only [hl, if_true]; exact hf rfl hl
    · simp only [hl, if_false]; exact hg (by simp [hl])
  | succ s =>
    simp only [tFirst]
    rw [hg (by omega), if_neg (by omega)]

section
variable (h : Words w x r) (s : ℕ) (hs : s < 8) (l : Fin 128)
include h hs

theorem tEa_at : tEa w s (ix2 r l) = (Cert.Fold.ea x (128 * s + l) : EReal) :=
  sub_at (sub_at (tFwd_at h 0 s (by omega) hs l) (tFwd_at h 2 s (by omega) hs l))
    (sub_at (tBwd_at h 2 s (by omega) (by omega) hs l) (tBwd_at h 4 s (by omega) (by omega) hs l))
theorem tOb_at : tOb w s (ix2 r l) = (Cert.Fold.ob x (128 * s + l) : EReal) :=
  add_at (sub_at (tBwd_at h 1 s (by omega) (by omega) hs l) (tBwd_at h 3 s (by omega) (by omega) hs l))
    (sub_at (tFwd_at h 1 s (by omega) hs l) (tFwd_at h 3 s (by omega) hs l))
theorem s02_at : addf (tFwd w 0 s) (tFwd w 2 s) (ix2 r l) = ((Cert.Fold.P x 0 (128 * s + l) + Cert.Fold.P x 2 (128 * s + l) : ℝ) : EReal) :=
  add_at (tFwd_at h 0 s (by omega) hs l) (tFwd_at h 2 s (by omega) hs l)
theorem s24_at : addf (tBwd w 2 s) (tBwd w 4 s) (ix2 r l) = ((Cert.Fold.M x 2 (128 * s + l) + Cert.Fold.M x 4 (128 * s + l) : ℝ) : EReal) :=
  add_at (tBwd_at h 2 s (by omega) (by omega) hs l) (tBwd_at h 4 s (by omega) (by omega) hs l)
theorem s13_at : addf (tBwd w 1 s) (tBwd w 3 s) (ix2 r l) = ((Cert.Fold.M x 1 (128 * s + l) + Cert.Fold.M x 3 (128 * s + l) : ℝ) : EReal) :=
  add_at (tBwd_at h 1 s (by omega) (by omega) hs l) (tBwd_at h 3 s (by omega) (by omega) hs l)
theorem t13_at : addf (tFwd w 1 s) (tFwd w 3 s) (ix2 r l) = ((Cert.Fold.P x 1 (128 * s + l) + Cert.Fold.P x 3 (128 * s + l) : ℝ) : EReal) :=
  add_at (tFwd_at h 1 s (by omega) hs l) (tFwd_at h 3 s (by omega) hs l)
theorem tE2_at : tE2 w s (ix2 r l) = (Cert.Fold.e2 x (128 * s + l) : EReal) :=
  sub_at (add_at (s02_at h s hs l) (s24_at h s hs l)) (add_at (s13_at h s hs l) (t13_at h s hs l))
theorem tE0_at : tE0 w s (ix2 r l) = (Cert.Fold.e0 x (128 * s + l) : EReal) :=
  add_at (add_at (s02_at h s hs l) (s24_at h s hs l)) (add_at (s13_at h s hs l) (t13_at h s hs l))
theorem tO0_at : tO0 w s (ix2 r l) = (Cert.Fold.o0 x (128 * s + l) : EReal) :=
  sub_at (sub_at (s02_at h s hs l) (s24_at h s hs l)) (sub_at (s13_at h s hs l) (t13_at h s hs l))
omit hs in
theorem mid_at (q : ℕ) (hq : q ≤ 3) (l : Fin 128) (hl : (l : ℕ) = 0) : tMid w q (ix2 r l) = (x (2048 * q + 1024) : EReal) := by
  rw [tMid_at h q hq, hl]
theorem tO2_at : tO2 w s (ix2 r l) = (Cert.Fold.o2 x (128 * s + l) : EReal) :=
  tFirst_at (fun _ hl => sub_at (add_at (mid_at h 0 (by omega) l hl) (mid_at h 2 (by omega) l hl))
      (add_at (mid_at h 1 (by omega) l hl) (mid_at h 3 (by omega) l hl)))
    fun _ => add_at (sub_at (s02_at h s hs l) (s24_at h s hs l)) (sub_at (s13_at h s hs l) (t13_at h s hs l))
theorem tOa_at : tOa w s (ix2 r l) = (Cert.Fold.oa x (128 * s + l) : EReal) :=
  tFirst_at (fun _ hl => add_at (sub_at (mid_at h 0 (by omega) l hl) (mid_at h 2 (by omega) l hl))
      (sub_at (mid_at h 1 (by omega) l hl) (mid_at h 3 (by omega) l hl)))
    fun _ => add_at (sub_at (tFwd_at h 0 s (by omega) hs l) (tFwd_at h 2 s (by omega) hs l))
      (sub_at (tBwd_at h 2 s (by omega) (by omega) hs l) (tBwd_at h 4 s (by omega) (by omega) hs l))
theorem tEb_at : tEb w s (ix2 r l) = (Cert.Fold.eb x (128 * s + l) : EReal) :=
  tFirst_at (fun _ hl => sub_at (sub_at (mid_at h 0 (by omega) l hl) (mid_at h 2 (by omega) l hl))
      (sub_at (mid_at h 1 (by omega) l hl) (mid_at h 3 (by omega) l hl)))
    fun _ => sub_at (sub_at (tBwd_at h 1 s (by omega) (by omega) hs l) (tBwd_at h 3 s (by omega) (by omega) hs l))
      (sub_at (tFwd_at h 1 s (by omega) hs l) (tFwd_at h 3 s (by omega) hs l))
omit hs in
theorem tCen_at : tCen w (ix2 r l) = ((x (1024 + l) + x (5120 + l) + (x (3072 + l) + x (7168 + l)) : ℝ) : EReal) := by
  unfold tCen
  rw [shapeCast_self]
  exact add_at (add_at (tMid_at h 0 (by omega) l) (tMid_at h 2 (by omega) l)) (add_at (tMid_at h 1 (by omega) l) (tMid_at h 3 (by omega) l))
end

/-- The parts of a split: the whole in the first, nothing in the others. -/
theorem tPart_at {f : FVec Ideal S32x128 .f32} {l : Fin 128} {a : ℝ} (hf : f (ix2 r l) = (a : EReal)) (k : ℕ) :
    tPart f k (ix3 0 r l) = ((if k = 0 then a else 0 : ℝ) : EReal) := by
  rcases k with _ | _ | k
  · pointwise [tPart, tSplit, tHi]; exact hf
  · pointwise [tPart, tSplit, tHi]; rw [hf, ← EReal.coe_sub]; simp
  · pointwise [tPart, tSplit, tHi]; rw [hf, ← EReal.coe_sub, ← EReal.coe_sub]; simp

end Cert.DftIdeal.Gen

end
-- ==== Proof.DftIdeal.Val2.lean ====
/- The loads of the scratch after the fold, and the products with the tables, over the reals. -/
module

public import proofs.«01_k».proof.Proof.DftIdeal.Val1
public import proofs.«01_k».proof.Proof.DftIdeal.StepD

@[expose] public section

set_option maxRecDepth 16384

noncomputable section

namespace Cert.DftIdeal.Gen

open Idealize.ShloMosaic Idealize.ShloMosaic.TcCoe

/-- Stores that agree with one content leave that content wherever one of them lies. -/
theorem canon_of_agree {F : FTy → Type} [FloatOps F] {s : Shape} {e : EltTy} (L : List (View.Piece (Elt F) s e)) (Z : s.Idx → Elt F e)
    (hZ : ∀ p ∈ L, ∀ j, p.2 j = Z (p.1.emb j)) (y : s.Idx) (hy : ∃ p ∈ L, y ∈ p.1.set) : View.canon L y = Z y := by
  induction L with
  | nil => simp at hy
  | cons p L ih =>
    by_cases hp : y ∈ p.1.set
    · obtain ⟨r, w⟩ := p
      obtain ⟨x, rfl⟩ : ∃ x, r.emb x = y := by
        choose c hc e using (LoadRect.mem_set _).1 hp
        exact ⟨fun a => ⟨c a, hc a⟩, funext fun a => Fin.ext (e a).symm⟩
      rw [View.canon_cons_emb]
      exact hZ _ (List.mem_cons_self ..) x
    · rw [View.canon_cons_of_not_mem _ _ hp]
      refine ih (fun q hq => hZ q (List.mem_cons_of_mem _ hq)) ?_
      obtain ⟨q, hq, hy⟩ := hy
      rcases List.mem_cons.1 hq with rfl | hq
      · exact absurd hy hp
      · exact ⟨q, hq, hy⟩

/-- The samples of one channel: the clipped words of the window. -/
def xr (X : Vec Ideal S1x160x8192 .fp8e5m2) (o n : ℕ) : ℝ :=
  if h : o < 160 ∧ n < 8192 then clipR (X (ix3 0 ⟨o, h.1⟩ ⟨n, h.2⟩)) else 0

/-- The words of a row tile hold the samples of its channels. -/
theorem words_at (arg2 : Memref sig .tc .vmem S1x160x8192 .fp8e5m2) (harg2 : arg2.IsWhole) (X : Vec Ideal S1x160x8192 .fp8e5m2)
    (rt : ℕ) (hrt : rt < 5) (r : Fin 32) : Words (wordOf arg2 harg2 X rt) (xr X (32 * rt + r)) r := by
  intro b hb l
  unfold wordOf
  rw [View.readAt_eq_ld, harg2.read_unread]
  unfold xr View.ld
  rw [dif_pos ⟨by omega, by omega⟩]
  congr 2
  funext a
  apply Fin.ext
  fin_cases a
  · simp [LoadRect.idx, ix3]
  · simp [LoadRect.idx, ix3]; omega
  · simp [LoadRect.idx, ix3]; omega

/-- A combination of words that holds a fold of the samples. -/
def IsFold (a : (ℕ → Vec Ideal S1x32x128 .fp8e5m2) → ℕ → FVec Ideal S32x128 .f32) (f : (ℕ → ℝ) → ℕ → ℝ) : Prop :=
  ∀ w x r, Words w x r → ∀ s < 8, ∀ l : Fin 128, a w s (ix2 r l) = (f x (128 * s + l) : EReal)

theorem isFold_ea : IsFold tEa Cert.Fold.ea := fun _ _ _ h s hs l => tEa_at h s hs l
theorem isFold_eb : IsFold tEb Cert.Fold.eb := fun _ _ _ h s hs l => tEb_at h s hs l
theorem isFold_oa : IsFold tOa Cert.Fold.oa := fun _ _ _ h s hs l => tOa_at h s hs l
theorem isFold_ob : IsFold tOb Cert.Fold.ob := fun _ _ _ h s hs l => tOb_at h s hs l
theorem isFold_e2 : IsFold tE2 Cert.Fold.e2 := fun _ _ _ h s hs l => tE2_at h s hs l
theorem isFold_o2 : IsFold tO2 Cert.Fold.o2 := fun _ _ _ h s hs l => tO2_at h s hs l
theorem isFold_e0 : IsFold tE0 Cert.Fold.e0 := fun _ _ _ h s hs l => tE0_at h s hs l
theorem isFold_o0 : IsFold tO0 Cert.Fold.o0 := fun _ _ _ h s hs l => tO0_at h s hs l

/-- What a scratch of 2048 columns, and one of 1024 columns, holds: the folds in part 0, nothing in the others. -/
def Zw (f : ℕ → ℕ → ℝ) (y : S3x160x2048.Idx) : EReal := ((if (y 0 : ℕ) = 0 then f (y 1) (y 2) else 0 : ℝ) : EReal)
def Zh (f : ℕ → ℕ → ℝ) (y : S3x160x1024.Idx) : EReal := ((if (y 0 : ℕ) = 0 then f (y 1) (y 2) else 0 : ℝ) : EReal)

theorem pieceW_agree (f : ℕ → ℕ → ℝ) (x : FVec Ideal S32x128 .f32) (rt o k : ℕ) (hrt : rt < 5) (ho : o < 16) (hk : k < 3)
    (hx : ∀ (r : Fin 32) (l : Fin 128), x (ix2 r l) = (f (32 * rt + r) (128 * o + l) : EReal)) (j : S1x32x128.Idx) :
    (pieceW x rt o k).2 j = Zw f ((pieceW x rt o k).1.emb j) := by
  obtain ⟨r, l, rfl⟩ : ∃ (r : Fin 32) (l : Fin 128), j = ix3 0 r l := ⟨j 1, j 2, by
    rw [eq_ix3 j]; congr 1; exact Subsingleton.elim _ _⟩
  refine (tPart_at (hx r l) k).trans ?_
  change _ = ((if k % 3 + 1 * 0 = 0 then f (32 * (rt % 5) + 1 * r) (128 * (o % 16) + 1 * l) else 0 : ℝ) : EReal)
  simp only [Nat.mod_eq_of_lt hk, Nat.mod_eq_of_lt hrt, Nat.mod_eq_of_lt ho, Nat.one_mul, Nat.mul_zero, Nat.add_zero]
theorem pieceH_agree (f : ℕ → ℕ → ℝ) (x : FVec Ideal S32x128 .f32) (rt o k : ℕ) (hrt : rt < 5) (ho : o < 8) (hk : k < 3)
    (hx : ∀ (r : Fin 32) (l : Fin 128), x (ix2 r l) = (f (32 * rt + r) (128 * o + l) : EReal)) (j : S1x32x128.Idx) :
    (pieceH x rt o k).2 j = Zh f ((pieceH x rt o k).1.emb j) := by
  obtain ⟨r, l, rfl⟩ : ∃ (r : Fin 32) (l : Fin 128), j = ix3 0 r l := ⟨j 1, j 2, by
    rw [eq_ix3 j]; congr 1; exact Subsingleton.elim _ _⟩
  refine (tPart_at (hx r l) k).trans ?_
  change _ = ((if k % 3 + 1 * 0 = 0 then f (32 * (rt % 5) + 1 * r) (128 * (o % 8) + 1 * l) else 0 : ℝ) : EReal)
  simp only [Nat.mod_eq_of_lt hk, Nat.mod_eq_of_lt hrt, Nat.mod_eq_of_lt ho, Nat.one_mul, Nat.mul_zero, Nat.add_zero]

theorem mem_pieceW (x : FVec Ideal S32x128 .f32) (y : S3x160x2048.Idx) :
    y ∈ (pieceW x ((y 1 : ℕ) / 32) ((y 2 : ℕ) / 128) (y 0)).1.set := by
  have h0 := (y 0).isLt; have h1 := (y 1).isLt; have h2 := (y 2).isLt
  change (y 0 : ℕ) < 3 at h0; change (y 1 : ℕ) < 160 at h1; change (y 2 : ℕ) < 2048 at h2
  refine (Rect.mem_set_unit (inb := inb_wide _ _ _)).2 fun a => ?_
  fin_cases a <;> simp <;> omega
theorem mem_pieceH (x : FVec Ideal S32x128 .f32) (y : S3x160x1024.Idx) :
    y ∈ (pieceH x ((y 1 : ℕ) / 32) ((y 2 : ℕ) / 128) (y 0)).1.set := by
  have h0 := (y 0).isLt; have h1 := (y 1).isLt; have h2 := (y 2).isLt
  change (y 0 : ℕ) < 3 at h0; change (y 1 : ℕ) < 160 at h1; change (y 2 : ℕ) < 1024 at h2
  refine (Rect.mem_set_unit (inb := inb_half _ _ _)).2 fun a => ?_
  fin_cases a <;> simp <;> omega

/-- Two folds side by side. -/
def fw (f g : (ℕ → ℝ) → ℕ → ℝ) (x : ℕ → ℝ) (n : ℕ) : ℝ := if n < 1024 then f x n else g x (n - 1024)

section
variable (arg2 : Memref sig .tc .vmem S1x160x8192 .fp8e5m2) (harg2 : arg2.IsWhole) (X : Vec Ideal S1x160x8192 .fp8e5m2)
variable {a b : (ℕ → Vec Ideal S1x32x128 .fp8e5m2) → ℕ → FVec Ideal S32x128 .f32} {f g : (ℕ → ℝ) → ℕ → ℝ}

theorem mem5 {n : ℕ} : n ∈ [4, 3, 2, 1, 0] ↔ n < 5 := by simp; omega
theorem mem8 {n : ℕ} : n ∈ [7, 6, 5, 4, 3, 2, 1, 0] ↔ n < 8 := by simp; omega

theorem canon_listW (ha : IsFold a f) (hb : IsFold b g) (y : S3x160x2048.Idx) :
    View.canon (listW (wordOf arg2 harg2 X) a b) y = Zw (fun o n => fw f g (xr X o) n) y := by
  refine canon_of_agree _ _ (fun p hp j => ?_) y ?_
  · obtain ⟨rt, hrt, hp⟩ := List.mem_flatMap.1 hp
    obtain ⟨s, hs, hp⟩ := List.mem_flatMap.1 hp
    rw [mem5] at hrt
    rw [mem8] at hs
    have hA : ∀ (r : Fin 32) (l : Fin 128), a (wordOf arg2 harg2 X rt) s (ix2 r l) = (fw f g (xr X (32 * rt + r)) (128 * s + l) : EReal) :=
      fun r l => by rw [ha _ _ _ (words_at arg2 harg2 X rt hrt r) s hs l, fw, if_pos (by omega)]
    have hB : ∀ (r : Fin 32) (l : Fin 128), b (wordOf arg2 harg2 X rt) s (ix2 r l) = (fw f g (xr X (32 * rt + r)) (128 * (8 + s) + l) : EReal) :=
      fun r l => by rw [hb _ _ _ (words_at arg2 harg2 X rt hrt r) s hs l, fw, if_neg (by omega)]; congr 2; omega
    simp only [List.mem_cons, List.not_mem_nil, or_false] at hp
    rcases hp with rfl | rfl | rfl | rfl | rfl | rfl
    · exact pieceW_agree (fun o n => fw f g (xr X o) n) _ rt (8 + s) 2 hrt (by omega) (by omega) hB j
    · exact pieceW_agree (fun o n => fw f g (xr X o) n) _ rt (8 + s) 1 hrt (by omega) (by omega) hB j
    · exact pieceW_agree (fun o n => fw f g (xr X o) n) _ rt (8 + s) 0 hrt (by omega) (by omega) hB j
    · exact pieceW_agree (fun o n => fw f g (xr X o) n) _ rt s 2 hrt (by omega) (by omega) hA j
    · exact pieceW_agree (fun o n => fw f g (xr X o) n) _ rt s 1 hrt (by omega) (by omega) hA j
    · exact pieceW_agree (fun o n => fw f g (xr X o) n) _ rt s 0 hrt (by omega) (by omega) hA j
  · have h0 := (y 0).isLt; have h1 := (y 1).isLt; have h2 := (y 2).isLt
    change (y 0 : ℕ) < 3 at h0; change (y 1 : ℕ) < 160 at h1; change (y 2 : ℕ) < 2048 at h2
    by_cases hy : (y 2 : ℕ) / 128 < 8
    · refine ⟨_, List.mem_flatMap.2 ⟨(y 1 : ℕ) / 32, mem5.2 (by omega), List.mem_flatMap.2 ⟨(y 2 : ℕ) / 128, mem8.2 hy, ?_⟩⟩, mem_pieceW (a (wordOf arg2 harg2 X ((y 1 : ℕ) / 32)) ((y 2 : ℕ) / 128)) y⟩
      · generalize (y 0 : ℕ) = k at h0 ⊢
        interval_cases k <;> simp
    · obtain ⟨s, hs⟩ : ∃ s, (y 2 : ℕ) / 128 = 8 + s := ⟨(y 2 : ℕ) / 128 - 8, by omega⟩
      refine ⟨_, List.mem_flatMap.2 ⟨(y 1 : ℕ) / 32, mem5.2 (by omega), List.mem_flatMap.2 ⟨s, mem8.2 (by omega), ?_⟩⟩, mem_pieceW (b (wordOf arg2 harg2 X ((y 1 : ℕ) / 32)) s) y⟩
      · rw [hs]
        generalize (y 0 : ℕ) = k at h0 ⊢
        interval_cases k <;> simp

theorem canon_listH (ha : IsFold a f) (y : S3x160x1024.Idx) :
    View.canon (listH (wordOf arg2 harg2 X) a) y = Zh (fun o n => f (xr X o) n) y := by
  refine canon_of_agree _ _ (fun p hp j => ?_) y ?_
  · obtain ⟨rt, hrt, hp⟩ := List.mem_flatMap.1 hp
    obtain ⟨s, hs, hp⟩ := List.mem_flatMap.1 hp
    rw [mem5] at hrt
    rw [mem8] at hs
    have hA : ∀ (r : Fin 32) (l : Fin 128), a (wordOf arg2 harg2 X rt) s (ix2 r l) = (f (xr X (32 * rt + r)) (128 * s + l) : EReal) :=
      fun r l => ha _ _ _ (words_at arg2 harg2 X rt hrt r) s hs l
    simp only [List.mem_cons, List.not_mem_nil, or_false] at hp
    rcases hp with rfl | rfl | rfl
    · exact pieceH_agree (fun o n => f (xr X o) n) _ rt s 2 hrt (by omega) (by omega) hA j
    · exact pieceH_agree (fun o n => f (xr X o) n) _ rt s 1 hrt (by omega) (by omega) hA j
    · exact pieceH_agree (fun o n => f (xr X o) n) _ rt s 0 hrt (by omega) (by omega) hA j
  · have h0 := (y 0).isLt; have h1 := (y 1).isLt; have h2 := (y 2).isLt
    change (y 0 : ℕ) < 3 at h0; change (y 1 : ℕ) < 160 at h1; change (y 2 : ℕ) < 1024 at h2
    refine ⟨_, List.mem_flatMap.2 ⟨(y 1 : ℕ) / 32, mem5.2 (by omega), List.mem_flatMap.2 ⟨(y 2 : ℕ) / 128, mem8.2 (by omega), ?_⟩⟩, mem_pieceH (a (wordOf arg2 harg2 X ((y 1 : ℕ) / 32)) ((y 2 : ℕ) / 128)) y⟩
    · generalize (y 0 : ℕ) = k at h0 ⊢
      interval_cases k <;> simp

theorem ldW_at (a16 : Memref sig .tc .vmem S3x160x2048 .bf16) (ha : IsFold a f) (hb : IsFold b g) (k : ℕ) (hk : k < 3) (o : Fin 160) (n : Fin 2048) :
    ldW a16 (listW (wordOf arg2 harg2 X) a b) k (ix3 0 o n) = ((if k = 0 then fw f g (xr X o) n else 0 : ℝ) : EReal) := by
  unfold ldW
  refine (congrFun (View.readCov_eq_canon' _ _ _) _).trans ((canon_listW arg2 harg2 X ha hb _).trans ?_)
  change ((if k % 3 + 1 * 0 = 0 then fw f g (xr X (0 + 1 * o)) (0 + 1 * n) else 0 : ℝ) : EReal) = _
  simp only [Nat.mod_eq_of_lt hk, Nat.one_mul, Nat.mul_zero, Nat.add_zero, Nat.zero_add]

theorem ldH_at (a18 : Memref sig .tc .vmem S3x160x1024 .bf16) (ha : IsFold a f) (k : ℕ) (hk : k < 3) (o : Fin 160) (n : Fin 1024) :
    ldH a18 (listH (wordOf arg2 harg2 X) a) k (ix3 0 o n) = ((if k = 0 then f (xr X o) n else 0 : ℝ) : EReal) := by
  unfold ldH
  refine (congrFun (View.readCov_eq_canon' _ _ _) _).trans ((canon_listH arg2 harg2 X ha _).trans ?_)
  change ((if k % 3 + 1 * 0 = 0 then f (xr X (0 + 1 * o)) (0 + 1 * n) else 0 : ℝ) : EReal) = _
  simp only [Nat.mod_eq_of_lt hk, Nat.one_mul, Nat.mul_zero, Nat.add_zero, Nat.zero_add]

/-- The centre words: their first column. -/
theorem cen_at (a15 : Memref sig .tc .vmem S160x128 .f32) (o : Fin 160) :
    a15.view.readCov (listC (wordOf arg2 harg2 X)) (Rect.unit (s := S160x128) ![0, 0] S160x1.size inb_S160x128_S160x1_0_0).toLoadRect (ix2 o 0)
      = (Cert.Fold.cen (xr X o) : EReal) := by
  refine (congrFun (View.readCov_eq_canon' _ _ _) _).trans ?_
  have e : (Rect.unit (s := S160x128) ![0, 0] S160x1.size inb_S160x128_S160x1_0_0).toLoadRect.idx (ix2 o 0) = (ix2 o 0 : S160x128.Idx) := by
    funext a; apply Fin.ext; fin_cases a <;> simp [LoadRect.idx, ix2]
  refine (congrArg _ e).trans ?_
  have := canon_of_agree (listC (wordOf arg2 harg2 X)) (fun y => ((fun (x : ℕ → ℝ) (l : ℕ) => x (1024 + l) + x (5120 + l) + (x (3072 + l) + x (7168 + l)))
    (xr X (y 0)) (y 1) : EReal)) (fun p hp j => ?_) (ix2 o 0) ?_
  · exact this
  · obtain ⟨rt, hrt, rfl⟩ := List.mem_map.1 hp
    rw [mem5] at hrt
    obtain ⟨r, l, rfl⟩ : ∃ (r : Fin 32) (l : Fin 128), j = ix2 r l := ⟨j 0, j 1, eq_ix2 j⟩
    refine (tCen_at (words_at arg2 harg2 X rt hrt r) l).trans ?_
    change _ = (((fun (x : ℕ → ℝ) (l : ℕ) => x (1024 + l) + x (5120 + l) + (x (3072 + l) + x (7168 + l)))
      (xr X (32 * (rt % 5) + 1 * r)) (0 + 1 * l) : ℝ) : EReal)
    simp only [Nat.mod_eq_of_lt hrt, Nat.one_mul, Nat.zero_add]
  · have := o.isLt
    refine ⟨_, List.mem_map.2 ⟨(o : ℕ) / 32, mem5.2 (by omega), rfl⟩, (Rect.mem_set_unit (inb := inb_cen _)).2 fun a => ?_⟩
    fin_cases a <;> simp [ix2] <;> omega
end

end Cert.DftIdeal.Gen

end
-- ==== Proof.DftIdeal.Val3.lean ====
/- The values of the spectrum over the reals: a table's product with the folds is the transform at one mode. -/
module

public import proofs.«01_k».proof.Proof.DftIdeal.Val2

@[expose] public section

set_option maxRecDepth 16384

noncomputable section

namespace Cert.DftIdeal.Gen

open Idealize.ShloMosaic Idealize.ShloMosaic.TcCoe

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem dotW_at (z2 z1 z0 : Vec Ideal S1x160x2048 .bf16) (t : Vec Ideal S2048x512 .bf16) (o : Fin 160) (c : Fin 512) (z T : ℕ → ℝ)
    (h2 : ∀ n, z2 (ix3 0 o n) = ((0 : ℝ) : EReal)) (h1 : ∀ n, z1 (ix3 0 o n) = ((0 : ℝ) : EReal)) (h0 : ∀ n : Fin 2048, z0 (ix3 0 o n) = (z n : EReal))
    (ht : ∀ n : Fin 2048, t (ix2 n c) = (T n : EReal)) :
    dotW z2 z1 z0 t (ix2 o c) = ((∑ n ∈ Finset.range 2048, z n * T n : ℝ) : EReal) := by
  pointwise [dotW]
  simp only [h2, h1, h0, ht, ← EReal.coe_mul, ← coe_sum, ← EReal.coe_add]
  rw [Finset.sum_range]
  simp
theorem dotH_at (z2 z1 z0 : Vec Ideal S1x160x1024 .bf16) (t : Vec Ideal S1024x256 .bf16) (o : Fin 160) (c : Fin 256) (z T : ℕ → ℝ)
    (h2 : ∀ n, z2 (ix3 0 o n) = ((0 : ℝ) : EReal)) (h1 : ∀ n, z1 (ix3 0 o n) = ((0 : ℝ) : EReal)) (h0 : ∀ n : Fin 1024, z0 (ix3 0 o n) = (z n : EReal))
    (ht : ∀ n : Fin 1024, t (ix2 n c) = (T n : EReal)) :
    dotH z2 z1 z0 t (ix2 o c) = ((∑ n ∈ Finset.range 1024, z n * T n : ℝ) : EReal) := by
  pointwise [dotH]
  simp only [h2, h1, h0, ht, ← EReal.coe_mul, ← coe_sum, ← EReal.coe_add]
  rw [Finset.sum_range]
  simp

theorem bits_one : Ideal.ofBits .f32 0x39000000#32 = ((1 / 8192 : ℝ) : EReal) := by
  simp [Ideal.ofBits, Ideal.ieee]; norm_cast; norm_num
theorem bits_two : Ideal.ofBits .f32 0x39800000#32 = ((2 / 8192 : ℝ) : EReal) := by
  simp [Ideal.ofBits, Ideal.ieee]; norm_cast; norm_num
theorem bits_neg : Ideal.ofBits .f32 0xBF800000#32 = ((-1 : ℝ) : EReal) := by
  simp [Ideal.ofBits, Ideal.ieee]; norm_cast; norm_num

/-- The factor of a mode. -/
def coefR (m : ℕ) : ℝ := if m = 0 then 1 / 8192 else 2 / 8192

theorem coef_sel0 (c : Fin 256) : IntOp.andi (IntOp.cmpi .eq (BitVec.ofNat 32 c) 0#32) 0#1 = 0#1 := by revert c; decide +kernel
theorem coef_sel1 (c : Fin 256) : IntOp.andi (IntOp.cmpi .eq (BitVec.ofNat 32 c) 0#32) 1#1 = if (c : ℕ) = 0 then 1#1 else 0#1 := by revert c; decide +kernel

theorem coefV_at (d : ℝ) (r : ℕ) (hr : r < 4) (o : Fin 160) (c : Fin 256) :
    coefV (F := Ideal) (d : EReal) (if r = 0 then 1#1 else 0#1) (ix2 o c) = ((coefR (4 * c + r) * d : ℝ) : EReal) := by
  by_cases h : r = 0
  · subst h
    pointwise [coefV]
    simp only [if_true, coef_sel1, select_ite, bits_one, bits_two, ← EReal.coe_mul]
    by_cases hc : (c : ℕ) = 0
    · rw [if_pos hc, coefR, if_pos (by omega)]
    · rw [if_neg hc, coefR, if_neg (by omega)]
  · rw [if_neg h, coefR, if_neg (by omega)]
    pointwise [coefV]
    simp only [coef_sel0, bits_two, ← EReal.coe_mul]
    rfl

theorem sgn_sel (c : Fin 256) : (IntOp.cmpi CmpIPredicate.eq
        (Scalar.select
          (IntOp.andi
            (IntOp.xori
              (IntOp.cmpi CmpIPredicate.slt
                (IntOp.remsi ArithUnit.vector (BitVec.ofNat 32 c)
                  (Scalar.select (Scalar.cmpi CmpIPredicate.eq 2#32 0#32) 1#32 2#32))
                0#32)
              (Scalar.cmpi CmpIPredicate.slt 2#32 0#32))
            (IntOp.cmpi CmpIPredicate.ne
              (IntOp.remsi ArithUnit.vector (BitVec.ofNat 32 c)
                (Scalar.select (Scalar.cmpi CmpIPredicate.eq 2#32 0#32) 1#32 2#32))
              0#32))
          (IntOp.addi
            (IntOp.remsi ArithUnit.vector (BitVec.ofNat 32 c)
              (Scalar.select (Scalar.cmpi CmpIPredicate.eq 2#32 0#32) 1#32 2#32))
            2#32)
          (IntOp.remsi ArithUnit.vector (BitVec.ofNat 32 c)
            (Scalar.select (Scalar.cmpi CmpIPredicate.eq 2#32 0#32) 1#32 2#32)))
        0#32) = if (c : ℕ) % 2 = 0 then 1#1 else 0#1 := by revert c; decide +kernel

theorem sgn_at (o : Fin 160) (c : Fin 256) :
    (broadcastTo S160x256 (k0_pay3402 2#32 k0_pay3400 k0_pay3401 : FVec Ideal S1x256 .f32) broadcasts_S1x256_S160x256) (ix2 o c)
      = ((if (c : ℕ) % 2 = 0 then 1 else -1 : ℝ) : EReal) := by
  pointwise [k0_pay3402, k0_pay3400, k0_pay3401]
  rw [sgn_sel, select_ite]
  split
  · rfl
  · exact bits_neg

/-- The transform of a channel at a mode: plane 0 against the cosines, plane 1 against the negated sines. -/
def tr (p : ℕ) (x : ℕ → ℝ) (m : ℕ) : ℝ :=
  if p = 0 then ∑ n ∈ Finset.range 8192, x n * Cert.Fold.C (n * m) else -∑ n ∈ Finset.range 8192, x n * Cert.Fold.S (n * m)

/-- The spectrum: the transform, with the factor of its mode and the scale of the array. -/
def dyh (p : ℕ) (d : ℝ) (x : ℕ → ℝ) (m : ℕ) : ℝ := tr p x m * (coefR m * d)

/-- The modes of a table of 512 columns. -/
def modeW (c : ℕ) : ℕ := if c < 256 then 4 * c + 1 else 4 * (c - 256) + 3

/-- What the six tables hold. -/
structure Tables (x2 x3 : Vec Ideal S2048x512 .bf16) (x4 x5 x6 x7 : Vec Ideal S1024x256 .bf16) : Prop where
  coe : ∀ (n : Fin 2048) (c : Fin 512), x2 (ix2 n c) = ((if (n : ℕ) < 1024 then Cert.Fold.C (n * modeW c) else Cert.Fold.C (Cert.Fold.betaC (n - 1024) * modeW c) : ℝ) : EReal)
  soe : ∀ (n : Fin 2048) (c : Fin 512), x3 (ix2 n c) = ((-(if (n : ℕ) < 1024 then Cert.Fold.S (Cert.Fold.nC n * modeW c) else Cert.Fold.S ((2048 - (n - 1024)) * modeW c)) : ℝ) : EReal)
  c2 : ∀ (n : Fin 1024) (c : Fin 256), x4 (ix2 n c) = (Cert.Fold.C (n * (4 * c + 2)) : EReal)
  s2 : ∀ (n : Fin 1024) (c : Fin 256), x5 (ix2 n c) = ((-Cert.Fold.S (Cert.Fold.nC n * (4 * c + 2)) : ℝ) : EReal)
  c0 : ∀ (n : Fin 1024) (c : Fin 256), x6 (ix2 n c) = (Cert.Fold.C (n * (4 * c)) : EReal)
  s0 : ∀ (n : Fin 1024) (c : Fin 256), x7 (ix2 n c) = ((-Cert.Fold.S (n * (4 * c)) : ℝ) : EReal)

theorem dys_at (arg1 : Memref sig .tc .smem S1 .f32) (harg1 : arg1.IsWhole) (x0 : Vec Ideal S1 .f32) : dysOf arg1 harg1 x0 = x0 (ix1 0) := by
  unfold dysOf
  rw [View.readAt_eq_ld, harg1.read_unread]
  refine congrArg x0 (funext fun a => Fin.ext ?_)
  fin_cases a
  rfl
theorem tabW_at (a : Memref sig .tc .vmem S2048x512 .bf16) (ha : a.IsWhole) (x : Vec Ideal S2048x512 .bf16) : tabW a ha x = x := by
  unfold tabW
  rw [View.readAt_eq_ld, ha.read_unread]
  refine funext fun j => congrArg x (funext fun a => Fin.ext ?_)
  fin_cases a <;> simp
theorem tabH_at (a : Memref sig .tc .vmem S1024x256 .bf16) (ha : a.IsWhole) (x : Vec Ideal S1024x256 .bf16) : tabH a ha x = x := by
  unfold tabH
  rw [View.readAt_eq_ld, ha.read_unread]
  refine funext fun j => congrArg x (funext fun a => Fin.ext ?_)
  fin_cases a <;> simp

/-- A sum over both halves of a wide scratch. -/
theorem sum_halves (f g : (ℕ → ℝ) → ℕ → ℝ) (x : ℕ → ℝ) (s t : ℕ → ℝ) :
    ∑ n ∈ Finset.range 2048, fw f g x n * (if n < 1024 then s n else t (n - 1024))
      = ∑ n ∈ Finset.range 1024, (f x n * s n + g x n * t n) := by
  rw [show 2048 = 1024 + 1024 from rfl, Finset.sum_range_add, Finset.sum_add_distrib]
  congr 1

section
variable (arg1 : Memref sig .tc .smem S1 .f32) (harg1 : arg1.IsWhole) (arg2 : Memref sig .tc .vmem S1x160x8192 .fp8e5m2) (harg2 : arg2.IsWhole)
  (arg3 arg4 : Memref sig .tc .vmem S2048x512 .bf16) (harg3 : arg3.IsWhole) (harg4 : arg4.IsWhole)
  (arg5 arg6 arg7 arg8 : Memref sig .tc .vmem S1024x256 .bf16) (harg5 : arg5.IsWhole) (harg6 : arg6.IsWhole) (harg7 : arg7.IsWhole) (harg8 : arg8.IsWhole)
  (arg15 : Memref sig .tc .vmem S160x128 .f32) (arg16 arg17 : Memref sig .tc .vmem S3x160x2048 .bf16) (arg18 arg19 arg20 arg21 : Memref sig .tc .vmem S3x160x1024 .bf16)
  (x0 : Vec Ideal S1 .f32) (x1 : Vec Ideal S1x160x8192 .fp8e5m2) (x2 x3 : Vec Ideal S2048x512 .bf16) (x4 x5 x6 x7 : Vec Ideal S1024x256 .bf16)

theorem mul_at {s : Shape} {f g : FVec Ideal s .f32} {j : s.Idx} {a b : ℝ} (hf : f j = (a : EReal)) (hg : g j = (b : EReal)) :
    mulf f g j = ((a * b : ℝ) : EReal) := by
  change f j * g j = _
  rw [hf, hg, EReal.coe_mul]
theorem plus_at {s : Shape} {f g : FVec Ideal s .f32} {j : s.Idx} {a b : ℝ} (hf : f j = (a : EReal)) (hg : g j = (b : EReal)) :
    addf f g j = ((a + b : ℝ) : EReal) := by
  change f j + g j = _
  rw [hf, hg, EReal.coe_add]

variable {d : ℝ}

theorem ldW_dot {a b : (ℕ → Vec Ideal S1x32x128 .fp8e5m2) → ℕ → FVec Ideal S32x128 .f32} {f g : (ℕ → ℝ) → ℕ → ℝ} (ha : IsFold a f) (hb : IsFold b g)
    (a16 : Memref sig .tc .vmem S3x160x2048 .bf16) (t : Vec Ideal S2048x512 .bf16) (o : Fin 160) (c : Fin 512) (T : ℕ → ℝ)
    (ht : ∀ n : Fin 2048, t (ix2 n c) = (T n : EReal)) :
    dotW (ldW a16 (listW (wordOf arg2 harg2 x1) a b) 2) (ldW a16 (listW (wordOf arg2 harg2 x1) a b) 1) (ldW a16 (listW (wordOf arg2 harg2 x1) a b) 0) t (ix2 o c)
      = ((∑ n ∈ Finset.range 2048, fw f g (xr x1 o) n * T n : ℝ) : EReal) :=
  dotW_at _ _ _ _ o c _ T (fun n => ldW_at arg2 harg2 x1 a16 ha hb 2 (by omega) o n) (fun n => ldW_at arg2 harg2 x1 a16 ha hb 1 (by omega) o n)
    (fun n => ldW_at arg2 harg2 x1 a16 ha hb 0 (by omega) o n) ht
theorem ldH_dot {a : (ℕ → Vec Ideal S1x32x128 .fp8e5m2) → ℕ → FVec Ideal S32x128 .f32} {f : (ℕ → ℝ) → ℕ → ℝ} (ha : IsFold a f)
    (a18 : Memref sig .tc .vmem S3x160x1024 .bf16) (t : Vec Ideal S1024x256 .bf16) (o : Fin 160) (c : Fin 256) (T : ℕ → ℝ)
    (ht : ∀ n : Fin 1024, t (ix2 n c) = (T n : EReal)) :
    dotH (ldH a18 (listH (wordOf arg2 harg2 x1) a) 2) (ldH a18 (listH (wordOf arg2 harg2 x1) a) 1) (ldH a18 (listH (wordOf arg2 harg2 x1) a) 0) t (ix2 o c)
      = ((∑ n ∈ Finset.range 1024, f (xr x1 o) n * T n : ℝ) : EReal) :=
  dotH_at _ _ _ _ o c _ T (fun n => ldH_at arg2 harg2 x1 a18 ha 2 (by omega) o n) (fun n => ldH_at arg2 harg2 x1 a18 ha 1 (by omega) o n)
    (fun n => ldH_at arg2 harg2 x1 a18 ha 0 (by omega) o n) ht

theorem ext0_at (x : FVec Ideal S160x512 .f32) (o : Fin 160) (c : Fin 256) :
    extractStridedSlice S160x256 ![0, 0] x slices_S160x512_o0_0_S160x256 (ix2 o c) = x (ix2 o ⟨c, by omega⟩) := by
  pointwise []
theorem ext1_at (x : FVec Ideal S160x512 .f32) (o : Fin 160) (c : Fin 256) :
    extractStridedSlice S160x256 ![0, 256] x slices_S160x512_o0_256_S160x256 (ix2 o c) = x (ix2 o ⟨256 + c, by omega⟩) := by
  pointwise []

/-- Plane 0 of a wide product at one column is the transform at the column's mode; plane 1 likewise. -/
theorem wide_re (hT : Tables x2 x3 x4 x5 x6 x7) (o : Fin 160) (c : Fin 512) :
    dotW (ldW arg16 (listW (wordOf arg2 harg2 x1) tEa tEb) 2) (ldW arg16 (listW (wordOf arg2 harg2 x1) tEa tEb) 1)
      (ldW arg16 (listW (wordOf arg2 harg2 x1) tEa tEb) 0) (tabW arg3 harg3 x2) (ix2 o c) = (tr 0 (xr x1 o) (modeW c) : EReal) := by
  refine (ldW_dot arg2 harg2 x1 isFold_ea isFold_eb arg16 _ o c
    (fun n => if n < 1024 then Cert.Fold.C (n * modeW c) else Cert.Fold.C (Cert.Fold.betaC (n - 1024) * modeW c))
    (fun n => by rw [tabW_at]; exact hT.coe n c)).trans ?_
  rw [sum_halves _ _ _ (fun n => Cert.Fold.C (n * modeW c)) (fun n => Cert.Fold.C (Cert.Fold.betaC n * modeW c)), tr, if_pos rfl,
    Cert.Fold.odd_cos _ _ (by unfold modeW; split <;> omega)]
theorem wide_im (hT : Tables x2 x3 x4 x5 x6 x7) (o : Fin 160) (c : Fin 512) :
    dotW (ldW arg17 (listW (wordOf arg2 harg2 x1) tOa tOb) 2) (ldW arg17 (listW (wordOf arg2 harg2 x1) tOa tOb) 1)
      (ldW arg17 (listW (wordOf arg2 harg2 x1) tOa tOb) 0) (tabW arg4 harg4 x3) (ix2 o c) = (tr 1 (xr x1 o) (modeW c) : EReal) := by
  refine (ldW_dot arg2 harg2 x1 isFold_oa isFold_ob arg17 _ o c
    (fun n => -(if n < 1024 then Cert.Fold.S (Cert.Fold.nC n * modeW c) else Cert.Fold.S ((2048 - (n - 1024)) * modeW c)))
    (fun n => by rw [tabW_at]; exact hT.soe n c)).trans ?_
  simp only [mul_neg, Finset.sum_neg_distrib]
  rw [sum_halves _ _ _ (fun n => Cert.Fold.S (Cert.Fold.nC n * modeW c)) (fun n => Cert.Fold.S ((2048 - n) * modeW c)), tr, if_neg (by decide),
    Cert.Fold.odd_sin _ _ (by unfold modeW; split <;> omega)]

/-- The value of the spectrum the body forms at plane `p`, residue `r`, channel `o`, column `c`. -/
theorem spec_at (hT : Tables x2 x3 x4 x5 x6 x7) (hd : x0 (ix1 0) = (d : EReal)) (p : Fin 2) (r : Fin 4) (o : Fin 160) (c : Fin 256) :
    spec arg1 harg1 arg2 harg2 arg3 arg4 harg3 harg4 arg5 arg6 arg7 arg8 harg5 harg6 harg7 harg8 arg15 arg16 arg17 arg18 arg19 arg20 arg21
      x0 x1 x2 x3 x4 x5 x6 x7 p r (ix2 o c) = (dyh p d (xr x1 o) (4 * c + r) : EReal) := by
  have hdys : dysOf arg1 harg1 x0 = (d : EReal) := (dys_at arg1 harg1 x0).trans hd
  have hw : modeW c = 4 * c + 1 := if_pos c.isLt
  have hw' : modeW (256 + c) = 4 * c + 3 := by rw [modeW, if_neg (by omega), Nat.add_sub_cancel_left]
  have k0 := coefV_at d 0 (by omega) o c
  have k1 := coefV_at d 1 (by omega) o c
  have k2 := coefV_at d 2 (by omega) o c
  have k3 := coefV_at d 3 (by omega) o c
  fin_cases p <;> fin_cases r <;> simp only [spec, specW, specH, specC, hdys]
  · refine mul_at (plus_at (a := ∑ n ∈ Finset.range 1024, Cert.Fold.e0 (xr x1 o) n * Cert.Fold.C (n * (4 * c))) ?_
      (mul_at (a := Cert.Fold.cen (xr x1 o)) ?_ (sgn_at o c))) k0 |>.trans ?_
    · exact ldH_dot arg2 harg2 x1 isFold_e0 arg20 _ o c _ fun n => by rw [tabH_at]; exact hT.c0 n c
    · refine Eq.trans ?_ (cen_at arg2 harg2 x1 arg15 o)
      pointwise []
    · rw [dyh, tr, if_pos rfl]
      have := Cert.Fold.zero_cos (xr x1 o) c
      simp only [Nat.add_zero]
      rw [this]
  · refine mul_at ((ext0_at _ o c).trans (wide_re arg2 harg2 arg3 harg3 arg16 x1 x2 x3 x4 x5 x6 x7 hT o _)) k1 |>.trans ?_
    rw [dyh]; simp only [hw]
  · refine mul_at (ldH_dot arg2 harg2 x1 isFold_e2 arg18 _ o c (fun n => Cert.Fold.C (n * (4 * c + 2))) fun n => by rw [tabH_at]; exact hT.c2 n c) k2 |>.trans ?_
    rw [dyh, tr, if_pos rfl]
    rw [Cert.Fold.two_cos (xr x1 o) c]
  · refine mul_at ((ext1_at _ o c).trans (wide_re arg2 harg2 arg3 harg3 arg16 x1 x2 x3 x4 x5 x6 x7 hT o _)) k3 |>.trans ?_
    rw [dyh]; simp only [hw']
  · refine mul_at (ldH_dot arg2 harg2 x1 isFold_o0 arg21 _ o c (fun n => -Cert.Fold.S (n * (4 * c))) fun n => by rw [tabH_at]; exact hT.s0 n c) k0 |>.trans ?_
    rw [dyh, tr, if_neg (by decide)]
    simp only [mul_neg, Finset.sum_neg_distrib, Nat.add_zero]
    rw [Cert.Fold.zero_sin (xr x1 o) c]
  · refine mul_at ((ext0_at _ o c).trans (wide_im arg2 harg2 arg4 harg4 arg17 x1 x2 x3 x4 x5 x6 x7 hT o _)) k1 |>.trans ?_
    rw [dyh]; simp only [hw]
  · refine mul_at (ldH_dot arg2 harg2 x1 isFold_o2 arg19 _ o c (fun n => -Cert.Fold.S (Cert.Fold.nC n * (4 * c + 2))) fun n => by rw [tabH_at]; exact hT.s2 n c) k2 |>.trans ?_
    rw [dyh, tr, if_neg (by decide)]
    simp only [mul_neg, Finset.sum_neg_distrib]
    rw [Cert.Fold.two_sin (xr x1 o) c]
  · refine mul_at ((ext1_at _ o c).trans (wide_im arg2 harg2 arg4 harg4 arg17 x1 x2 x3 x4 x5 x6 x7 hT o _)) k3 |>.trans ?_
    rw [dyh]; simp only [hw']
end

end Cert.DftIdeal.Gen

end
-- ==== Proof.DftIdeal.Val4.lean ====
/- The running maxima over the reals, and the spectra of one batch in their store. -/
module

public import proofs.«01_k».proof.Proof.DftIdeal.Val3

@[expose] public section

set_option maxRecDepth 16384

noncomputable section

namespace Cert.DftIdeal.Gen

open Idealize.ShloMosaic Idealize.ShloMosaic.TcCoe

theorem bits_bot : Ideal.ofBits .f32 0xFF800000#32 = ⊥ := by
  simp [Ideal.ofBits, Ideal.ieee]

theorem abs_at (a : ℝ) : FloatOps.absf (F := Ideal) (φ := .f32) (a : EReal) = ((|a| : ℝ) : EReal) := by
  change max (a : EReal) (-(a : EReal)) = _
  rw [← EReal.coe_neg, abs]
  exact (EReal.coe_strictMono.monotone.map_max).symm

/-- An updated maximum is at most `z` when the old one and every new magnitude is. -/
theorem aUpd_le (v : FVec Ideal S160x256 .f32) (old : Vec Ideal S8x256 .f32) (y : ℕ → ℕ → ℝ)
    (hv : ∀ (o : Fin 160) (c : Fin 256), v (ix2 o c) = (y o c : EReal)) (r : Fin 8) (c : Fin 256) (z : EReal) :
    aUpd v old (ix2 r c) ≤ z ↔ old (ix2 r c) ≤ z ∧ ∀ k < 20, ((|y (8 * k + r) c| : ℝ) : EReal) ≤ z := by
  have : aUpd v old (ix2 r c) = max (old (ix2 r c)) (Finset.fold max (Ideal.ofBits FTy.f32 4286578688#32)
      (fun x : Fin 20 => FloatOps.absf (F := Ideal) (v (ix2 ⟨x * 8 + r, by omega⟩ c))) Finset.univ) := by
    pointwise [aUpd]
  rw [this, max_le_iff]
  refine and_congr Iff.rfl ?_
  rw [Finset.fold_max_le, bits_bot]
  simp only [bot_le, true_and, Finset.mem_univ, forall_const, hv, abs_at]
  constructor
  · intro h k hk
    have := h ⟨k, hk⟩
    rwa [Nat.mul_comm] at this
  · intro h k
    have := h k k.isLt
    rwa [Nat.mul_comm] at this

/-- The columns of residue `r` of what a list of stores leaves. -/
def rdA (L : List (View.Piece (Elt Ideal) S8x1024 .f32)) (r : ℕ) : Vec Ideal S8x256 .f32 := fun j => View.canon L ((colR r).idx j)

theorem rdA_same (L : List (View.Piece (Elt Ideal) S8x1024 .f32)) (r : ℕ) (v : FVec Ideal S160x256 .f32) (old : Vec Ideal S8x256 .f32) :
    rdA (aPiece r v old :: L) r = aUpd v old := funext fun j => View.canon_cons_emb (colR r) (aUpd v old) L j

theorem rdA_other (L : List (View.Piece (Elt Ideal) S8x1024 .f32)) (r r' : ℕ) (v : FVec Ideal S160x256 .f32) (old : Vec Ideal S8x256 .f32)
    (h : r % 4 ≠ r' % 4) : rdA (aPiece r v old :: L) r' = rdA L r' := by
  refine funext fun j => View.canon_cons_of_not_mem _ _ fun hm => h ?_
  have h1 := (Rect.mem_set_unit (inb := inb_col r)).1 hm 1
  have hj := (j 1).isLt
  change (j 1 : ℕ) < 256 at hj
  change 256 * (r % 4) ≤ 256 * (r' % 4) + 1 * (j 1 : ℕ) ∧ 256 * (r' % 4) + 1 * (j 1 : ℕ) < 256 * (r % 4) + 256 at h1
  omega

variable (arg13 : Memref sig .tc .vmem S8x1024 .f32) (harg13 : arg13.IsWhole) (xs1 : Vec Ideal S8x1024 .f32) (v : ℕ → ℕ → FVec Ideal S160x256 .f32)

theorem aPut_same (r : ℕ) (w : FVec Ideal S160x256 .f32) (L : List (View.Piece (Elt Ideal) S8x1024 .f32)) :
    rdA (aPut arg13 r w L) r = aUpd w (rdA L r) := by
  refine (rdA_same L r w _).trans ?_
  rw [View.readCov_eq_canon']
  rfl
theorem aPut_other (r r' : ℕ) (w : FVec Ideal S160x256 .f32) (L : List (View.Piece (Elt Ideal) S8x1024 .f32)) (h : r % 4 ≠ r' % 4) :
    rdA (aPut arg13 r w L) r' = rdA L r' := rdA_other L r r' w _ h

/-- The columns of residue `r` of one content. -/
def colsOf (r : ℕ) : Vec Ideal S8x256 .f32 := fun j => xs1 ((colR r).idx j)

theorem aOld_eq (r : ℕ) : aOld arg13 harg13 xs1 r = colsOf xs1 r := by
  unfold aOld colsOf
  rw [View.readAt_eq_ld, harg13.read_unread]
  rfl

def zeroA : List (View.Piece (Elt Ideal) S8x1024 .f32) :=
  [⟨Rect.unit (s := S8x1024) ![0, 0] S8x1024.size inb_S8x1024_S8x1024_0_0, (k0_pay1 : FVec Ideal S8x1024 .f32)⟩]
def zeroV : Vec Ideal S8x256 .f32 := fun _ => (0 : EReal)

theorem rdA_zero (r : ℕ) : rdA zeroA r = zeroV := by
  funext j
  have : (colR r).idx j = (Rect.unit (s := S8x1024) ![0, 0] S8x1024.size inb_S8x1024_S8x1024_0_0).emb ((colR r).idx j) := by
    funext a; apply Fin.ext
    simp only [Rect.emb_apply]
    fin_cases a <;> simp
  unfold rdA zeroA
  rw [this, View.canon_cons_emb]
  generalize (colR r).idx j = q
  idx_vars q
  pointwise [k0_pay1, zeroV]

theorem rdA_listA0 (r : Fin 4) : rdA (listA0 arg13 v) r = aUpd (v 1 r) (aUpd (v 0 r) zeroV) := by
  change rdA (aPut arg13 0 (v 1 0) <| aPut arg13 0 (v 0 0) <| aPut arg13 2 (v 1 2) <| aPut arg13 2 (v 0 2) <|
    aPut arg13 3 (v 1 3) <| aPut arg13 1 (v 1 1) <| aPut arg13 3 (v 0 3) <| aPut arg13 1 (v 0 1) zeroA) r = _
  generalize hz : zeroA = z
  have h := rdA_zero
  rw [hz] at h
  fin_cases r <;> simp [aPut_same, aPut_other, h]
theorem rdA_listA1 (r : Fin 4) : rdA (listA1 arg13 harg13 xs1 v) r = aUpd (v 1 r) (aUpd (v 0 r) (colsOf xs1 r)) := by
  fin_cases r <;> simp [listA1, aPut_same, aPut_other, rdA_same, rdA_other, aOld_eq]

/-- Every place of the maxima lies in the columns of one residue. -/
theorem col_cover (y : S8x1024.Idx) (L : List (View.Piece (Elt Ideal) S8x1024 .f32)) (h : ∀ r : Fin 4, ∃ p ∈ L, p.1 = colR r) :
    ∃ p ∈ L, y ∈ p.1.set := by
  have h0 := (y 0).isLt; have h1 := (y 1).isLt
  change (y 0 : ℕ) < 8 at h0; change (y 1 : ℕ) < 1024 at h1
  obtain ⟨p, hp, e⟩ := h ⟨(y 1 : ℕ) / 256, by omega⟩
  refine ⟨p, hp, ?_⟩
  rw [e]
  refine (Rect.mem_set_unit (inb := inb_col _)).2 fun a => ?_
  fin_cases a <;> simp <;> omega

theorem cover_listA0 (y : S8x1024.Idx) : ∃ p ∈ listA0 arg13 v, y ∈ p.1.set := by
  refine col_cover y _ fun r => ?_
  fin_cases r <;> simp [listA0, aPut, aPiece]
theorem cover_listA1 (y : S8x1024.Idx) : ∃ p ∈ listA1 arg13 harg13 xs1 v, y ∈ p.1.set := by
  refine col_cover y _ fun r => ?_
  fin_cases r <;> simp [listA1, aPut, aPiece]

/-- Column `256·r + c` of the maxima is column `c` of residue `r`. -/
theorem col_idx (r : Fin 4) (k : Fin 8) (c : Fin 256) : (colR r).idx (ix2 k c) = (ix2 k ⟨256 * r + c, by omega⟩ : S8x1024.Idx) := by
  funext a; apply Fin.ext
  fin_cases a
  · simp [colR, LoadRect.idx, ix2]
  · simp [colR, LoadRect.idx, ix2]

/-- The maxima after the first batch, and after a later one. -/
theorem canon_listA0_le (y : ℕ → ℕ → ℕ → ℕ → ℝ) (hv : ∀ (p : Fin 2) (r : Fin 4) (o : Fin 160) (c : Fin 256), v p r (ix2 o c) = (y p r o c : EReal))
    (r : Fin 4) (k : Fin 8) (c : Fin 256) (z : EReal) :
    View.canon (listA0 arg13 v) (ix2 k ⟨256 * r + c, by omega⟩) ≤ z
      ↔ 0 ≤ z ∧ ∀ p < 2, ∀ q < 20, ((|y p r (8 * q + k) c| : ℝ) : EReal) ≤ z := by
  rw [← col_idx]
  change rdA (listA0 arg13 v) r (ix2 k c) ≤ z ↔ _
  rw [rdA_listA0]
  refine (aUpd_le _ _ (y 1 r) (hv 1 r) k c z).trans ?_
  refine (and_congr_left' (aUpd_le _ _ (y 0 r) (hv 0 r) k c z)).trans ?_
  constructor
  · rintro ⟨⟨h, h0⟩, h1⟩
    refine ⟨h, fun p hp => ?_⟩
    interval_cases p
    · exact h0
    · exact h1
  · rintro ⟨h, h0⟩
    exact ⟨⟨h, h0 0 (by omega)⟩, h0 1 (by omega)⟩
theorem canon_listA1_le (y : ℕ → ℕ → ℕ → ℕ → ℝ) (hv : ∀ (p : Fin 2) (r : Fin 4) (o : Fin 160) (c : Fin 256), v p r (ix2 o c) = (y p r o c : EReal))
    (r : Fin 4) (k : Fin 8) (c : Fin 256) (z : EReal) :
    View.canon (listA1 arg13 harg13 xs1 v) (ix2 k ⟨256 * r + c, by omega⟩) ≤ z
      ↔ xs1 (ix2 k ⟨256 * r + c, by omega⟩) ≤ z ∧ ∀ p < 2, ∀ q < 20, ((|y p r (8 * q + k) c| : ℝ) : EReal) ≤ z := by
  rw [← col_idx]
  change rdA (listA1 arg13 harg13 xs1 v) r (ix2 k c) ≤ z ↔ _
  rw [rdA_listA1]
  refine (aUpd_le _ _ (y 1 r) (hv 1 r) k c z).trans ?_
  refine (and_congr_left' (aUpd_le _ _ (y 0 r) (hv 0 r) k c z)).trans ?_
  constructor
  · rintro ⟨⟨h, h0⟩, h1⟩
    refine ⟨h, fun p hp => ?_⟩
    interval_cases p
    · exact h0
    · exact h1
  · rintro ⟨h, h0⟩
    exact ⟨⟨h, h0 0 (by omega)⟩, h0 1 (by omega)⟩

/-- One batch of the spectra as the body leaves it: plane, residue, channel, column. -/
def Zy (y : ℕ → ℕ → ℕ → ℕ → ℝ) (j : S24x2x160x1024.Idx) : EReal := (y (j 1) ((j 3 : ℕ) / 256) (j 2) ((j 3 : ℕ) % 256) : EReal)

theorem pieceY_agree (y : ℕ → ℕ → ℕ → ℕ → ℝ) (w : FVec Ideal S160x256 .f32) (off : Fin 4 → ℕ)
    (inb : ∀ a, off a + S1x1x160x256.size a ≤ S24x2x160x1024.size a) (n p r : ℕ) (e : off = ![n, p, 0, 256 * r])
    (hw : ∀ (o : Fin 160) (c : Fin 256), w (ix2 o c) = (y p r o c : EReal)) (j : S1x1x160x256.Idx) :
    shapeCast S1x1x160x256 w shapeCasts_S160x256_S1x1x160x256 j = Zy y ((Rect.unit (s := S24x2x160x1024) off S1x1x160x256.size inb).emb j) := by
  subst e
  obtain ⟨o, c, rfl⟩ : ∃ (o : Fin 160) (c : Fin 256), j = ix4 0 0 o c := ⟨j 2, j 3, by
    rw [eq_ix4 j]; congr 1 <;> exact Subsingleton.elim _ _⟩
  have : shapeCast S1x1x160x256 w shapeCasts_S160x256_S1x1x160x256 (ix4 0 0 o c) = w (ix2 o c) := by pointwise []
  rw [this, hw]
  change _ = (y (p + 1 * 0) ((256 * r + 1 * c) / 256) (0 + 1 * o) ((256 * r + 1 * c) % 256) : EReal)
  have := c.isLt
  congr 2 <;> omega

variable (i : grid0.Coords) (h : k0_cond2 i = 1#1)

theorem listY_agree (y : ℕ → ℕ → ℕ → ℕ → ℝ) (hv : ∀ (p : Fin 2) (r : Fin 4) (o : Fin 160) (c : Fin 256), v p r (ix2 o c) = (y p r o c : EReal)) :
    ∀ p ∈ listY i h v, ∀ j, p.2 j = Zy y (p.1.emb j) := by
  intro p hp
  simp only [listY, List.mem_cons, List.not_mem_nil, or_false] at hp
  rcases hp with rfl | rfl | rfl | rfl | rfl | rfl | rfl | rfl
  · exact pieceY_agree y _ _ (k0_off8_inb i h) _ 1 0 (k0_off8_eq i) (hv 1 0)
  · exact pieceY_agree y _ _ (k0_off7_inb i h) _ 0 0 (k0_off7_eq i) (hv 0 0)
  · exact pieceY_agree y _ _ (k0_off6_inb i h) _ 1 2 (k0_off6_eq i) (hv 1 2)
  · exact pieceY_agree y _ _ (k0_off5_inb i h) _ 0 2 (k0_off5_eq i) (hv 0 2)
  · exact pieceY_agree y _ _ (k0_off4_inb i h) _ 1 3 (k0_off4_eq i) (hv 1 3)
  · exact pieceY_agree y _ _ (k0_off3_inb i h) _ 1 1 (k0_off3_eq i) (hv 1 1)
  · exact pieceY_agree y _ _ (k0_off2_inb i h) _ 0 3 (k0_off2_eq i) (hv 0 3)
  · exact pieceY_agree y _ _ (k0_off1_inb i h) _ 0 1 (k0_off1_eq i) (hv 0 1)

theorem mem_boxY (off : Fin 4 → ℕ) (inb : ∀ a, off a + S1x1x160x256.size a ≤ S24x2x160x1024.size a) (n p r : ℕ) (e : off = ![n, p, 0, 256 * r])
    (j : S24x2x160x1024.Idx) : j ∈ (Rect.unit (s := S24x2x160x1024) off S1x1x160x256.size inb).set ↔ (j 0 : ℕ) = n ∧ (j 1 : ℕ) = p ∧ (j 3 : ℕ) / 256 = r := by
  subst e
  rw [Rect.mem_set_unit]
  have h2 := (j 2).isLt
  change (j 2 : ℕ) < 160 at h2
  constructor
  · intro hm
    have h0 := hm 0; have h1 := hm 1; have h3 := hm 3
    change n ≤ (j 0 : ℕ) ∧ (j 0 : ℕ) < n + 1 at h0
    change p ≤ (j 1 : ℕ) ∧ (j 1 : ℕ) < p + 1 at h1
    change 256 * r ≤ (j 3 : ℕ) ∧ (j 3 : ℕ) < 256 * r + 256 at h3
    omega
  · rintro ⟨h0, h1, h3⟩ a
    fin_cases a
    · exact (show n ≤ (j 0 : ℕ) ∧ (j 0 : ℕ) < n + 1 by omega)
    · exact (show p ≤ (j 1 : ℕ) ∧ (j 1 : ℕ) < p + 1 by omega)
    · exact (show 0 ≤ (j 2 : ℕ) ∧ (j 2 : ℕ) < 0 + 160 by omega)
    · exact (show 256 * r ≤ (j 3 : ℕ) ∧ (j 3 : ℕ) < 256 * r + 256 by omega)

theorem mem_listY (j : S24x2x160x1024.Idx) : (∃ p ∈ listY i h v, j ∈ p.1.set) ↔ (j 0 : ℕ) = (i 0).val := by
  have h1 := (j 1).isLt; have h3 := (j 3).isLt
  change (j 1 : ℕ) < 2 at h1; change (j 3 : ℕ) < 1024 at h3
  simp only [listY, List.mem_cons, List.not_mem_nil, or_false, exists_eq_or_imp, exists_eq_left]
  rw [mem_boxY _ _ _ 1 0 (k0_off8_eq i), mem_boxY _ _ _ 0 0 (k0_off7_eq i), mem_boxY _ _ _ 1 2 (k0_off6_eq i), mem_boxY _ _ _ 0 2 (k0_off5_eq i),
    mem_boxY _ _ _ 1 3 (k0_off4_eq i), mem_boxY _ _ _ 1 1 (k0_off3_eq i), mem_boxY _ _ _ 0 3 (k0_off2_eq i), mem_boxY _ _ _ 0 1 (k0_off1_eq i)]
  omega

/-- The batch a point fills holds its spectra afterwards; -/
theorem listY_here {V : View sig .tc .vmem S24x2x160x1024 .f32} (f : V.ty.Contents (Elt Ideal)) (y : ℕ → ℕ → ℕ → ℕ → ℝ)
    (hv : ∀ (p : Fin 2) (r : Fin 4) (o : Fin 160) (c : Fin 256), v p r (ix2 o c) = (y p r o c : EReal)) (j : S24x2x160x1024.Idx)
    (hj : (j 0 : ℕ) = (i 0).val) : V.read (Elt Ideal) (V.writes (Elt Ideal) f (listY i h v)) j = Zy y j := by
  have hm := (mem_listY v i h j).2 hj
  rw [View.read_writes_apply_eq_canon _ _ _ _ hm]
  exact canon_of_agree _ _ (listY_agree v i h y hv) j hm
/-- the others keep theirs. -/
theorem listY_there {V : View sig .tc .vmem S24x2x160x1024 .f32} (f : V.ty.Contents (Elt Ideal)) (j : S24x2x160x1024.Idx)
    (hj : (j 0 : ℕ) ≠ (i 0).val) : V.read (Elt Ideal) (V.writes (Elt Ideal) f (listY i h v)) j = V.read (Elt Ideal) f j :=
  View.read_writes_apply_of_forall_not_mem _ _ _ _ fun p hp hm => hj ((mem_listY v i h j).1 ⟨p, hp, hm⟩)

end Cert.DftIdeal.Gen

end
-- ==== Proof.DftIdeal.Val5.lean ====
/- The exponents over the reals: the count of the powers of two below a ratio, and the scales made of it. -/
module

public import proofs.«01_k».proof.Proof.DftIdeal.Val3

@[expose] public section

set_option maxRecDepth 16384

noncomputable section

namespace Cert.DftIdeal.Gen

open Idealize.ShloMosaic Idealize.ShloMosaic.TcCoe

/-- The pattern with exponent field `k`. -/
def patB (k : ℕ) : BitVec 32 := BitVec.ofNat 32 (k * 2 ^ 23)

theorem patB_fields (k : Fin 256) : ((patB k).extractLsb' 31 1 == 1#1) = false ∧ ((patB k).extractLsb' 23 8).toNat = k ∧ ((patB k).extractLsb' 0 23).toNat = 0 := by
  revert k; decide +kernel

theorem patB_eq (k : ℕ) (h0 : 0 < k) (h : k < 255) : Ideal.ofBits .f32 (patB k) = (((2 : ℝ) ^ ((k : ℤ) - 127) : ℝ) : EReal) := by
  obtain ⟨h1, h2, h3⟩ := patB_fields ⟨k, by omega⟩
  change Ideal.ieee 8 23 (patB k) = _
  unfold Ideal.ieee
  simp only [Nat.reduceAdd, h1, h2, h3]
  rw [if_neg (by omega), if_neg (by omega)]
  congr 1
  simp only [Bool.false_eq_true, if_false, one_mul, Nat.add_zero]
  push_cast
  norm_num1
  rw [show (8388608 : ℝ) = 2 ^ (23 : ℤ) by norm_num, ← zpow_add₀ (by norm_num)]
  congr 1
  omega
theorem patB_top : Ideal.ofBits .f32 (patB 255) = ⊤ := by
  obtain ⟨h1, h2, h3⟩ := patB_fields ⟨255, by omega⟩
  change Ideal.ieee 8 23 (patB 255) = _
  unfold Ideal.ieee
  simp only [Nat.reduceAdd, h1, h2, h3]
  simp

theorem shli_iv (k : Fin 255) : Scalar.shli (Scf.iv 1#32 1#32 k) 23#32 = patB (k + 1) := by
  revert k; decide +kernel

/-- A fold over a range, by an invariant of its steps. -/
theorem fold_inv {σ : Type} {n : ℕ} (g : Fin n → σ → σ) (a : σ) (P : ℕ → σ → Prop) (h0 : P 0 a)
    (hs : ∀ (k : Fin n) b, P k b → P (k + 1) (g k b)) : P n (Scf.fold g a) := by
  rw [Scf.fold_eq]
  suffices H : ∀ m (hm : m ≤ n), P m (((List.finRange n).take m).foldl (fun acc k => g k acc) a) by
    have := H n le_rfl
    rwa [List.take_of_length_le (by simp)] at this
  intro m hm
  induction m with
  | zero => simpa using h0
  | succ m ih =>
    have hl : m < (List.finRange n).length := by simpa using hm
    rw [List.take_succ_eq_append_getElem hl, List.foldl_append]
    simpa using hs ⟨m, by omega⟩ _ (ih (by omega))

/-- The integral part of the binary logarithm. -/
def lg (ρ : ℝ) : ℤ := ⌊Real.log ρ / Real.log 2⌋

theorem le_lg (ρ : ℝ) (h : 0 < ρ) (k : ℤ) : (2 : ℝ) ^ k ≤ ρ ↔ k ≤ lg ρ := by
  have h2 : 0 < Real.log 2 := Real.log_pos (by norm_num)
  have e : Real.log ((2 : ℝ) ^ k) = k * Real.log 2 := Real.log_zpow _ _
  rw [lg, Int.le_floor, le_div_iff₀ h2, ← e]
  exact (Real.log_le_log_iff (by positivity) h).symm
theorem lg_lt (ρ : ℝ) (h : 0 < ρ) (k : ℤ) (hk : ρ < (2 : ℝ) ^ k) : lg ρ < k := by
  by_contra hc
  exact absurd ((le_lg ρ h k).2 (not_lt.1 hc)) (not_le.2 hk)

/-- The number of positive powers of two, from `2^-126` on, that a ratio reaches. -/
def fieldN (ρ : ℝ) : ℕ := if ρ < (2 : ℝ) ^ (-126 : ℤ) then 0 else (lg ρ + 127).toNat

theorem le_fieldN (ρ : ℝ) (hρ : ρ < (2 : ℝ) ^ (126 : ℤ)) (k : ℕ) (h0 : 0 < k) (h : k < 256) :
    Ideal.ofBits .f32 (patB k) ≤ (ρ : EReal) ↔ k ≤ fieldN ρ := by
  unfold fieldN
  by_cases hs : ρ < (2 : ℝ) ^ (-126 : ℤ)
  · rw [if_pos hs]
    constructor
    · intro hle
      exfalso
      by_cases hk : k = 255
      · subst hk; rw [patB_top] at hle; exact absurd hle (not_le.2 (EReal.coe_lt_top _))
      · rw [patB_eq k h0 (by omega), EReal.coe_le_coe_iff] at hle
        have : (2 : ℝ) ^ (-126 : ℤ) ≤ (2 : ℝ) ^ ((k : ℤ) - 127) := zpow_le_zpow_right₀ (by norm_num) (by omega)
        linarith
    · intro hk; omega
  · rw [if_neg hs]
    have hpos : 0 < ρ := lt_of_lt_of_le (by positivity) (not_lt.1 hs)
    have hl := lg_lt ρ hpos _ hρ
    by_cases hk : k = 255
    · subst hk; rw [patB_top]
      constructor
      · intro hle; exact absurd hle (not_le.2 (EReal.coe_lt_top _))
      · intro hle; omega
    · rw [patB_eq k h0 (by omega), EReal.coe_le_coe_iff, le_lg ρ hpos]
      omega

/-- The exponent of a ratio: one more than the integral part of its logarithm; zero for a ratio below `2^-126`. -/
def expR (ρ : ℝ) : ℤ := if ρ < (2 : ℝ) ^ (-126 : ℤ) then 0 else lg ρ + 1

theorem fieldN_lt (ρ : ℝ) (hρ : ρ < (2 : ℝ) ^ (126 : ℤ)) : fieldN ρ < 253 := by
  unfold fieldN
  split
  · omega
  · rename_i hs
    have hpos : 0 < ρ := lt_of_lt_of_le (by positivity) (not_lt.1 hs)
    have := lg_lt ρ hpos _ hρ
    omega
theorem expR_eq (ρ : ℝ) : expR ρ = if fieldN ρ = 0 then 0 else (fieldN ρ : ℤ) - 126 := by
  unfold expR fieldN
  split
  · simp
  · rename_i hs
    have hpos : 0 < ρ := lt_of_lt_of_le (by positivity) (not_lt.1 hs)
    have : (-126 : ℤ) ≤ lg ρ := by
      rw [← le_lg ρ hpos]
      exact not_lt.1 hs
    rw [if_neg (by omega)]
    omega

theorem inv_word (n : Fin 253) : IntOp.shli .vector (IntOp.subi 127#32 (Scalar.select (IntOp.cmpi .eq (BitVec.ofNat 32 n) 0#32) 0#32
    (IntOp.subi (BitVec.ofNat 32 n) 126#32))) 23#32 = patB (if (n : ℕ) = 0 then 127 else 253 - n) := by
  revert n; decide +kernel
theorem scale_word (n : Fin 253) : IntOp.shli .vector (IntOp.addi (Scalar.select (IntOp.cmpi .eq (BitVec.ofNat 32 n) 0#32) 0#32
    (IntOp.subi (BitVec.ofNat 32 n) 126#32)) 127#32) 23#32 = patB (if (n : ℕ) = 0 then 127 else n + 1) := by
  revert n; decide +kernel

/-- The inverse scale and the scale an exponent field stands for. -/
theorem inv_at (n : IVec S8x1024 32) (r : Fin 8) (c : Fin 1024) (ρ : ℝ) (hρ : ρ < (2 : ℝ) ^ (126 : ℤ)) (hn : n (ix2 r c) = BitVec.ofNat 32 (fieldN ρ)) :
    (k0_pay3414 n : FVec Ideal S8x1024 .f32) (ix2 r c) = (((2 : ℝ) ^ (-expR ρ) : ℝ) : EReal) := by
  have h := fieldN_lt ρ hρ
  have e := expR_eq ρ
  pointwise [k0_pay3414, k0_pay3413]
  rw [hn, inv_word ⟨fieldN ρ, h⟩]
  by_cases h0 : fieldN ρ = 0
  · simp only [h0, if_true] at e ⊢
    rw [patB_eq _ (by omega) (by omega), e]; norm_num
  · simp only [h0, if_false] at e ⊢
    rw [patB_eq (253 - fieldN ρ) (by omega) (by omega), e, show (((253 - fieldN ρ : ℕ) : ℤ) - 127) = -((fieldN ρ : ℤ) - 126) by omega]
theorem scale_at (n : IVec S8x1024 32) (r : Fin 8) (c : Fin 1024) (ρ : ℝ) (hρ : ρ < (2 : ℝ) ^ (126 : ℤ)) (hn : n (ix2 r c) = BitVec.ofNat 32 (fieldN ρ)) :
    Ideal.ofBits .f32 (k0_pay3415 n (ix2 r c)) = (((2 : ℝ) ^ (expR ρ) : ℝ) : EReal) := by
  have h := fieldN_lt ρ hρ
  have e := expR_eq ρ
  pointwise [k0_pay3415, k0_pay3413]
  rw [hn, scale_word ⟨fieldN ρ, h⟩]
  by_cases h0 : fieldN ρ = 0
  · simp only [h0, if_true] at e ⊢
    rw [patB_eq _ (by omega) (by omega), e]; norm_num
  · simp only [h0, if_false] at e ⊢
    rw [patB_eq _ (by omega) (by omega), e]
    congr 2; omega

/-- The reciprocal of the largest code the kernel multiplies by. -/
def kappa : ℝ := 9586981 * (2 : ℝ) ^ (-39 : ℤ)
theorem bits_kappa : Ideal.ofBits .f32 0x37924925#32 = (kappa : EReal) := by
  simp [Ideal.ofBits, Ideal.ieee, kappa]

/-- One step of the count. -/
theorem count_step (x : Vec Ideal S8x1024 .f32) (k : Fin k0_t1_loop.trips) (n : IVec S8x1024 32) (r : Fin 8) (c : Fin 1024) (a : ℝ)
    (hx : Finset.fold max (Ideal.ofBits FTy.f32 4286578688#32) (fun q : Fin 8 => x (ix2 q c)) Finset.univ = (a : EReal))
    (hρ : a * kappa < (2 : ℝ) ^ (126 : ℤ)) :
    (k0_pay3412 (F := Ideal) x k n) (ix2 r c) = n (ix2 r c) + (if (k : ℕ) + 1 ≤ fieldN (a * kappa) then 1#32 else 0#32) := by
  have hk : (k : ℕ) < 255 := k.isLt
  have := le_fieldN (a * kappa) hρ (k + 1) (by omega) (by omega)
  pointwise [k0_pay3412]
  rw [hx, bits_kappa, ← EReal.coe_mul, shli_iv ⟨k, hk⟩]
  simp only [this]
  change _ + _ = _
  congr 1
  split
  · rename_i h; rw [decide_eq_true h]; rfl
  · rename_i h; rw [decide_eq_false h]; rfl

/-- The exponent fields of the maxima. -/
theorem field_at (arg13 : Memref sig .tc .vmem S8x1024 .f32) (harg13 : arg13.IsWhole) (x : Vec Ideal S8x1024 .f32) (r : Fin 8) (c : Fin 1024) (a : ℝ)
    (hx : Finset.fold max (Ideal.ofBits FTy.f32 4286578688#32) (fun q : Fin 8 => x (ix2 q c)) Finset.univ = (a : EReal))
    (hρ : a * kappa < (2 : ℝ) ^ (126 : ℤ)) :
    fieldOf arg13 harg13 x (ix2 r c) = BitVec.ofNat 32 (fieldN (a * kappa)) := by
  have hload : View.readAt (Elt Ideal) arg13.view (Rect.unit (s := S8x1024) ![0, 0] S8x1024.size inb_S8x1024_S8x1024_0_0).toLoadRect
      (harg13.unread x) = x := by
    rw [View.readAt_eq_ld, harg13.read_unread]
    refine funext fun j => congrArg x (funext fun a => Fin.ext ?_)
    fin_cases a <;> simp
  unfold fieldOf
  rw [hload]
  have := fold_inv (n := k0_t1_loop.trips) (fun a b => k0_pay3412 (F := Ideal) x a b) (k0_pay3411 : IVec S8x1024 32)
    (fun t n => n (ix2 r c) = BitVec.ofNat 32 (min t (fieldN (a * kappa)))) (by pointwise [k0_pay3411]; simp) (fun k n hn => by
      rw [count_step x k n r c a hx hρ, hn]
      split
      · rw [Nat.min_eq_left (by omega), Nat.min_eq_left (by omega), BitVec.ofNat_add]
      · rw [Nat.min_eq_right (by omega), Nat.min_eq_right (by omega), BitVec.add_zero])
  have hf := fieldN_lt _ hρ
  rw [Nat.min_eq_right (by change _ ≤ 255; omega)] at this
  exact this

end Cert.DftIdeal.Gen

end
-- ==== Proof.DftIdeal.Val6.lean ====
/- The codes and the scales one grid point stores, over the reals: the four residues interleaved. -/
module

public import proofs.«01_k».proof.Proof.DftIdeal.StepE
public import proofs.«01_k».proof.Proof.DftIdeal.Val4
public import proofs.«01_k».proof.Proof.DftIdeal.Val5

@[expose] public section

set_option maxRecDepth 16384

noncomputable section

namespace Cert.DftIdeal.Gen

open Idealize.ShloMosaic Idealize.ShloMosaic.TcCoe

theorem rem160_at (o : Fin 160) (l : Fin 128) : rem160 (ix2 o l) = BitVec.ofNat 32 (l % 4) := by
  pointwise [rem160, ilRem, lane160, ilFour]
  revert l; decide +kernel
theorem rem8_at (o : Fin 8) (l : Fin 128) : rem8 (ix2 o l) = BitVec.ofNat 32 (l % 4) := by
  pointwise [rem8, ilRem, lane8, ilFour]
  revert l; decide +kernel

theorem mix_at {s : Shape} {α : Type} (r : IVec s 32) (g : ℕ → s.Idx → α) (j : s.Idx) (k : ℕ) (hk : k < 4) (hr : r j = BitVec.ofNat 32 k) :
    ilMix s r g j = g k j := by
  unfold ilMix
  simp only [select, cmpi, broadcast, hr]
  interval_cases k <;> rfl

theorem idx160_at (t : Fin 4) (o : Fin 160) (l : Fin 128) :
    ((ilIdx S160x128 lane160 (BitVec.ofNat 32 (32 * t))) (ix2 o l)).toNat % 128 = 32 * t + l / 4 := by
  pointwise [ilIdx, ilQuot, lane160]
  revert t l; decide +kernel
theorem idx8_at (t : Fin 4) (o : Fin 8) (l : Fin 128) :
    ((ilIdx S8x128 lane8 (BitVec.ofNat 32 (32 * t))) (ix2 o l)).toNat % 128 = 32 * t + l / 4 := by
  pointwise [ilIdx, ilQuot, lane8]
  revert t l; decide +kernel

theorem cast_back {s t : Shape} {α : Type} (v : s.Idx → α) (h : s.ShapeCasts t) (h' : t.ShapeCasts s) : shapeCast s (shapeCast t v h) h' = v := by
  rw [shapeCast_comp]
  funext j
  exact congrArg v (Shape.reshapeEquiv_self _ j)

theorem take160_at {x : FVec Ideal S160x128 .f32} (t : Fin 4) (o : Fin 160) (l : Fin 128) :
    take160 x (BitVec.ofNat 32 (32 * t)) (ix2 o l) = x (ix2 o ⟨32 * t + l / 4, by omega⟩) := by
  unfold take160
  rw [cast_back]
  refine congrArg x (funext fun a => Fin.ext ?_)
  have := idx160_at t o l
  fin_cases a
  · rfl
  · exact this
theorem take8_at {x : IVec S8x128 32} (t : Fin 4) (o : Fin 8) (l : Fin 128) :
    take8 x (BitVec.ofNat 32 (32 * t)) (ix2 o l) = x (ix2 o ⟨32 * t + l / 4, by omega⟩) := by
  unfold take8
  rw [cast_back]
  refine congrArg x (funext fun a => Fin.ext ?_)
  have := idx8_at t o l
  fin_cases a
  · rfl
  · exact this

/-- A code of the spectrum, as a real. -/
theorem codeV_at (y : Vec Ideal S1x1x160x128 .f32) (v : Vec Ideal S1x128 .f32) (o : Fin 160) (l : Fin 128) (a b : ℝ)
    (hy : y (ix4 0 0 o l) = (a : EReal)) (hv : v (ix2 0 l) = (b : EReal)) :
    codeV y v (ix2 o l) = (clipR ((a * b : ℝ) : EReal) : EReal) := by
  pointwise [codeV]
  rw [hy, hv, ← EReal.coe_mul, ← clipR_eq, ← bits_hi, ← bits_lo]

/-- The column a mode is kept in: its residue by four is the block of 256 columns. -/
def colOf (m : ℕ) : ℕ := 256 * (m % 4) + m / 4

theorem mem8' {t : ℕ} : t ∈ [7, 6, 5, 4, 3, 2, 1, 0] ↔ t < 8 := by
  simp only [List.mem_cons, List.not_mem_nil, or_false]; omega

theorem mem_listCode (y : ℕ → Vec Ideal S1x1x160x128 .f32) (v : ℕ → Vec Ideal S1x128 .f32) (o : Fin 160) (m : Fin 1024) :
    ∃ p ∈ listCode y v, (ix3 0 o m : S1x160x1024.Idx) ∈ p.1.set := by
  refine ⟨_, List.mem_map.2 ⟨m / 128, mem8'.2 (by omega), rfl⟩, (Rect.mem_set_unit (inb := inb_code _)).2 fun a => ?_⟩
  fin_cases a <;> simp <;> omega
theorem mem_listScale (n : IVec S8x1024 32) (m : Fin 1024) : ∃ p ∈ listScale (F := Ideal) n, (ix2 0 m : S1x1024.Idx) ∈ p.1.set := by
  refine ⟨_, List.mem_map.2 ⟨m / 128, mem8'.2 (by omega), rfl⟩, (Rect.mem_set_unit (inb := inb_scale _)).2 fun a => ?_⟩
  fin_cases a <;> simp <;> omega
theorem mem_listInv (n : IVec S8x1024 32) (j : S8x1024.Idx) : ∃ p ∈ listInv (F := Ideal) n, j ∈ p.1.set := by
  refine ⟨_, List.mem_singleton.2 rfl, (Rect.mem_set_unit (inb := inb_S8x1024_S8x1024_0_0)).2 fun a => ?_⟩
  have := (j a).isLt
  fin_cases a
  · exact (show 0 ≤ (j 0 : ℕ) ∧ (j 0 : ℕ) < 0 + 8 from ⟨Nat.zero_le _, by simpa using this⟩)
  · exact (show 0 ≤ (j 1 : ℕ) ∧ (j 1 : ℕ) < 0 + 1024 from ⟨Nat.zero_le _, by simpa using this⟩)

/-- The codes a point stores for one plane: those of the modes in order. -/
theorem canon_listCode (y : ℕ → Vec Ideal S1x1x160x128 .f32) (v : ℕ → Vec Ideal S1x128 .f32) (Y : ℕ → ℕ → ℝ) (W : ℕ → ℝ)
    (hy : ∀ q < 8, ∀ (o : Fin 160) (l : Fin 128), y q (ix4 0 0 o l) = (Y o (128 * q + l) : EReal))
    (hv : ∀ q < 8, ∀ (l : Fin 128), v q (ix2 0 l) = (W (128 * q + l) : EReal)) (o : Fin 160) (m : Fin 1024) :
    View.canon (listCode y v) (ix3 0 o m) = (clipR ((Y o (colOf m) * W (colOf m) : ℝ) : EReal) : EReal) := by
  refine canon_of_agree (listCode y v) (fun j => (clipR ((Y (j 1) (colOf (j 2)) * W (colOf (j 2)) : ℝ) : EReal) : EReal)) (fun p hp j => ?_) (ix3 0 o m) ?_
  · obtain ⟨t, ht, rfl⟩ := List.mem_map.1 hp
    rw [mem8'] at ht
    obtain ⟨o, l, rfl⟩ : ∃ (o : Fin 160) (l : Fin 128), j = ix3 0 o l := ⟨j 1, j 2, by rw [eq_ix3 j]; congr 1; exact Subsingleton.elim _ _⟩
    change _ = (clipR ((Y (0 + 1 * o) (colOf (128 * (t % 8) + 1 * l)) * W (colOf (128 * (t % 8) + 1 * l)) : ℝ) : EReal) : EReal)
    have e : colOf (128 * (t % 8) + 1 * l) = 128 * (2 * (l % 4) + t / 4) + (32 * (t % 4) + l / 4) := by unfold colOf; omega
    rw [e]
    pointwise []
    have hc := codeV_at (y (2 * (l % 4) + t / 4)) (v (2 * (l % 4) + t / 4)) o ⟨32 * (t % 4) + l / 4, by omega⟩ _ _ (hy _ (by omega) _ _) (hv _ (by omega) _)
    have ht4 := take160_at (x := codeV (y (2 * (l % 4) + t / 4)) (v (2 * (l % 4) + t / 4))) ⟨t % 4, by omega⟩ o l
    rw [mix_at _ _ _ _ (by omega) (rem160_at o l)]
    refine ht4.trans (hc.trans ?_)
    simp only [Nat.zero_add, Nat.one_mul]
  · exact mem_listCode y v o m

/-- The scales a point stores: those of the modes in order. -/
theorem canon_listScale (n : IVec S8x1024 32) (E : ℕ → ℝ) (hn : ∀ c : Fin 1024, Ideal.ofBits .f32 (k0_pay3415 n (ix2 0 c)) = (E c : EReal)) (m : Fin 1024) :
    View.canon (listScale (F := Ideal) n) (ix2 0 m) = (E (colOf m) : EReal) := by
  refine canon_of_agree (listScale (F := Ideal) n) (fun j => (E (colOf (j 1)) : EReal)) (fun p hp j => ?_) (ix2 0 m) ?_
  · obtain ⟨t, ht, rfl⟩ := List.mem_map.1 hp
    rw [mem8'] at ht
    obtain ⟨l, rfl⟩ : ∃ (l : Fin 128), j = ix2 0 l := ⟨j 1, by rw [eq_ix2 j]; congr 1; exact Subsingleton.elim _ _⟩
    change _ = (E (colOf (128 * (t % 8) + 1 * l)) : EReal)
    have e : colOf (128 * (t % 8) + 1 * l) = 128 * (2 * (l % 4) + t / 4) + (32 * (t % 4) + l / 4) := by unfold colOf; omega
    rw [e]
    pointwise []
    rw [mix_at _ _ _ _ (by omega) (rem8_at _ l)]
    have ht4 := take8_at (x := extractStridedSlice S8x128 ![0, 128 * ((2 * (l % 4) + t / 4) % 8)] (k0_pay3415 n) (slices_q (2 * (l % 4) + t / 4))) ⟨t % 4, by omega⟩ 0 l
    refine (congrArg (Ideal.ofBits .f32) ht4).trans ?_
    refine Eq.trans ?_ (hn ⟨128 * (2 * (l % 4) + t / 4) + (32 * (t % 4) + l / 4), by omega⟩)
    refine congrArg (fun z => Ideal.ofBits .f32 (k0_pay3415 n z)) (funext fun a => Fin.ext ?_)
    fin_cases a
    · rfl
    · change 128 * ((2 * (l % 4) + t / 4) % 8) + (32 * (t % 4) + l / 4) = 128 * (2 * (l % 4) + t / 4) + (32 * (t % 4) + l / 4)
      omega
  · exact mem_listScale n m

/-- The store of the inverse scales. -/
theorem canon_listInv (n : IVec S8x1024 32) (j : S8x1024.Idx) : View.canon (listInv (F := Ideal) n) j = (k0_pay3414 n : FVec Ideal S8x1024 .f32) j := by
  refine canon_of_agree (listInv (F := Ideal) n) (k0_pay3414 n : FVec Ideal S8x1024 .f32) (fun p hp j => ?_) j ?_
  · obtain rfl := List.mem_singleton.1 hp
    refine congrArg (k0_pay3414 n : FVec Ideal S8x1024 .f32) (funext fun a => Fin.ext ?_)
    fin_cases a
    · change (j 0 : ℕ) = 0 + 1 * (j 0); omega
    · change (j 1 : ℕ) = 0 + 1 * (j 1); omega
  · exact mem_listInv n j

end Cert.DftIdeal.Gen

end
-- ==== Proof.DftIdeal.Inv.lean ====
/- What the scratch holds between grid points, over the reals, and what the stores of each kind of point make of it. -/
module

public import proofs.«01_k».proof.Proof.DftIdeal.Val6

@[expose] public section

set_option maxRecDepth 16384

noncomputable section

namespace Cert.DftIdeal.Gen

open Idealize.ShloMosaic Idealize.ShloMosaic.TcCoe

/-- The mode a column of the scratch holds. -/
def modeOf (c : ℕ) : ℕ := 4 * (c % 256) + c / 256

theorem modeOf_colOf (m : ℕ) (h : m < 1024) : modeOf (colOf m) = m := by unfold modeOf colOf; omega
theorem modeOf_lt (c : ℕ) (h : c < 1024) : modeOf c < 1024 := by unfold modeOf; omega
theorem colOf_lt (m : ℕ) (h : m < 1024) : colOf m < 1024 := by unfold colOf; omega

variable (d : ℝ) (x : ℕ → ℕ → ℕ → ℝ)

/-- The greatest magnitude of a mode over the batches, the two parts and the channels. -/
def amaxR (m : ℕ) : ℝ :=
  ((Finset.range 24 ×ˢ (Finset.range 2 ×ˢ Finset.range 160)).sup fun t => Real.nnabs (dyh t.2.1 d (x t.1 t.2.2) m) : NNReal)

theorem amaxR_le (m : ℕ) (z : EReal) : (amaxR d x m : EReal) ≤ z ↔ 0 ≤ z ∧ ∀ b < 24, ∀ p < 2, ∀ o < 160, ((|dyh p d (x b o) m| : ℝ) : EReal) ≤ z := by
  induction z with
  | bot => simp
  | top => simp
  | coe z =>
    simp only [EReal.coe_le_coe_iff, EReal.coe_nonneg]
    unfold amaxR
    constructor
    · intro h
      have hz : 0 ≤ z := le_trans (NNReal.coe_nonneg _) h
      refine ⟨hz, fun b hb p hp o ho => ?_⟩
      have := Finset.le_sup (f := fun t : ℕ × ℕ × ℕ => Real.nnabs (dyh t.2.1 d (x t.1 t.2.2) m))
        (Finset.mem_product.2 ⟨Finset.mem_range.2 hb, Finset.mem_product.2 ⟨Finset.mem_range.2 hp, Finset.mem_range.2 ho⟩⟩ :
          (b, p, o) ∈ (Finset.range 24 ×ˢ (Finset.range 2 ×ˢ Finset.range 160)))
      have h2 := NNReal.coe_le_coe.2 this
      rw [Real.coe_nnabs] at h2
      exact h2.trans h
    · rintro ⟨hz, h⟩
      have : ((Finset.range 24 ×ˢ (Finset.range 2 ×ˢ Finset.range 160)).sup fun t : ℕ × ℕ × ℕ => Real.nnabs (dyh t.2.1 d (x t.1 t.2.2) m)) ≤ (⟨z, hz⟩ : NNReal) := by
        refine Finset.sup_le fun t ht => ?_
        obtain ⟨h1, h2⟩ := Finset.mem_product.1 ht
        obtain ⟨h2, h3⟩ := Finset.mem_product.1 h2
        refine NNReal.coe_le_coe.1 ((le_of_eq (Real.coe_nnabs _)).trans ?_)
        exact h _ (Finset.mem_range.1 h1) _ (Finset.mem_range.1 h2) _ (Finset.mem_range.1 h3)
      exact NNReal.coe_le_coe.2 this

theorem amaxR_nonneg (m : ℕ) : 0 ≤ amaxR d x m := NNReal.coe_nonneg _

/-- Samples are within the format's range. -/
def Bounded : Prop := ∀ b o n, |x b o n| ≤ 57344

variable {d x}

theorem abs_tr_le {y : ℕ → ℝ} (hy : ∀ n, |y n| ≤ 57344) (p m : ℕ) : |tr p y m| ≤ 8192 * 57344 := by
  have key : ∀ g : ℕ → ℝ, (∀ n, |g n| ≤ 1) → |∑ n ∈ Finset.range 8192, y n * g n| ≤ 8192 * 57344 := by
    intro g hg
    refine (Finset.abs_sum_le_sum_abs _ _).trans ?_
    refine (Finset.sum_le_card_nsmul _ _ 57344 fun n _ => ?_).trans ?_
    · rw [abs_mul]
      exact (mul_le_mul (hy n) (hg n) (abs_nonneg _) (by norm_num)).trans (by norm_num)
    · simp
  unfold tr
  split
  · exact key _ fun n => by unfold Cert.Fold.C; exact Real.abs_cos_le_one _
  · rw [abs_neg]; exact key _ fun n => by unfold Cert.Fold.S; exact Real.abs_sin_le_one _

theorem abs_dyh_le (hx : Bounded x) (p b o m : ℕ) : |dyh p d (x b o) m| ≤ 114688 * |d| := by
  unfold dyh
  rw [abs_mul, abs_mul]
  have h1 := abs_tr_le (hx b o) p m
  have h2 : |coefR m| ≤ 2 / 8192 := by
    unfold coefR; split <;> norm_num [abs_of_pos]
  have h3 := mul_le_mul h1 (mul_le_mul_of_nonneg_right h2 (abs_nonneg d)) (by positivity) (by norm_num)
  refine h3.trans (le_of_eq ?_)
  ring

theorem ratio_lt (hx : Bounded x) (hd : |d| ≤ (2 : ℝ) ^ (124 : ℤ)) (m : ℕ) : amaxR d x m * kappa < (2 : ℝ) ^ (126 : ℤ) := by
  have h : (amaxR d x m : EReal) ≤ ((114688 * |d| : ℝ) : EReal) := by
    rw [amaxR_le]
    exact ⟨EReal.coe_nonneg.2 (by positivity), fun b _ p _ o _ => EReal.coe_le_coe_iff.2 (abs_dyh_le hx p b o m)⟩
  rw [EReal.coe_le_coe_iff] at h
  have hk : 0 < kappa := by unfold kappa; positivity
  calc amaxR d x m * kappa ≤ (114688 * (2 : ℝ) ^ (124 : ℤ)) * kappa :=
        mul_le_mul_of_nonneg_right (h.trans (mul_le_mul_of_nonneg_left hd (by norm_num))) hk.le
    _ < _ := by unfold kappa; norm_num

variable (d x)

/-- What the three buffers that live on hold before point `n`: the spectra of the batches so far, the greatest magnitudes among
    them by rows of channels, and from point 25 on the inverse scales. -/
structure Inv (n : ℕ) (d0 : Vec Ideal S24x2x160x1024 .f32) (d1 d2 : Vec Ideal S8x1024 .f32) : Prop where
  y : ∀ (b : Fin 24), (b : ℕ) < n → ∀ (p : Fin 2) (o : Fin 160) (c : Fin 1024), d0 (ix4 b p o c) = (dyh p d (x b o) (modeOf c) : EReal)
  a : 0 < n → n ≤ 24 → ∀ (k : Fin 8) (c : Fin 1024) (z : EReal), d1 (ix2 k c) ≤ z
    ↔ 0 ≤ z ∧ ∀ b < min n 24, ∀ p < 2, ∀ q < 20, ((|dyh p d (x b (8 * q + k)) (modeOf c)| : ℝ) : EReal) ≤ z
  v : 24 < n → ∀ c : Fin 1024, d2 (ix2 0 c) = (((2 : ℝ) ^ (-expR (amaxR d x (modeOf c) * kappa)) : ℝ) : EReal)

/-- Nothing is held before the first point. -/
theorem Inv.start (d0 : Vec Ideal S24x2x160x1024 .f32) (d1 d2 : Vec Ideal S8x1024 .f32) : Inv d x 0 d0 d1 d2 :=
  ⟨fun b h => absurd h (Nat.not_lt_zero _), fun h => absurd h (Nat.lt_irrefl _), fun h => absurd h (Nat.not_lt_zero _)⟩

/-- The code of a batch's value. -/
def codeR (b p o m : ℕ) : ℝ := clipR ((dyh p d (x b o) m * (2 : ℝ) ^ (-expR (amaxR d x m * kappa)) : ℝ) : EReal)
/-- What a point leaves in the window of one part's codes; -/
def RCode (p t : ℕ) (X : Vec Ideal S1x160x1024 .fp8e5m2) : Prop :=
  24 ≤ t → ∀ (o : Fin 160) (m : Fin 1024), X (ix3 0 o m) = (codeR d x (t - 24) p o m : EReal)
/-- in the window of the scales. -/
def RScale (t : ℕ) (X : Vec Ideal S1x1024 .f32) : Prop :=
  24 ≤ t → ∀ m : Fin 1024, X (ix2 0 m) = (((2 : ℝ) ^ (expR (amaxR d x m * kappa)) : ℝ) : EReal)

variable {d x}

section fill

variable (i : grid0.Coords) (h : k0_cond2 i = 1#1) {v : ℕ → ℕ → FVec Ideal S160x256 .f32}
  (hv : ∀ (p : Fin 2) (r : Fin 4) (o : Fin 160) (c : Fin 256), v p r (ix2 o c) = (dyh p d (x (i 0).val o) (4 * c + r) : EReal))

include hv

theorem fill_y (arg12 : Memref sig .tc .vmem S24x2x160x1024 .f32) (harg12 : arg12.IsWhole) (d0 : Vec Ideal S24x2x160x1024 .f32)
    (hy : ∀ (b : Fin 24), (b : ℕ) < (i 0).val → ∀ (p : Fin 2) (o : Fin 160) (c : Fin 1024), d0 (ix4 b p o c) = (dyh p d (x b o) (modeOf c) : EReal))
    (b : Fin 24) (hb : (b : ℕ) < (i 0).val + 1) (p : Fin 2) (o : Fin 160) (c : Fin 1024) :
    arg12.view.read (Elt Ideal) (arg12.view.writes (Elt Ideal) (harg12.unread d0) (listY i h v)) (ix4 b p o c) = (dyh p d (x b o) (modeOf c) : EReal) := by
  by_cases hbt : (b : ℕ) = (i 0).val
  · refine (listY_here v i h _ (fun p r o c => dyh p d (x (i 0).val o) (4 * c + r)) hv (ix4 b p o c) hbt).trans ?_
    change ((dyh p d (x (i 0).val o) (4 * ((c : ℕ) % 256) + (c : ℕ) / 256) : ℝ) : EReal) = _
    rw [← hbt]; rfl
  · refine (listY_there v i h _ (ix4 b p o c) hbt).trans ?_
    rw [harg12.read_unread]
    exact hy b (by omega) p o c

omit hv in
theorem col_split (c : Fin 1024) : c = ⟨256 * ((⟨(c : ℕ) / 256, by omega⟩ : Fin 4) : ℕ) + ((⟨(c : ℕ) % 256, by omega⟩ : Fin 256) : ℕ), by simp only; omega⟩ :=
  Fin.ext (by simp only; omega)

theorem inv_first (hi : (i 0).val = 0) (arg12 : Memref sig .tc .vmem S24x2x160x1024 .f32) (harg12 : arg12.IsWhole)
    (arg13 : Memref sig .tc .vmem S8x1024 .f32) (d0 : Vec Ideal S24x2x160x1024 .f32) (d2 : Vec Ideal S8x1024 .f32) (f : arg13.view.ty.Contents (Elt Ideal)) :
    Inv d x 1 (arg12.view.read (Elt Ideal) (arg12.view.writes (Elt Ideal) (harg12.unread d0) (listY i h v)))
      (arg13.view.read (Elt Ideal) (arg13.view.writes (Elt Ideal) f (listA0 arg13 v))) d2 := by
  refine ⟨fun b hb p o c => fill_y i h hv arg12 harg12 d0 (fun b hb => absurd hb (by omega)) b (by omega) p o c, fun _ _ k c z => ?_, fun h => absurd h (by omega)⟩
  rw [View.read_writes_apply_eq_canon _ _ _ _ (cover_listA0 arg13 v _)]
  have := canon_listA0_le arg13 v (fun p r o c => dyh p d (x (i 0).val o) (4 * c + r)) hv ⟨(c : ℕ) / 256, by omega⟩ k ⟨(c : ℕ) % 256, by omega⟩ z
  rw [← col_split c] at this
  rw [this]
  refine and_congr_right fun _ => ⟨fun H b hb p hp q hq => ?_, fun H p hp q hq => ?_⟩
  · obtain rfl : b = 0 := by omega
    rw [← hi]; exact H p hp q hq
  · have := H 0 (by omega) p hp q hq
    rw [← hi] at this; exact this

theorem inv_next (n : ℕ) (hn : 0 < n) (hn24 : n < 24) (hi : (i 0).val = n) (arg12 : Memref sig .tc .vmem S24x2x160x1024 .f32) (harg12 : arg12.IsWhole)
    (arg13 : Memref sig .tc .vmem S8x1024 .f32) (harg13 : arg13.IsWhole) (d0 : Vec Ideal S24x2x160x1024 .f32) (d1 d2 d2' : Vec Ideal S8x1024 .f32)
    (f : arg13.view.ty.Contents (Elt Ideal)) (hI : Inv d x n d0 d1 d2) :
    Inv d x (n + 1) (arg12.view.read (Elt Ideal) (arg12.view.writes (Elt Ideal) (harg12.unread d0) (listY i h v)))
      (arg13.view.read (Elt Ideal) (arg13.view.writes (Elt Ideal) f (listA1 arg13 harg13 d1 v))) d2' := by
  refine ⟨fun b hb p o c => fill_y i h hv arg12 harg12 d0 (fun b hb => hI.y b (by omega)) b (by omega) p o c, fun _ _ k c z => ?_, fun h => absurd h (by omega)⟩
  rw [View.read_writes_apply_eq_canon _ _ _ _ (cover_listA1 arg13 harg13 d1 v _)]
  have := canon_listA1_le arg13 harg13 d1 v (fun p r o c => dyh p d (x (i 0).val o) (4 * c + r)) hv ⟨(c : ℕ) / 256, by omega⟩ k ⟨(c : ℕ) % 256, by omega⟩ z
  rw [← col_split c, hI.a hn (by omega) k c z] at this
  rw [this, and_assoc]
  refine and_congr_right fun _ => ⟨fun H b hb p hp q hq => ?_, fun H => ⟨fun b hb => H b (by omega), fun p hp q hq => ?_⟩⟩
  · by_cases hb' : b = n
    · subst hb'; rw [← hi]; exact H.2 p hp q hq
    · exact H.1 b (by omega) p hp q hq
  · have := H n (by omega) p hp q hq
    rw [← hi] at this; exact this

end fill

section done

variable {d0 : Vec Ideal S24x2x160x1024 .f32} {d1 d2 : Vec Ideal S8x1024 .f32}

/-- The greatest of the eight rows of maxima. -/
theorem Inv.amax (hI : Inv d x 24 d0 d1 d2) (c : Fin 1024) :
    Finset.fold max (Ideal.ofBits FTy.f32 4286578688#32) (fun q : Fin 8 => d1 (ix2 q c)) Finset.univ = (amaxR d x (modeOf c) : EReal) := by
  refine eq_of_forall_ge_iff fun z => ?_
  rw [Finset.fold_max_le, amaxR_le, bits_bot]
  simp only [bot_le, true_and, Finset.mem_univ, forall_true_left]
  constructor
  · intro H
    refine ⟨((hI.a (by omega) le_rfl 0 c z).1 (H 0)).1, fun b hb p hp o ho => ?_⟩
    have := ((hI.a (by omega) le_rfl ⟨o % 8, by omega⟩ c z).1 (H _)).2 b (by omega) p hp (o / 8) (by omega)
    rwa [show 8 * (o / 8) + ((⟨o % 8, by omega⟩ : Fin 8) : ℕ) = o by simp only; omega] at this
  · rintro ⟨h0, H⟩ k
    exact (hI.a (by omega) le_rfl k c z).2 ⟨h0, fun b hb p hp q hq => H b (by omega) p hp _ (by omega)⟩

theorem Inv.field (hI : Inv d x 24 d0 d1 d2) (hx : Bounded x) (hd : |d| ≤ (2 : ℝ) ^ (124 : ℤ))
    (arg13 : Memref sig .tc .vmem S8x1024 .f32) (harg13 : arg13.IsWhole) (r : Fin 8) (c : Fin 1024) :
    fieldOf arg13 harg13 d1 (ix2 r c) = BitVec.ofNat 32 (fieldN (amaxR d x (modeOf c) * kappa)) :=
  field_at arg13 harg13 d1 r c _ (hI.amax c) (ratio_lt hx hd _)

/-- The inverse scales once stored. -/
theorem Inv.scales (hI : Inv d x 24 d0 d1 d2) (hx : Bounded x) (hd : |d| ≤ (2 : ℝ) ^ (124 : ℤ))
    (arg13 : Memref sig .tc .vmem S8x1024 .f32) (harg13 : arg13.IsWhole) (r : Fin 8) (c : Fin 1024) :
    View.canon (listInv (F := Ideal) (fieldOf arg13 harg13 d1)) (ix2 r c) = (((2 : ℝ) ^ (-expR (amaxR d x (modeOf c) * kappa)) : ℝ) : EReal) := by
  rw [canon_listInv]
  exact inv_at _ r c _ (ratio_lt hx hd _) (hI.field hx hd arg13 harg13 r c)

theorem Inv.last (hI : Inv d x 24 d0 d1 d2) (hx : Bounded x) (hd : |d| ≤ (2 : ℝ) ^ (124 : ℤ))
    (arg13 : Memref sig .tc .vmem S8x1024 .f32) (harg13 : arg13.IsWhole) (arg14 : Memref sig .tc .vmem S8x1024 .f32) (f : arg14.view.ty.Contents (Elt Ideal)) :
    Inv d x 25 d0 d1 (arg14.view.read (Elt Ideal) (arg14.view.writes (Elt Ideal) f (listInv (fieldOf arg13 harg13 d1)))) := by
  refine ⟨fun b hb => hI.y b (by omega), fun _ h => absurd h (by omega), fun _ c => ?_⟩
  rw [View.read_writes_apply_eq_canon _ _ _ _ (mem_listInv _ _)]
  exact hI.scales hx hd arg13 harg13 0 c

theorem Inv.keep {n : ℕ} (hn : 25 ≤ n) (hI : Inv d x n d0 d1 d2) (d1' : Vec Ideal S8x1024 .f32) : Inv d x (n + 1) d0 d1' d2 :=
  ⟨fun b _ => hI.y b (by omega), fun _ h => absurd h (by omega), fun _ => hI.v (by omega)⟩

theorem scale_stored (hI : Inv d x 24 d0 d1 d2) (hx : Bounded x) (hd : |d| ≤ (2 : ℝ) ^ (124 : ℤ))
    (arg13 : Memref sig .tc .vmem S8x1024 .f32) (harg13 : arg13.IsWhole) (arg11 : Memref sig .tc .vmem S1x1024 .f32) (f : arg11.view.ty.Contents (Elt Ideal)) :
    RScale d x 24 (arg11.view.read (Elt Ideal) (arg11.view.writes (Elt Ideal) f (listScale (fieldOf arg13 harg13 d1)))) := by
  intro _ m
  rw [View.read_writes_apply_eq_canon _ _ _ _ (mem_listScale _ m)]
  rw [canon_listScale _ (fun c => (2 : ℝ) ^ (expR (amaxR d x (modeOf c) * kappa))) (fun c => scale_at _ 0 c _ (ratio_lt hx hd _) (hI.field hx hd arg13 harg13 0 c)) m,
    modeOf_colOf _ m.isLt]

variable (i : grid0.Coords) (h : k0_cond4 i = 1#1)

theorem cOff_zero (t : Fin 48) (ht : 24 ≤ (t : ℕ)) : (Scalar.indexCast (Scalar.subi (BitVec.ofNat 32 t) 24#32)).toNat = t - 24 := by
  revert t; decide +kernel

theorem ldY_at (arg12 : Memref sig .tc .vmem S24x2x160x1024 .f32) (harg12 : arg12.IsWhole) (hi : 24 ≤ (i 0).val) (hi' : (i 0).val < 48) (p : Fin 2) (q : ℕ) (hq : q < 8)
    (o : Fin 160) (l : Fin 128) :
    ldY arg12 harg12 d0 i h p q (ix4 0 0 o l) = d0 (ix4 ⟨(i 0).val - 24, by omega⟩ p o ⟨128 * q + l, by omega⟩) := by
  unfold ldY
  rw [View.readAt_eq_ld, harg12.read_unread]
  refine congrArg d0 (funext fun a => Fin.ext ?_)
  have e := cOff_zero ⟨(i 0).val, hi'⟩ hi
  fin_cases a
  · change (Scalar.indexCast (Scalar.subi (BitVec.ofNat 32 (i 0).val) 24#32)).toNat + 1 * 0 = (i 0).val - 24
    rw [e]; rfl
  · change (p : ℕ) % 2 + 1 * 0 = p; omega
  · change 0 + 1 * (o : ℕ) = o; omega
  · change 128 * (q % 8) + 1 * (l : ℕ) = 128 * q + l; omega

theorem code_stored (hi : 24 ≤ (i 0).val) (hi' : (i 0).val < 48) (arg12 : Memref sig .tc .vmem S24x2x160x1024 .f32) (harg12 : arg12.IsWhole) (n : ℕ) (hn : 24 ≤ n)
    (hI : Inv d x n d0 d1 d2) (v : ℕ → Vec Ideal S1x128 .f32)
    (hv : ∀ q < 8, ∀ l : Fin 128, v q (ix2 0 l) = (((2 : ℝ) ^ (-expR (amaxR d x (modeOf (128 * q + l)) * kappa)) : ℝ) : EReal))
    (arg9 : Memref sig .tc .vmem S1x160x1024 .fp8e5m2) (f : arg9.view.ty.Contents (Elt Ideal)) (p : Fin 2) :
    RCode d x p (i 0).val (arg9.view.read (Elt Ideal) (arg9.view.writes (Elt Ideal) f (listCode (ldY arg12 harg12 d0 i h p) v))) := by
  intro _ o m
  rw [View.read_writes_apply_eq_canon _ _ _ _ (mem_listCode _ _ o m)]
  rw [canon_listCode _ _ (fun o c => dyh p d (x ((i 0).val - 24) o) (modeOf c)) (fun c => (2 : ℝ) ^ (-expR (amaxR d x (modeOf c) * kappa)))
    (fun q hq o l => ?_) hv o m, modeOf_colOf _ m.isLt]
  · rfl
  · rw [ldY_at i h arg12 harg12 hi hi' p q hq o l]
    exact hI.y _ (by simp only; omega) p o _

theorem ldV0_at (hI : Inv d x 24 d0 d1 d2) (hx : Bounded x) (hd : |d| ≤ (2 : ℝ) ^ (124 : ℤ)) (arg13 : Memref sig .tc .vmem S8x1024 .f32) (harg13 : arg13.IsWhole)
    (arg14 : Memref sig .tc .vmem S8x1024 .f32) (q : ℕ) (hq : q < 8) (l : Fin 128) :
    ldV0 (F := Ideal) arg14 (fieldOf arg13 harg13 d1) q (ix2 0 l) = (((2 : ℝ) ^ (-expR (amaxR d x (modeOf (128 * q + l)) * kappa)) : ℝ) : EReal) := by
  unfold ldV0
  refine (congrFun (View.readCov_eq_canon' _ _ _) _).trans ((congrArg (View.canon (listInv (F := Ideal) (fieldOf arg13 harg13 d1))) ?_).trans (hI.scales hx hd arg13 harg13 0 ⟨128 * q + l, by omega⟩))
  funext a; apply Fin.ext
  fin_cases a
  · rfl
  · change 128 * (q % 8) + 1 * (l : ℕ) = 128 * q + l; omega
theorem ldV1_at {n : ℕ} (hn : 25 ≤ n) (hI : Inv d x n d0 d1 d2) (arg14 : Memref sig .tc .vmem S8x1024 .f32) (harg14 : arg14.IsWhole) (q : ℕ) (hq : q < 8) (l : Fin 128) :
    ldV1 arg14 harg14 d2 q (ix2 0 l) = (((2 : ℝ) ^ (-expR (amaxR d x (modeOf (128 * q + l)) * kappa)) : ℝ) : EReal) := by
  unfold ldV1
  rw [View.readAt_eq_ld, harg14.read_unread]
  refine (congrArg d2 ?_).trans (hI.v (by omega) ⟨128 * q + l, by omega⟩)
  funext a; apply Fin.ext
  fin_cases a
  · rfl
  · change 128 * (q % 8) + 1 * (l : ℕ) = 128 * q + l; omega

end done

end Cert.DftIdeal.Gen

end
-- ==== Proof.DftIdeal.BodyVal.lean ====
/- What a point of the grid does to the scratch and to the results, in the terms of the invariant: the body's obligation. -/
module

public import proofs.«01_k».proof.Proof.DftIdeal.EqA
public import proofs.«01_k».proof.Proof.DftIdeal.EqB
public import proofs.«01_k».proof.Proof.DftIdeal.EqC
public import proofs.«01_k».proof.Proof.DftIdeal.EqD
public import proofs.«01_k».proof.Proof.DftIdeal.Inv

@[expose] public section

set_option maxRecDepth 16384

noncomputable section

namespace Cert.DftIdeal.Gen

open Idealize.ShloMosaic Idealize.ShloMosaic.TcCoe

variable {d : ℝ} {x : ℕ → ℕ → ℕ → ℝ}

/-- After the first point. -/
theorem invA (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : cond0_0 i) (hc1 : cond0_1 i) (hc2 : ¬cond0_2 i) (hc3 : ¬cond0_3 i)
    (x0 : Vec Ideal S1 .f32) (x1 : Vec Ideal S1x160x8192 .fp8e5m2) (x2 : Vec Ideal S2048x512 .bf16) (x3 : Vec Ideal S2048x512 .bf16) (x4 : Vec Ideal S1024x256 .bf16) (x5 : Vec Ideal S1024x256 .bf16) (x6 : Vec Ideal S1024x256 .bf16) (x7 : Vec Ideal S1024x256 .bf16) (xs0 : Vec Ideal S24x2x160x1024 .f32)
    (hT : Tables x2 x3 x4 x5 x6 x7) (hd : x0 (ix1 0) = (d : EReal)) (hX : xr x1 = x (i 0).val) (hi : (i 0).val = 0) (d2 : Vec Ideal S8x1024 .f32) (f : arg13.view.ty.Contents (Elt Ideal)) :
    Inv d x 1 (arg12.view.read (Elt Ideal) (arg12.view.writes (Elt Ideal) (harg12.unread xs0) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0).1))
      (arg13.view.read (Elt Ideal) (arg13.view.writes (Elt Ideal) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0).2.1)) d2 := by
  refine Eq.mpr (congrArg₂ (fun L L' => Inv d x 1 (arg12.view.read (Elt Ideal) (arg12.view.writes (Elt Ideal) (harg12.unread xs0) L))
    (arg13.view.read (Elt Ideal) (arg13.view.writes (Elt Ideal) f L')) d2) (runA_y c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 hc1) (runA_a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0)) ?_
  refine inv_first i hc1 (fun p r o l => ?_) hi arg12 harg12 arg13 xs0 d2 f
  rw [← hX]
  exact (spec_at (arg1 := arg1) (harg1 := harg1) (arg2 := arg2) (harg2 := harg2) (arg3 := arg3) (arg4 := arg4) (harg3 := harg3) (harg4 := harg4) (arg5 := arg5) (arg6 := arg6) (arg7 := arg7) (arg8 := arg8) (harg5 := harg5) (harg6 := harg6) (harg7 := harg7) (harg8 := harg8) (arg15 := arg15) (arg16 := arg16) (arg17 := arg17) (arg18 := arg18) (arg19 := arg19) (arg20 := arg20) (arg21 := arg21) (x0 := x0) (x1 := x1) (hT := hT) (hd := hd) (p := p) (r := r) (o := o) (c := l))

/-- After a point that transforms a later batch. -/
theorem invB (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : cond0_1 i) (hc2 : ¬cond0_2 i) (hc3 : ¬cond0_3 i)
    (x0 : Vec Ideal S1 .f32) (x1 : Vec Ideal S1x160x8192 .fp8e5m2) (x2 : Vec Ideal S2048x512 .bf16) (x3 : Vec Ideal S2048x512 .bf16) (x4 : Vec Ideal S1024x256 .bf16) (x5 : Vec Ideal S1024x256 .bf16) (x6 : Vec Ideal S1024x256 .bf16) (x7 : Vec Ideal S1024x256 .bf16) (xs0 : Vec Ideal S24x2x160x1024 .f32) (xs1 : Vec Ideal S8x1024 .f32)
    (hT : Tables x2 x3 x4 x5 x6 x7) (hd : x0 (ix1 0) = (d : EReal)) (hX : xr x1 = x (i 0).val) (n : ℕ) (hn : 0 < n) (hn24 : n < 24) (hi : (i 0).val = n) (d2 d2' : Vec Ideal S8x1024 .f32)
    (hI : Inv d x n xs0 xs1 d2) :
    Inv d x (n + 1) (arg12.view.read (Elt Ideal) (arg12.view.writes (Elt Ideal) (harg12.unread xs0) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1).1))
      (arg13.view.read (Elt Ideal) (arg13.view.writes (Elt Ideal) (harg13.unread xs1) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1).2.1)) d2' := by
  refine Eq.mpr (congrArg₂ (fun L L' => Inv d x (n + 1) (arg12.view.read (Elt Ideal) (arg12.view.writes (Elt Ideal) (harg12.unread xs0) L))
    (arg13.view.read (Elt Ideal) (arg13.view.writes (Elt Ideal) (harg13.unread xs1) L')) d2') (runB_y c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1 hc1) (runB_a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1)) ?_
  refine inv_next i hc1 (fun p r o l => ?_) n hn hn24 hi arg12 harg12 arg13 harg13 xs0 xs1 d2 d2' _ hI
  rw [← hX]
  exact (spec_at (arg1 := arg1) (harg1 := harg1) (arg2 := arg2) (harg2 := harg2) (arg3 := arg3) (arg4 := arg4) (harg3 := harg3) (harg4 := harg4) (arg5 := arg5) (arg6 := arg6) (arg7 := arg7) (arg8 := arg8) (harg5 := harg5) (harg6 := harg6) (harg7 := harg7) (harg8 := harg8) (arg15 := arg15) (arg16 := arg16) (arg17 := arg17) (arg18 := arg18) (arg19 := arg19) (arg20 := arg20) (arg21 := arg21) (x0 := x0) (x1 := x1) (hT := hT) (hd := hd) (p := p) (r := r) (o := o) (c := l))

/-- After the point that forms the scales. -/
theorem invC (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : cond0_2 i) (hc3 : cond0_3 i)
    (x0 : Vec Ideal S1 .f32) (x1 : Vec Ideal S1x160x8192 .fp8e5m2) (x2 : Vec Ideal S2048x512 .bf16) (x3 : Vec Ideal S2048x512 .bf16) (x4 : Vec Ideal S1024x256 .bf16) (x5 : Vec Ideal S1024x256 .bf16) (x6 : Vec Ideal S1024x256 .bf16) (x7 : Vec Ideal S1024x256 .bf16) (xs0 : Vec Ideal S24x2x160x1024 .f32) (xs1 : Vec Ideal S8x1024 .f32)
    (hi : (i 0).val = 24) (d2 : Vec Ideal S8x1024 .f32) (hI : Inv d x 24 xs0 xs1 d2) (hx : Bounded x) (hd : |d| ≤ (2 : ℝ) ^ (124 : ℤ)) (f : arg14.view.ty.Contents (Elt Ideal)) :
    Inv d x 25 xs0 xs1 (arg14.view.read (Elt Ideal) (arg14.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1).2.2.2.1)) := by
  rw [runC_v (h := hc3)]
  exact hI.last hx hd arg13 harg13 arg14 f

/-- The codes that point stores. -/
theorem codeC_re (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : cond0_2 i) (hc3 : cond0_3 i)
    (x0 : Vec Ideal S1 .f32) (x1 : Vec Ideal S1x160x8192 .fp8e5m2) (x2 : Vec Ideal S2048x512 .bf16) (x3 : Vec Ideal S2048x512 .bf16) (x4 : Vec Ideal S1024x256 .bf16) (x5 : Vec Ideal S1024x256 .bf16) (x6 : Vec Ideal S1024x256 .bf16) (x7 : Vec Ideal S1024x256 .bf16) (xs0 : Vec Ideal S24x2x160x1024 .f32) (xs1 : Vec Ideal S8x1024 .f32)
    (hi : (i 0).val = 24) (d2 : Vec Ideal S8x1024 .f32) (hI : Inv d x 24 xs0 xs1 d2) (hx : Bounded x) (hd : |d| ≤ (2 : ℝ) ^ (124 : ℤ)) (f : arg9.view.ty.Contents (Elt Ideal)) :
    RCode d x 0 24 (arg9.view.read (Elt Ideal) (arg9.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1).1)) := by
  rw [runC_re (h := hc3)]
  have := code_stored i hc3 (by omega) (by omega) arg12 harg12 24 le_rfl hI _ (fun q hq l => ldV0_at hI hx hd arg13 harg13 arg14 q hq l) arg9 f 0
  rwa [hi] at this

/-- The codes that point stores. -/
theorem codeC_im (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : cond0_2 i) (hc3 : cond0_3 i)
    (x0 : Vec Ideal S1 .f32) (x1 : Vec Ideal S1x160x8192 .fp8e5m2) (x2 : Vec Ideal S2048x512 .bf16) (x3 : Vec Ideal S2048x512 .bf16) (x4 : Vec Ideal S1024x256 .bf16) (x5 : Vec Ideal S1024x256 .bf16) (x6 : Vec Ideal S1024x256 .bf16) (x7 : Vec Ideal S1024x256 .bf16) (xs0 : Vec Ideal S24x2x160x1024 .f32) (xs1 : Vec Ideal S8x1024 .f32)
    (hi : (i 0).val = 24) (d2 : Vec Ideal S8x1024 .f32) (hI : Inv d x 24 xs0 xs1 d2) (hx : Bounded x) (hd : |d| ≤ (2 : ℝ) ^ (124 : ℤ)) (f : arg10.view.ty.Contents (Elt Ideal)) :
    RCode d x 1 24 (arg10.view.read (Elt Ideal) (arg10.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1).2.1)) := by
  rw [runC_im (h := hc3)]
  have := code_stored i hc3 (by omega) (by omega) arg12 harg12 24 le_rfl hI _ (fun q hq l => ldV0_at hI hx hd arg13 harg13 arg14 q hq l) arg10 f 1
  rwa [hi] at this

/-- The scales that point stores. -/
theorem scaleC (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : cond0_2 i) (hc3 : cond0_3 i)
    (x0 : Vec Ideal S1 .f32) (x1 : Vec Ideal S1x160x8192 .fp8e5m2) (x2 : Vec Ideal S2048x512 .bf16) (x3 : Vec Ideal S2048x512 .bf16) (x4 : Vec Ideal S1024x256 .bf16) (x5 : Vec Ideal S1024x256 .bf16) (x6 : Vec Ideal S1024x256 .bf16) (x7 : Vec Ideal S1024x256 .bf16) (xs0 : Vec Ideal S24x2x160x1024 .f32) (xs1 : Vec Ideal S8x1024 .f32)
    (hi : (i 0).val = 24) (d2 : Vec Ideal S8x1024 .f32) (hI : Inv d x 24 xs0 xs1 d2) (hx : Bounded x) (hd : |d| ≤ (2 : ℝ) ^ (124 : ℤ)) (f : arg11.view.ty.Contents (Elt Ideal)) :
    RScale d x 24 (arg11.view.read (Elt Ideal) (arg11.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs1).2.2.1)) := by
  rw [runC_s (h := hc3)]
  exact scale_stored hI hx hd arg13 harg13 arg11 f

/-- The codes a later point stores. -/
theorem codeD_re (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : ¬cond0_2 i) (hc3 : cond0_3 i)
    (x0 : Vec Ideal S1 .f32) (x1 : Vec Ideal S1x160x8192 .fp8e5m2) (x2 : Vec Ideal S2048x512 .bf16) (x3 : Vec Ideal S2048x512 .bf16) (x4 : Vec Ideal S1024x256 .bf16) (x5 : Vec Ideal S1024x256 .bf16) (x6 : Vec Ideal S1024x256 .bf16) (x7 : Vec Ideal S1024x256 .bf16) (xs0 : Vec Ideal S24x2x160x1024 .f32) (xs2 : Vec Ideal S8x1024 .f32) (x10 : Vec Ideal S1x1024 .f32)
    (n : ℕ) (hn : 25 ≤ n) (hn48 : n < 48) (hi : (i 0).val = n) (d1 : Vec Ideal S8x1024 .f32) (hI : Inv d x n xs0 d1 xs2) (f : arg9.view.ty.Contents (Elt Ideal)) :
    RCode d x 0 n (arg9.view.read (Elt Ideal) (arg9.view.writes (Elt Ideal) f (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs2 x10).1)) := by
  rw [runD_re (h := hc3)]
  have := code_stored i hc3 (by omega) (by omega) arg12 harg12 n (by omega) hI _ (fun q hq l => ldV1_at hn hI arg14 harg14 q hq l) arg9 f 0
  rwa [hi] at this

/-- The codes a later point stores. -/
theorem codeD_im (c : Dev nD) (i : grid0.Coords) (arg1 : Memref sig .tc .smem S1 .f32) (harg1 : arg1.IsWhole) (arg2 : Memref sig .tc .vmem S1x160x8192 .fp8e5m2) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x160x1024 .fp8e5m2) (harg9 : arg9.IsWhole) (arg10 : Memref sig .tc .vmem S1x160x1024 .fp8e5m2) (harg10 : arg10.IsWhole) (arg11 : Memref sig .tc .vmem S1x1024 .f32) (harg11 : arg11.IsWhole) (arg12 : Memref sig .tc .vmem S24x2x160x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S160x128 .f32) (harg15 : arg15.IsWhole) (arg16 : Memref sig .tc .vmem S3x160x2048 .bf16) (harg16 : arg16.IsWhole) (arg17 : Memref sig .tc .vmem S3x160x2048 .bf16) (harg17 : arg17.IsWhole) (arg18 : Memref sig .tc .vmem S3x160x1024 .bf16) (harg18 : arg18.IsWhole) (arg19 : Memref sig .tc .vmem S3x160x1024 .bf16) (harg19 : arg19.IsWhole) (arg20 : Memref sig .tc .vmem S3x160x1024 .bf16) (harg20 : arg20.IsWhole) (arg21 : Memref sig .tc .vmem S3x160x1024 .bf16) (harg21 : arg21.IsWhole) (hc0 : ¬cond0_0 i) (hc1 : ¬cond0_1 i) (hc2 : ¬cond0_2 i) (hc3 : cond0_3 i)
    (x0 : Vec Ideal S1 .f32) (x1 : Vec Ideal S1x160x8192 .fp8e5m2) (x2 : Vec Ideal S2048x512 .bf16) (x3 : Vec Ideal S2048x512 .bf16) (x4 : Vec Ideal S1024x256 .bf16) (x5 : Vec Ideal S1024x256 .bf16) (x6 : Vec Ideal S1024x256 .bf16) (x7 : Vec Ideal S1024x256 .bf16) (xs0 : Vec Ideal S24x2x160x1024 .f32) (xs2 : Vec Ideal S8x1024 .f32) (x10 : Vec Ideal S1x1024 .f32)
    (n : ℕ) (hn : 25 ≤ n) (hn48 : n < 48) (hi : (i 0).val = n) (d1 : Vec Ideal S8x1024 .f32) (hI : Inv d x n xs0 d1 xs2) (f : arg10.view.ty.Contents (Elt Ideal)) :
    RCode d x 1 n (arg10.view.read (Elt Ideal) (arg10.view.writes (Elt Ideal) f (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 x4 x5 x6 x7 xs0 xs2 x10).2.1)) := by
  rw [runD_im (h := hc3)]
  have := code_stored i hc3 (by omega) (by omega) arg12 harg12 n (by omega) hI _ (fun q hq l => ldV1_at hn hI arg14 harg14 q hq l) arg10 f 1
  rwa [hi] at this

end Cert.DftIdeal.Gen

end
-- ==== Proof.DftIdeal.Body.lean ====
/- The run of the whole grid, with what it leaves in the results: the invariant between points, the body's obligation at every
   point, and the launch. -/
module

public import proofs.«01_k».proof.Proof.DftIdeal.BodyVal
public import Idealize.ShloMosaic.Lib.Claim
public import Idealize.ShloMosaic.Lib.Pipeline.DatRel

@[expose] public section

set_option maxRecDepth 16384

noncomputable section

namespace Cert.DftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg) (d : Dev nD → ℝ) (x : Dev nD → ℕ → ℕ → ℕ → ℝ)

/-- What the operands of the region hold, in terms of a real scale and real samples within the format's range. -/
structure Good (c : Dev nD) : Prop where
  tab : ∀ t, Tables (iblk m c 2 t) (iblk m c 3 t) (iblk m c 4 t) (iblk m c 5 t) (iblk m c 6 t) (iblk m c 7 t)
  scale : ∀ t, iblk m c 0 t (ix1 0) = (d c : EReal)
  sample : ∀ t : Fin cfg0.N, t.val < 24 → xr (iblk m c 1 t) = x c t.val
  bound : Bounded (x c)
  size : |d c| ≤ (2 : ℝ) ^ (124 : ℤ)

/-- The scratch before point `n`. -/
def PhiV (c : Dev nD) (n : ℕ) : sProp 𝕄 :=
  iprop(iprop((∃ d0 d1 d2, ⌜Inv (d c) (x c) n d0 d1 d2⌝ ∗ owns (c : Thread nD τ) scM0_0 fullShare d0 ∗ owns (c : Thread nD τ) scM0_1 fullShare d1 ∗ owns (c : Thread nD τ) scM0_2 fullShare d2)
    ∗ (∃ e, owns (c : Thread nD τ) scM0_3 fullShare e)
    ∗ (∃ e, owns (c : Thread nD τ) scM0_4 fullShare e)
    ∗ (∃ e, owns (c : Thread nD τ) scM0_5 fullShare e)
    ∗ (∃ e, owns (c : Thread nD τ) scM0_6 fullShare e)
    ∗ (∃ e, owns (c : Thread nD τ) scM0_7 fullShare e)
    ∗ (∃ e, owns (c : Thread nD τ) scM0_8 fullShare e)
    ∗ (∃ e, owns (c : Thread nD τ) scM0_9 fullShare e)) ∗ (∃ r, prngReg c r))

/-- What a point is called with, and what it returns; `O` goes with it. -/
def preV (O : sProp 𝕄) (P8 P9 : Vec Ideal S1x160x1024 .fp8e5m2 → Prop) (P10 : Vec Ideal S1x1024 .f32 → Prop) (n : ℕ) (c : Dev nD) (t : Fin cfg0.N) : sProp 𝕄 :=
  iprop(PhiV d x c n ∗ O
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ (∃ Y, ⌜P8 Y⌝ ∗ owns (c : Thread nD τ) (ms0_8 t) fullShare Y)
    ∗ (∃ Y, ⌜P9 Y⌝ ∗ owns (c : Thread nD τ) (ms0_9 t) fullShare Y)
    ∗ (∃ Y, ⌜P10 Y⌝ ∗ owns (c : Thread nD τ) (ms0_10 t) fullShare Y))

/-- A buffer after stores holds something. -/
theorem owns_some {sp : Space} {s : Shape} {e : EltTy} (arg : Memref sig .tc sp s e) (c : Dev nD) (L : List (View.Piece (Elt Ideal) s e)) :
    iprop(∃ f, arg.view.loc (c : Thread nD τ) ↦[arg.view.set]{fullShare} arg.view.writes (Elt Ideal) f L) ⊢ (iprop(∃ e, owns (c : Thread nD τ) arg fullShare e) : sProp 𝕄) := by
  iintro ⟨%f, H⟩
  iexists _; unfold owns; iexists _; isplitr
  swap; · iexact H
  ipureintro; rfl

theorem coord_val (t : Fin cfg0.N) : (grid0.coords t 0).val = t.val := by
  have e0 : (grid0.coords t 0).val = t.val / 1 % 48 := Pipeline.Grid.coords_val t 0 (by decide) rfl
  have hN : t.val < 48 := lt_of_lt_of_eq t.isLt (show cfg0.N = 48 from N_0)
  omega

variable {m d x}

set_option maxHeartbeats 32000000 in
/-- The first point. -/
theorem soundA (O : sProp 𝕄) (P8 P9 : Vec Ideal S1x160x1024 .fp8e5m2 → Prop) (P10 : Vec Ideal S1x1024 .f32 → Prop) (c : Dev nD) (hG : Good m d x c) (t : Fin cfg0.N) (ht : t.val = 0) :
    preV m d x O P8 P9 P10 0 c t ⊢ wp frame (wpE (defs₀ (F := Ideal)) Variants.none c none) Set.univ (bodyAt0 t)
      (fun _ => preV m d x O (fun _ => True) (fun _ => True) (fun _ => True) 1 c t) := by
  unfold preV PhiV bodyAt0
  have hN : t.val < 48 := lt_of_lt_of_eq t.isLt (show cfg0.N = 48 from N_0)
  iintro ⟨⟨⟨⟨%d0, %d1, %d2, %hI, HS0, HS1, HS2⟩, HS3, HS4, HS5, HS6, HS7, HS8, HS9⟩, Hg⟩, Ho, H0, H1, H2, H3, H4, H5, H6, H7, ⟨%y8, %h8, H8⟩, ⟨%y9, %h9, H9⟩, ⟨%y10, %h10, H10⟩⟩
  iapply ((runA c (grid0.coords t) _ _ _ _ _ _ _ _ _ _ _ _ _ _ _ _ _ _ _ _ _ _ _ _ _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) (iblk m c 7 t) d0).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexists _; iexact HS1
  isplitl [HS2]; · iexists _; iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, HS0, ⟨%f1, HS1⟩, ⟨%d2', HS2⟩, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0 HS1 HS2]
      · iexists _; iexists _; iexists d2'
        isplitr
        swap
        · isplitl [HS0]
          · unfold owns; iexists _; isplitr
            swap; · iexact HS0
            ipureintro; rfl
          isplitl [HS1]
          · unfold owns; iexists _; isplitr
            swap; · iexact HS1
            ipureintro; rfl
          iexact HS2
        ipureintro; exact invA c (grid0.coords t) _ _ _ _ _ _ _ _ _ _ _ _ _ _ _ _ _ _ _ _ _ _ _ _ _ _ _ _ _ _ _ _ _ _ _ _ _ _ _ _ _ _ _ _ _ _ _ _ _ _ _ _ _ _ _ (hG.tab t) (hG.scale t) ((hG.sample t (by omega)).trans (congrArg (x c) (coord_val t).symm)) ((coord_val t).trans ht) d2' f1
      isplitl [HS3]; · iapply (owns_some _ c _) $$ HS3
      isplitl [HS4]; · iapply (owns_some _ c _) $$ HS4
      isplitl [HS5]; · iapply (owns_some _ c _) $$ HS5
      isplitl [HS6]; · iapply (owns_some _ c _) $$ HS6
      isplitl [HS7]; · iapply (owns_some _ c _) $$ HS7
      isplitl [HS8]; · iapply (owns_some _ c _) $$ HS8
      iapply (owns_some _ c _) $$ HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · icases H8 with ⟨%z8, H8⟩; iexists z8; isplitr
    · ipureintro; exact trivial
    iexact H8
  isplitl [H9]
  · icases H9 with ⟨%z9, H9⟩; iexists z9; isplitr
    · ipureintro; exact trivial
    iexact H9
  icases H10 with ⟨%z10, H10⟩; iexists z10; isplitr
  · ipureintro; exact trivial
  iexact H10

set_option maxHeartbeats 32000000 in
/-- A point that transforms a later batch. -/
theorem soundB (O : sProp 𝕄) (P8 P9 : Vec Ideal S1x160x1024 .fp8e5m2 → Prop) (P10 : Vec Ideal S1x1024 .f32 → Prop) (c : Dev nD) (hG : Good m d x c) (t : Fin cfg0.N) (ht : 0 < t.val) (ht' : t.val < 24) :
    preV m d x O P8 P9 P10 t.val c t ⊢ wp frame (wpE (defs₀ (F := Ideal)) Variants.none c none) Set.univ (bodyAt0 t)
      (fun _ => preV m d x O (fun _ => True) (fun _ => True) (fun _ => True) (t.val + 1) c t) := by
  unfold preV PhiV bodyAt0
  have hN : t.val < 48 := lt_of_lt_of_eq t.isLt (show cfg0.N = 48 from N_0)
  iintro ⟨⟨⟨⟨%d0, %d1, %d2, %hI, HS0, HS1, HS2⟩, HS3, HS4, HS5, HS6, HS7, HS8, HS9⟩, Hg⟩, Ho, H0, H1, H2, H3, H4, H5, H6, H7, ⟨%y8, %h8, H8⟩, ⟨%y9, %h9, H9⟩, ⟨%y10, %h10, H10⟩⟩
  iapply ((runB c (grid0.coords t) _ _ _ _ _ _ _ _ _ _ _ _ _ _ _ _ _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) (iblk m c 7 t) d0 d1).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexists _; iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, HS0, HS1, ⟨%d2', HS2⟩, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0 HS1 HS2]
      · iexists _; iexists _; iexists d2'
        isplitr
        swap
        · isplitl [HS0]
          · unfold owns; iexists _; isplitr
            swap; · iexact HS0
            ipureintro; rfl
          isplitl [HS1]
          · unfold owns; iexists _; isplitr
            swap; · iexact HS1
            ipureintro; rfl
          iexact HS2
        ipureintro; exact invB c (grid0.coords t) _ _ _ _ _ _ _ _ _ _ _ _ _ _ _ _ _ _ _ _ _ _ _ _ _ _ _ _ _ _ _ _ _ _ _ _ _ _ _ _ _ _ _ _ _ _ _ _ _ _ _ _ _ _ _ _ (hG.tab t) (hG.scale t) ((hG.sample t (by omega)).trans (congrArg (x c) (coord_val t).symm)) t.val ht ht' (coord_val t) d2 _ hI
      isplitl [HS3]; · iapply (owns_some _ c _) $$ HS3
      isplitl [HS4]; · iapply (owns_some _ c _) $$ HS4
      isplitl [HS5]; · iapply (owns_some _ c _) $$ HS5
      isplitl [HS6]; · iapply (owns_some _ c _) $$ HS6
      isplitl [HS7]; · iapply (owns_some _ c _) $$ HS7
      isplitl [HS8]; · iapply (owns_some _ c _) $$ HS8
      iapply (owns_some _ c _) $$ HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · icases H8 with ⟨%z8, H8⟩; iexists z8; isplitr
    · ipureintro; exact trivial
    iexact H8
  isplitl [H9]
  · icases H9 with ⟨%z9, H9⟩; iexists z9; isplitr
    · ipureintro; exact trivial
    iexact H9
  icases H10 with ⟨%z10, H10⟩; iexists z10; isplitr
  · ipureintro; exact trivial
  iexact H10

set_option maxHeartbeats 32000000 in
/-- The point that forms the scales. -/
theorem soundC (O : sProp 𝕄) (P8 P9 : Vec Ideal S1x160x1024 .fp8e5m2 → Prop) (P10 : Vec Ideal S1x1024 .f32 → Prop) (c : Dev nD) (hG : Good m d x c) (t : Fin cfg0.N) (ht : t.val = 24) :
    preV m d x O P8 P9 P10 24 c t ⊢ wp frame (wpE (defs₀ (F := Ideal)) Variants.none c none) Set.univ (bodyAt0 t)
      (fun _ => preV m d x O (RCode (d c) (x c) 0 t.val) (RCode (d c) (x c) 1 t.val) (RScale (d c) (x c) t.val) 25 c t) := by
  unfold preV PhiV bodyAt0
  have hN : t.val < 48 := lt_of_lt_of_eq t.isLt (show cfg0.N = 48 from N_0)
  iintro ⟨⟨⟨⟨%d0, %d1, %d2, %hI, HS0, HS1, HS2⟩, HS3, HS4, HS5, HS6, HS7, HS8, HS9⟩, Hg⟩, Ho, H0, H1, H2, H3, H4, H5, H6, H7, ⟨%y8, %h8, H8⟩, ⟨%y9, %h9, H9⟩, ⟨%y10, %h10, H10⟩⟩
  iapply ((runC c (grid0.coords t) _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) ((hcond0_3 t).mpr (by omega)) (iblk m c 0 t) (iblk m c 1 t) (iblk m c 2 t) (iblk m c 3 t) (iblk m c 4 t) (iblk m c 5 t) (iblk m c 6 t) (iblk m c 7 t) d0 d1).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexists _; iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, ⟨%f8, H8⟩, ⟨%f9, H9⟩, ⟨%f10, H10⟩, HS0, HS1, ⟨%f2, HS2⟩, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0 HS1 HS2]
      · iexists d0; iexists d1; iexists _
        isplitr
        swap
        · isplitl [HS0]
          · iexact HS0
          isplitl [HS1]
          · iexact HS1
          unfold owns; iexists _; isplitr
          swap; · iexact HS2
          ipureintro; rfl
        ipureintro; exact invC c (grid0.coords t) _ _ _ _ _ _ _ _ _ _ _ _ _ _ _ _ _ _ _ _ _ _ _ _ _ _ _ _ _ _ _ _ _ _ _ _ _ _ _ _ _ _ _ _ _ _ _ _ _ _ _ _ _ _ _ _ ((coord_val t).trans ht) d2 hI hG.bound hG.size _
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    swap
    · unfold owns; iexists _; isplitr
      swap; · iexact H8
      ipureintro; rfl
    ipureintro; exact Eq.mpr (congrArg (fun n => RCode (d c) (x c) 0 n _) ht) (codeC_re c (grid0.coords t) _ _ _ _ _ _ _ _ _ _ _ _ _ _ _ _ _ _ _ _ _ _ _ _ _ _ _ _ _ _ _ _ _ _ _ _ _ _ _ _ _ _ _ _ _ _ _ _ _ _ _ _ _ _ _ _ ((coord_val t).trans ht) d2 hI hG.bound hG.size _)
  isplitl [H9]
  · iexists _; isplitr
    swap
    · unfold owns; iexists _; isplitr
      swap; · iexact H9
      ipureintro; rfl
    ipureintro; exact Eq.mpr (congrArg (fun n => RCode (d c) (x c) 1 n _) ht) (codeC_im c (grid0.coords t) _ _ _ _ _ _ _ _ _ _ _ _ _ _ _ _ _ _ _ _ _ _ _ _ _ _ _ _ _ _ _ _ _ _ _ _ _ _ _ _ _ _ _ _ _ _ _ _ _ _ _ _ _ _ _ _ ((coord_val t).trans ht) d2 hI hG.bound hG.size _)
  iexists _; isplitr
  swap
  · unfold owns; iexists _; isplitr
    swap; · iexact H10
    ipureintro; rfl
  ipureintro; exact Eq.mpr (congrArg (fun n => RScale (d c) (x c) n _) ht) (scaleC c (grid0.coords t) _ _ _ _ _ _ _ _ _ _ _ _ _ _ _ _ _ _ _ _ _ _ _ _ _ _ _ _ _ _ _ _ _ _ _ _ _ _ _ _ _ _ _ _ _ _ _ _ _ _ _ _ _ _ _ _ ((coord_val t).trans ht) d2 hI hG.bound hG.size _)

set_option maxHeartbeats 32000000 in
/-- A later point. -/
theorem soundD (O : sProp 𝕄) (P8 P9 : Vec Ideal S1x160x1024 .fp8e5m2 → Prop) (P10 : Vec Ideal S1x1024 .f32 → Prop) (c : Dev nD) (hG : Good m d x c) (t : Fin cfg0.N) (ht : 25 ≤ t.val) (h10' : ∀ Y, P10 Y → RScale (d c) (x c) t.val Y) :
    preV m d x O P8 P9 P10 t.val c t ⊢ wp frame (wpE (defs₀ (F := Ideal)) Variants.none c none) Set.univ (bodyAt0 t)
      (fun _ => preV m d x O (RCode (d c) (x c) 0 t.val) (RCode (d c) (x c) 1 t.val) (RScale (d c) (x c) t.val) (t.val + 1) c t) := by
  unfold preV PhiV bodyAt0
  have hN : t.val < 48 := lt_of_lt_of_eq t.isLt (show cfg0.N = 48 from N_0)
  iintro ⟨⟨⟨⟨%d0, %d1, %d2, %hI, HS0, HS1, HS2⟩, HS3, HS4, HS5, HS6, HS7, HS8, HS9⟩, Hg⟩, Ho, H0, H1, H2, H3, H4, H5, H6, H7, ⟨%y8, %h8, H8⟩, ⟨%y9, %h9, H9⟩, ⟨%y10, %h10, H10⟩⟩
  iapply ((runD c (grid0.coords t) _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (iblk m c 0 t) (iblk m c 1 t) (iblk m c 2 t) (iblk m c 3 t) (iblk m c 4 t) (iblk m c 5 t) (iblk m c 6 t) (iblk m c 7 t) d0 d2 y10).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [HS0]; · iexact HS0
  isplitl [HS1]; · iexists _; iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, ⟨%f8, H8⟩, ⟨%f9, H9⟩, H10, HS0, ⟨%d1', HS1⟩, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0 HS1 HS2]
      · iexists d0; iexists d1'; iexists d2
        isplitr
        swap
        · isplitl [HS0]
          · iexact HS0
          isplitl [HS1]
          · iexact HS1
          iexact HS2
        ipureintro; exact hI.keep ht d1'
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    swap
    · unfold owns; iexists _; isplitr
      swap; · iexact H8
      ipureintro; rfl
    ipureintro; exact codeD_re c (grid0.coords t) _ _ _ _ _ _ _ _ _ _ _ _ _ _ _ _ _ _ _ _ _ _ _ _ _ _ _ _ _ _ _ _ _ _ _ _ _ _ _ _ _ _ _ _ _ _ _ _ _ _ _ _ _ _ _ _ _ t.val ht hN (coord_val t) d1 hI _
  isplitl [H9]
  · iexists _; isplitr
    swap
    · unfold owns; iexists _; isplitr
      swap; · iexact H9
      ipureintro; rfl
    ipureintro; exact codeD_im c (grid0.coords t) _ _ _ _ _ _ _ _ _ _ _ _ _ _ _ _ _ _ _ _ _ _ _ _ _ _ _ _ _ _ _ _ _ _ _ _ _ _ _ _ _ _ _ _ _ _ _ _ _ _ _ _ _ _ _ _ _ t.val ht hN (coord_val t) d1 hI _
  iexists y10; isplitr
  · ipureintro; exact h10' _ h10
  iexact H10

end Cert.DftIdeal.Gen

end
-- ==== Proof.DftIdeal.Launch.lean ====
/- The launch of the whole grid: the body's obligation at every point, and what the arrays hold at the end. -/
module

public import proofs.«01_k».proof.Proof.DftIdeal.Body

@[expose] public section

set_option maxRecDepth 16384

noncomputable section

namespace Cert.DftIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

local notation "𝕄" => MT nD τ sig Unit (Elt Ideal) ℕ (UR sig nD τ) ℕ

variable (m : (ℓ : Loc nD τ sig) → Buf (Elt Ideal) ℓ) (ρ : Dev nD → PrngReg) (d : Dev nD → ℝ) (x : Dev nD → ℕ → ℕ → ℕ → ℝ)

/-- The output windows, whose contents are held to a predicate. -/
def marks : Fin 11 → Bool := fun w => w.val == 8 || w.val == 9 || w.val == 10

/-- What a point leaves in each of them. -/
def Rel (c : Dev nD) (w : Fin cfg0.W) (t : Fin cfg0.N) : ((cfg0.win w).block.Idx → Elt Ideal (cfg0.win w).elt) → Prop :=
  match w with
  | ⟨8, _⟩ => RCode (d c) (x c) 0 t.val
  | ⟨9, _⟩ => RCode (d c) (x c) 1 t.val
  | ⟨10, _⟩ => RScale (d c) (x c) t.val
  | _ => fun _ => True

/-- The proof data: the inputs keep their blocks, the scratch holds what the invariant says. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiV d x c t.val
  q _ := fullShare
  owed _ := 0

theorem vA_eq (c : Dev nD) (w : Fin cfg0.W) : (vdats m d x 0 c).A w = V m c (Pipeline.arrRef spec0 w) := by
  dsimp only [vdats]

theorem vPhi (c : Dev nD) (t : Fin (cfg0.N + 1)) : (vdats m d x 0 c).Φ t = PhiV d x c t.val := by dsimp only [vdats]

theorem vafter_0 (c : Dev nD) (t : Fin cfg0.N) : (vdats m d x 0 c).after 0 t = iblk m c 0 t := by dsimp only [vdats]
theorem vafter_1 (c : Dev nD) (t : Fin cfg0.N) : (vdats m d x 0 c).after 1 t = iblk m c 1 t := by dsimp only [vdats]
theorem vafter_2 (c : Dev nD) (t : Fin cfg0.N) : (vdats m d x 0 c).after 2 t = iblk m c 2 t := by dsimp only [vdats]
theorem vafter_3 (c : Dev nD) (t : Fin cfg0.N) : (vdats m d x 0 c).after 3 t = iblk m c 3 t := by dsimp only [vdats]
theorem vafter_4 (c : Dev nD) (t : Fin cfg0.N) : (vdats m d x 0 c).after 4 t = iblk m c 4 t := by dsimp only [vdats]
theorem vafter_5 (c : Dev nD) (t : Fin cfg0.N) : (vdats m d x 0 c).after 5 t = iblk m c 5 t := by dsimp only [vdats]
theorem vafter_6 (c : Dev nD) (t : Fin cfg0.N) : (vdats m d x 0 c).after 6 t = iblk m c 6 t := by dsimp only [vdats]
theorem vafter_7 (c : Dev nD) (t : Fin cfg0.N) : (vdats m d x 0 c).after 7 t = iblk m c 7 t := by dsimp only [vdats]

theorem vbefore_0 (c : Dev nD) (t : Fin cfg0.N) (e) : (vdats m d x 0 c).before 0 t e = iblk m c 0 t :=
  before0_0_of m (vdats m d x 0 c) (vA_eq m d x c 0) (vafter_0 m d x c) t e
theorem vbefore_1 (c : Dev nD) (t : Fin cfg0.N) (e) : (vdats m d x 0 c).before 1 t e = iblk m c 1 t :=
  before0_1_of m (vdats m d x 0 c) (vA_eq m d x c 1) (vafter_1 m d x c) t e
theorem vbefore_2 (c : Dev nD) (t : Fin cfg0.N) (e) : (vdats m d x 0 c).before 2 t e = iblk m c 2 t :=
  before0_2_of m (vdats m d x 0 c) (vA_eq m d x c 2) (vafter_2 m d x c) t e
theorem vbefore_3 (c : Dev nD) (t : Fin cfg0.N) (e) : (vdats m d x 0 c).before 3 t e = iblk m c 3 t :=
  before0_3_of m (vdats m d x 0 c) (vA_eq m d x c 3) (vafter_3 m d x c) t e
theorem vbefore_4 (c : Dev nD) (t : Fin cfg0.N) (e) : (vdats m d x 0 c).before 4 t e = iblk m c 4 t :=
  before0_4_of m (vdats m d x 0 c) (vA_eq m d x c 4) (vafter_4 m d x c) t e
theorem vbefore_5 (c : Dev nD) (t : Fin cfg0.N) (e) : (vdats m d x 0 c).before 5 t e = iblk m c 5 t :=
  before0_5_of m (vdats m d x 0 c) (vA_eq m d x c 5) (vafter_5 m d x c) t e
theorem vbefore_6 (c : Dev nD) (t : Fin cfg0.N) (e) : (vdats m d x 0 c).before 6 t e = iblk m c 6 t :=
  before0_6_of m (vdats m d x 0 c) (vA_eq m d x c 6) (vafter_6 m d x c) t e
theorem vbefore_7 (c : Dev nD) (t : Fin cfg0.N) (e) : (vdats m d x 0 c).before 7 t e = iblk m c 7 t :=
  before0_7_of m (vdats m d x 0 c) (vA_eq m d x c 7) (vafter_7 m d x c) t e

/-- What the window of the scales may hold before a point is what the point before left. -/
theorem finds_scale (c : Dev nD) (t : Fin cfg0.N) (ht : 25 ≤ t.val) (Y) :
    ((vdats m d x 0 c).toRRel marks (Rel d x c)).Finds 10 t Y → RScale (d c) (x c) t.val Y := by
  intro h
  have hN : t.val < 48 := lt_of_lt_of_eq t.isLt (show cfg0.N = 48 from N_0)
  rw [RDat.finds_of_pos _ rfl (by omega)] at h
  rcases h with h | h
  · exact absurd ((flush0_10 _).mp h) (by show ¬ (t.val - 1) % 48 = 47; omega)
  · have h' : RScale (d c) (x c) (t.val - 1) Y := Dat.toRRel_leaves _ rfl h
    exact fun _ => h' (by omega)

variable {m d x}

/-- A point, its predicates weakened. -/
theorem preV_mono {O O' : sProp 𝕄} (hO : O ⊢ O') {P8 P8' P9 P9' : Vec Ideal S1x160x1024 .fp8e5m2 → Prop} {P10 P10' : Vec Ideal S1x1024 .f32 → Prop}
    (h8 : ∀ X, P8 X → P8' X) (h9 : ∀ X, P9 X → P9' X) (h10 : ∀ X, P10 X → P10' X) (n : ℕ) (c : Dev nD) (t : Fin cfg0.N) :
    preV m d x O P8 P9 P10 n c t ⊢ preV m d x O' P8' P9' P10' n c t := by
  unfold preV
  iintro ⟨HP, Ho, H0, H1, H2, H3, H4, H5, H6, H7, ⟨%y8, %h8', H8⟩, ⟨%y9, %h9', H9⟩, ⟨%y10, %h10', H10⟩⟩
  isplitl [HP]; · iexact HP
  isplitl [Ho]; · iapply hO $$ Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists y8; isplitr
    · ipureintro; exact h8 _ h8'
    iexact H8
  isplitl [H9]
  · iexists y9; isplitr
    · ipureintro; exact h9 _ h9'
    iexact H9
  iexists y10; isplitr
  · ipureintro; exact h10 _ h10'
  iexact H10

/-- Any point: what the windows of the results are left with. -/
theorem sound (O : sProp 𝕄) (P8 P9 : Vec Ideal S1x160x1024 .fp8e5m2 → Prop) (P10 : Vec Ideal S1x1024 .f32 → Prop) (c : Dev nD) (hG : Good m d x c) (t : Fin cfg0.N)
    (h10 : 25 ≤ t.val → ∀ Y, P10 Y → RScale (d c) (x c) t.val Y) :
    preV m d x O P8 P9 P10 t.val c t ⊢ wp frame (wpE (defs₀ (F := Ideal)) Variants.none c none) Set.univ (bodyAt0 t)
      (fun _ => preV m d x O (RCode (d c) (x c) 0 t.val) (RCode (d c) (x c) 1 t.val) (RScale (d c) (x c) t.val) (t.val + 1) c t) := by
  have hw : ∀ n, t.val < 24 → preV m d x O (fun _ => True) (fun _ => True) (fun _ => True) n c t
      ⊢ preV m d x O (RCode (d c) (x c) 0 t.val) (RCode (d c) (x c) 1 t.val) (RScale (d c) (x c) t.val) n c t := fun n h =>
    preV_mono .rfl (fun _ _ h' => absurd h' (by omega)) (fun _ _ h' => absurd h' (by omega)) (fun _ _ h' => absurd h' (by omega)) n c t
  by_cases h0 : t.val = 0
  · have := soundA O P8 P9 P10 c hG t h0
    exact triple_restated this rfl (by rw [h0]) fun _ => by rw [show t.val + 1 = 1 by omega]; exact hw 1 (by omega)
  by_cases h1 : t.val < 24
  · exact triple_restated (soundB O P8 P9 P10 c hG t (by omega) h1) rfl .rfl fun _ => hw _ h1
  by_cases h2 : t.val = 24
  · exact triple_restated (soundC O P8 P9 P10 c hG t h2) rfl (by rw [h2]) fun _ => by rw [show t.val + 1 = 25 by omega]
  · exact soundD O P8 P9 P10 c hG t (by omega) (h10 (by omega))

theorem vdefs_row (t : Fin cfg0.N) :
    defs₀ (F := Ideal) .tc cfg0.body (cfg0.bodyArgs t (cfg0.slots t)) = bodyAt0 t := by
  unfold defs₀; rw [Defs.onTc_tc]

set_option maxHeartbeats 4000000 in
theorem vbody (c : Dev nD) (hG : Good m d x c) : BodyObligationRel (vdats m d x 0 c) (defs₀ (F := Ideal)) Variants.none () Set.univ marks (Rel d x c) := fun t => by
  rw [bigSep_W0, bigSep_W0, vdefs_row, vPhi, vPhi]
  refine triple_restated (sound ((vdats m d x 0 c).owesAt () t.castSucc) (fun _ => True) (fun _ => True) (((vdats m d x 0 c).toRRel marks (Rel d x c)).Finds 10 t) c hG t (fun h Y => finds_scale m d x c t h Y)) rfl ?_ fun _ => ?_
  · show iprop(PhiV d x c t.val ∗ (vdats m d x 0 c).owesAt () t.castSucc
      ∗ (∃ e, owns (c : Thread nD τ) (ms0_0 t) fullShare ((vdats m d x 0 c).before 0 t e))
      ∗ (∃ e, owns (c : Thread nD τ) (ms0_1 t) fullShare ((vdats m d x 0 c).before 1 t e))
      ∗ (∃ e, owns (c : Thread nD τ) (ms0_2 t) fullShare ((vdats m d x 0 c).before 2 t e))
      ∗ (∃ e, owns (c : Thread nD τ) (ms0_3 t) fullShare ((vdats m d x 0 c).before 3 t e))
      ∗ (∃ e, owns (c : Thread nD τ) (ms0_4 t) fullShare ((vdats m d x 0 c).before 4 t e))
      ∗ (∃ e, owns (c : Thread nD τ) (ms0_5 t) fullShare ((vdats m d x 0 c).before 5 t e))
      ∗ (∃ e, owns (c : Thread nD τ) (ms0_6 t) fullShare ((vdats m d x 0 c).before 6 t e))
      ∗ (∃ e, owns (c : Thread nD τ) (ms0_7 t) fullShare ((vdats m d x 0 c).before 7 t e))
      ∗ (∃ Y, ⌜((vdats m d x 0 c).toRRel marks (Rel d x c)).Finds 8 t Y⌝ ∗ owns (c : Thread nD τ) (ms0_8 t) fullShare Y)
      ∗ (∃ Y, ⌜((vdats m d x 0 c).toRRel marks (Rel d x c)).Finds 9 t Y⌝ ∗ owns (c : Thread nD τ) (ms0_9 t) fullShare Y)
      ∗ (∃ Y, ⌜((vdats m d x 0 c).toRRel marks (Rel d x c)).Finds 10 t Y⌝ ∗ owns (c : Thread nD τ) (ms0_10 t) fullShare Y)) ⊢ _
    simp only [vbefore_0, vbefore_1, vbefore_2, vbefore_3, vbefore_4, vbefore_5, vbefore_6, vbefore_7]
    unfold preV
    iintro ⟨HP, Ho, ⟨%e0, H0⟩, ⟨%e1, H1⟩, ⟨%e2, H2⟩, ⟨%e3, H3⟩, ⟨%e4, H4⟩, ⟨%e5, H5⟩, ⟨%e6, H6⟩, ⟨%e7, H7⟩, ⟨%y8, %h8, H8⟩, ⟨%y9, %h9, H9⟩, H10⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists y8; isplitr
      · ipureintro; exact trivial
      iexact H8
    isplitl [H9]
    · iexists y9; isplitr
      · ipureintro; exact trivial
      iexact H9
    iexact H10
  · show _ ⊢ iprop(PhiV d x c (t.val + 1) ∗ (vdats m d x 0 c).owesAt () t.succ
      ∗ (vdats m d x 0 c).leavesExact 0 t
      ∗ (vdats m d x 0 c).leavesExact 1 t
      ∗ (vdats m d x 0 c).leavesExact 2 t
      ∗ (vdats m d x 0 c).leavesExact 3 t
      ∗ (vdats m d x 0 c).leavesExact 4 t
      ∗ (vdats m d x 0 c).leavesExact 5 t
      ∗ (vdats m d x 0 c).leavesExact 6 t
      ∗ (vdats m d x 0 c).leavesExact 7 t
      ∗ (∃ Y, ⌜RCode (d c) (x c) 0 t.val Y⌝ ∗ owns (c : Thread nD τ) (ms0_8 t) fullShare Y)
      ∗ (∃ Y, ⌜RCode (d c) (x c) 1 t.val Y⌝ ∗ owns (c : Thread nD τ) (ms0_9 t) fullShare Y)
      ∗ (∃ Y, ⌜RScale (d c) (x c) t.val Y⌝ ∗ owns (c : Thread nD τ) (ms0_10 t) fullShare Y))
    rw [show (vdats m d x 0 c).owesAt () t.succ = (vdats m d x 0 c).owesAt () t.castSucc from rfl]
    rw [show (vdats m d x 0 c).leavesExact 0 t = owns (c : Thread nD τ) (ms0_0 t) fullShare ((vdats m d x 0 c).after 0 t) from by
      unfold Dat.leavesExact; rw [liveAt0_0 t], vafter_0]
    rw [show (vdats m d x 0 c).leavesExact 1 t = owns (c : Thread nD τ) (ms0_1 t) fullShare ((vdats m d x 0 c).after 1 t) from by
      unfold Dat.leavesExact; rw [liveAt0_1 t], vafter_1]
    rw [show (vdats m d x 0 c).leavesExact 2 t = owns (c : Thread nD τ) (ms0_2 t) fullShare ((vdats m d x 0 c).after 2 t) from by
      unfold Dat.leavesExact; rw [liveAt0_2 t], vafter_2]
    rw [show (vdats m d x 0 c).leavesExact 3 t = owns (c : Thread nD τ) (ms0_3 t) fullShare ((vdats m d x 0 c).after 3 t) from by
      unfold Dat.leavesExact; rw [liveAt0_3 t], vafter_3]
    rw [show (vdats m d x 0 c).leavesExact 4 t = owns (c : Thread nD τ) (ms0_4 t) fullShare ((vdats m d x 0 c).after 4 t) from by
      unfold Dat.leavesExact; rw [liveAt0_4 t], vafter_4]
    rw [show (vdats m d x 0 c).leavesExact 5 t = owns (c : Thread nD τ) (ms0_5 t) fullShare ((vdats m d x 0 c).after 5 t) from by
      unfold Dat.leavesExact; rw [liveAt0_5 t], vafter_5]
    rw [show (vdats m d x 0 c).leavesExact 6 t = owns (c : Thread nD τ) (ms0_6 t) fullShare ((vdats m d x 0 c).after 6 t) from by
      unfold Dat.leavesExact; rw [liveAt0_6 t], vafter_6]
    rw [show (vdats m d x 0 c).leavesExact 7 t = owns (c : Thread nD τ) (ms0_7 t) fullShare ((vdats m d x 0 c).after 7 t) from by
      unfold Dat.leavesExact; rw [liveAt0_7 t], vafter_7]
    exact .rfl

theorem vhin (c : Dev nD) : Pipeline.ΦA spec0 c ⊢ (vdats m d x 0 c).Φ 0 := by
  rw [vPhi, PhiA0_eq]
  unfold PhiV
  iintro ⟨⟨⟨%d0, HS0⟩, ⟨%d1, HS1⟩, ⟨%d2, HS2⟩, HR⟩, Hg⟩
  isplitl [HS0 HS1 HS2 HR]
  · isplitl [HS0 HS1 HS2]
    · iexists d0; iexists d1; iexists d2; isplitr
      · ipureintro; exact Inv.start _ _ d0 d1 d2
      isplitl [HS0]; · iexact HS0
      isplitl [HS1]; · iexact HS1
      iexact HS2
    iexact HR
  iexact Hg

theorem vhout (c : Dev nD) : (vdats m d x 0 c).Φ (Fin.last cfg0.N) ⊢ Pipeline.ΦA spec0 c := by
  rw [vPhi, PhiA0_eq]
  unfold PhiV
  iintro ⟨⟨⟨%d0, %d1, %d2, %hI, HS0, HS1, HS2⟩, HR⟩, Hg⟩
  isplitl [HS0 HS1 HS2 HR]
  · isplitl [HS0]; · iexists d0; iexact HS0
    isplitl [HS1]; · iexists d1; iexact HS1
    isplitl [HS2]; · iexists d2; iexact HS2
    iexact HR
  iexact Hg

set_option backward.isDefEq.respectTransparency.types false in
/-- The launch. -/
theorem vrun (hG : ∀ c, Good m d x c) : θ_run defs (onTc (τ := τ) (main (F := Ideal))) (s₀ m ρ)
    (Pipeline.RDat.FramePost (cfgs 0) (fun c => (vdats m d x 0 c).toRRel marks (Rel d x c)) (V m)) :=
  RDat.θ_run_frame_track cfgs (0 : Fin 1) launch0 defs₀ Variants.none (fun c => (vdats m d x 0 c).toRRel marks (Rel d x c)) m ρ main
    (fun c => (vbody c (hG c)).toRRel) (fun c => (vdats m d x 0 c).share_full fun _ => rfl)
    (fun _ _ => rfl) (V m) (hmain m Variants.none) (vA_eq m d x) (vhin (m := m)) (vhout (m := m))

end Cert.DftIdeal.Gen

end
-- ==== Proof.DftIdeal.Ends.lean ====
/- What the three results hold at the end. -/
module
public import proofs.«01_k».proof.Proof.DftIdeal.Launch
public import Idealize.ShloMosaic.Lib.Pipeline.ArrRel
public import Idealize.ShloMosaic.Lib.Pipeline.ValueKit
@[expose] public section
set_option maxRecDepth 16384
noncomputable section
namespace Cert.DftIdeal.Gen
open Idealize.ShloMosaic Idealize.ShloMosaic.TcCoe Idealize.ShloMosaic.Tactic
open Idealize.SL.Sem
open Idealize.ShloMosaic.Pipeline (Dat RDat Cfg Window)
variable (m : (ℓ : Loc nD τ sig) → Buf (Elt Ideal) ℓ) (ρ : Dev nD → PrngReg) (d : Dev nD → ℝ) (x : Dev nD → ℕ → ℕ → ℕ → ℝ)

theorem idx_codes : ∀ t : Fin cfg0.N, (cfg0.win 8).flush t = true → 24 ≤ t.val ∧ (cfg0.win 8).index t = ![t.val - 24, 0, 0] := by decide +kernel
theorem idx_codes' : ∀ t : Fin cfg0.N, (cfg0.win 9).flush t = true → 24 ≤ t.val ∧ (cfg0.win 9).index t = ![t.val - 24, 0, 0] := by decide +kernel

theorem covers_re : (cfg0.win 8).Covers := by decide +kernel
theorem covers_im : (cfg0.win 9).Covers := by decide +kernel

variable {m d x}

theorem ends_re (c : Dev nD) (after) (hL : ∀ (w : Fin cfg0.W) (u : Fin cfg0.N), (cfg0.win w).flush u = true → ((vdats m d x 0 c).toRRel marks (Rel d x c)).Leaves w u (after w u)) :
    (((vdats m d x 0 c).toRRel marks (Rel d x c)).withAfter after).arrAt 8 cfg0.N = fun j : S24x160x1024.Idx => (codeR (d c) (x c) (j 0) 0 (j 1) (j 2) : EReal) := by
  refine Dat.arrAt_eq_of_covers _ 8 _ covers_re fun t hf y => ?_
  have h := Dat.toRRel_leaves _ rfl (hL 8 t hf)
  obtain ⟨ht, hi⟩ := idx_codes t hf
  blk_simp
  rw [show win0_8.index t = ![t.val - 24, 0, 0] from hi]
  obtain ⟨o, l, rfl⟩ : ∃ (o : Fin 160) (l : Fin 1024), y = ix3 (0 : Fin 1) o l := ⟨y 1, y 2, by rw [eq_ix3 y]; congr 1; exact Subsingleton.elim _ _⟩
  refine (h ht o l).trans ?_
  simp

theorem ends_im (c : Dev nD) (after) (hL : ∀ (w : Fin cfg0.W) (u : Fin cfg0.N), (cfg0.win w).flush u = true → ((vdats m d x 0 c).toRRel marks (Rel d x c)).Leaves w u (after w u)) :
    (((vdats m d x 0 c).toRRel marks (Rel d x c)).withAfter after).arrAt 9 cfg0.N = fun j : S24x160x1024.Idx => (codeR (d c) (x c) (j 0) 1 (j 1) (j 2) : EReal) := by
  refine Dat.arrAt_eq_of_covers _ 9 _ covers_im fun t hf y => ?_
  have h := Dat.toRRel_leaves _ rfl (hL 9 t hf)
  obtain ⟨ht, hi⟩ := idx_codes' t hf
  blk_simp
  rw [show win0_9.index t = ![t.val - 24, 0, 0] from hi]
  obtain ⟨o, l, rfl⟩ : ∃ (o : Fin 160) (l : Fin 1024), y = ix3 (0 : Fin 1) o l := ⟨y 1, y 2, by rw [eq_ix3 y]; congr 1; exact Subsingleton.elim _ _⟩
  refine (h ht o l).trans ?_
  simp

theorem whole_scale (t : Fin cfg0.N) (ht : t.val = 47) : (cfg0.win 10).WholeAt t := by
  revert ht; revert t; decide +kernel

theorem ends_scale (c : Dev nD) (after) (hL : ∀ (w : Fin cfg0.W) (u : Fin cfg0.N), (cfg0.win w).flush u = true → ((vdats m d x 0 c).toRRel marks (Rel d x c)).Leaves w u (after w u)) :
    (((vdats m d x 0 c).toRRel marks (Rel d x c)).withAfter after).arrAt 10 cfg0.N = fun j : S1x1024.Idx => (((2 : ℝ) ^ (expR (amaxR (d c) (x c) (j 1) * kappa)) : ℝ) : EReal) := by
  have hw := whole_scale ⟨47, by rw [show cfg0.N = 48 from N_0]; omega⟩ rfl
  refine Dat.arrAt_eq_of_after_last _ 10 _ hw _ fun y => ?_
  have h := Dat.toRRel_leaves _ rfl (hL 10 _ hw.1)
  blk_simp
  obtain ⟨l, rfl⟩ : ∃ (l : Fin 1024), y = ix2 (0 : Fin 1) l := ⟨y 1, by rw [eq_ix2 y]; congr 1; exact Subsingleton.elim _ _⟩
  exact h (by show 24 ≤ 47; omega) l

end Cert.DftIdeal.Gen
end
-- ==== Proof.DftIdeal.Host.lean ====
/- The tables that the host hands the region, as cosines and sines. -/
module
public import proofs.«01_k».proof.Proof.DftIdeal.Launch
public import Idealize.ShloMosaic.Lib.Affine
public import Idealize.ShloMosaic.Lib.StableHlo.ReadAt
public import Idealize.ShloMosaic.Lib.Pointwise
public import Idealize.ShloMosaic.Lib.Pipeline.ValueKit
@[expose] public section
set_option maxRecDepth 16384
noncomputable section
namespace Cert.DftIdeal.Gen
open Idealize.ShloMosaic Idealize.ShloMosaic.TcCoe Idealize.ShloMosaic.Tactic
variable (m : (ℓ : Loc nD τ sig) → Buf (Elt Ideal) ℓ)

/-- The angle the host forms from a product of integers. -/
theorem angle_eq (w : BitVec 32) (k : ℕ) (hk : k < 2 ^ 31) (hw : w.toNat = k) :
    FloatOps.sitofp (F := Ideal) FTy.f32 (IntOp.remsi ArithUnit.host w 8192#32) *
        Ideal.div (Ideal.ofBits FTy.f32 1073741824#32 * Ideal.acos (Ideal.ofBits FTy.f32 3212836864#32)) (Ideal.ofBits FTy.f32 1174405120#32)
      = ((((k % 8192 : ℕ) : ℝ) * (2 * Real.pi / 8192) : ℝ) : EReal) := by
  have h2 : Ideal.ofBits FTy.f32 1073741824#32 = ((2 : ℝ) : EReal) := by simp [Ideal.ofBits, Ideal.ieee]; norm_num [← EReal.coe_mul]
  have h1 : Ideal.ofBits FTy.f32 3212836864#32 = ((-1 : ℝ) : EReal) := by simp [Ideal.ofBits, Ideal.ieee]; norm_num [← EReal.coe_mul]
  have h8 : Ideal.ofBits FTy.f32 1174405120#32 = ((8192 : ℝ) : EReal) := by simp [Ideal.ofBits, Ideal.ieee]; norm_num [← EReal.coe_mul]
  have hr : (IntOp.remsi ArithUnit.host w 8192#32).toNat = k % 8192 := by
    have := IntOp.toNat_remsi ArithUnit.host (x := w) (by omega) 8192 (by norm_num) (by norm_num)
    rwa [hw] at this
  have hi : (IntOp.remsi ArithUnit.host w 8192#32).toInt = ((k % 8192 : ℕ) : ℤ) := by
    rw [BitVec.toInt_eq_toNat_of_lt (by rw [hr]; omega), hr]
  rw [h1, h2, h8, Ideal.acos_coe, if_pos (by norm_num), Real.arccos_neg_one, ← EReal.coe_mul]
  rw [show Ideal.div ((2 * Real.pi : ℝ) : EReal) ((8192 : ℝ) : EReal) = ((2 * Real.pi / 8192 : ℝ) : EReal) from by rw [Ideal.div_coe (by norm_num), ← EReal.coe_mul]; norm_num [div_eq_mul_inv]]
  change (((IntOp.remsi ArithUnit.host w 8192#32).toInt : ℝ) : EReal) * _ = _
  rw [hi, ← EReal.coe_mul]
  norm_cast

theorem cos_eq (w : BitVec 32) (k : ℕ) (hk : k < 2 ^ 31) (hw : w.toNat = k) :
    Ideal.cos (FloatOps.sitofp (F := Ideal) FTy.f32 (IntOp.remsi ArithUnit.host w 8192#32) *
        Ideal.div (Ideal.ofBits FTy.f32 1073741824#32 * Ideal.acos (Ideal.ofBits FTy.f32 3212836864#32)) (Ideal.ofBits FTy.f32 1174405120#32))
      = (Cert.Fold.C k : EReal) := by
  rw [angle_eq w k hk hw, Ideal.cos_coe, ← Cert.Fold.C_mod k]; rfl

theorem sin_eq (w : BitVec 32) (k : ℕ) (hk : k < 2 ^ 31) (hw : w.toNat = k) :
    Ideal.sin (FloatOps.sitofp (F := Ideal) FTy.f32 (IntOp.remsi ArithUnit.host w 8192#32) *
        Ideal.div (Ideal.ofBits FTy.f32 1073741824#32 * Ideal.acos (Ideal.ofBits FTy.f32 3212836864#32)) (Ideal.ofBits FTy.f32 1174405120#32))
      = (Cert.Fold.S k : EReal) := by
  rw [angle_eq w k hk hw, Ideal.sin_coe, ← Cert.Fold.S_mod k]; rfl

theorem mul_word (a b : BitVec 32) (k l : ℕ) (ha : a.toNat = k) (hb : b.toNat = l) (hk : k * l < 2 ^ 31) : (IntOp.muli a b).toNat = k * l := by
  subst ha hb
  show (a * b).toNat = _
  rw [BitVec.toNat_mul, Nat.mod_eq_of_lt (by omega)]

theorem word_nat (k : ℕ) (hk : k < 2 ^ 31) : (BitVec.ofNat 32 k).toNat = k := by
  rw [BitVec.toNat_ofNat, Nat.mod_eq_of_lt (by omega)]
theorem add_word (a b : BitVec 32) (k l : ℕ) (ha : a.toNat = k) (hb : b.toNat = l) (hk : k + l < 2 ^ 31) : (IntOp.addi a b).toNat = k + l := by
  subst ha hb
  show (a + b).toNat = _
  rw [BitVec.toNat_add, Nat.mod_eq_of_lt (by omega)]

theorem pos_word (n : ℕ) (hn : n < 1024) : (Scalar.select (IntOp.cmpi CmpIPredicate.eq (BitVec.ofNat 32 n) 0#32) (1024#32) (BitVec.ofNat 32 n)).toNat = Cert.Fold.nC n := by
  unfold Cert.Fold.nC
  have : ∀ n : Fin 1024, (Scalar.select (IntOp.cmpi CmpIPredicate.eq (BitVec.ofNat 32 (n : ℕ)) 0#32) (1024#32) (BitVec.ofNat 32 (n : ℕ))).toNat = if (n : ℕ) = 0 then 1024 else (n : ℕ) := by decide +kernel
  exact this ⟨n, hn⟩
theorem before_word (n : ℕ) (hn : n < 1024) : (Scalar.select (IntOp.cmpi CmpIPredicate.eq (BitVec.ofNat 32 n) 0#32) (1024#32) (IntOp.subi (2048#32) (BitVec.ofNat 32 n))).toNat = Cert.Fold.betaC n := by
  unfold Cert.Fold.betaC
  have : ∀ n : Fin 1024, (Scalar.select (IntOp.cmpi CmpIPredicate.eq (BitVec.ofNat 32 (n : ℕ)) 0#32) (1024#32) (IntOp.subi (2048#32) (BitVec.ofNat 32 (n : ℕ)))).toNat = if (n : ℕ) = 0 then 1024 else 2048 - (n : ℕ) := by decide +kernel
  exact this ⟨n, hn⟩
theorem mirror_word (n : ℕ) (hn : n < 1024) : (IntOp.subi (2048#32) (BitVec.ofNat 32 n)).toNat = 2048 - n := by
  have : ∀ n : Fin 1024, (IntOp.subi (2048#32) (BitVec.ofNat 32 (n : ℕ))).toNat = 2048 - (n : ℕ) := by decide +kernel
  exact this ⟨n, hn⟩
theorem mode_word (q r : ℕ) (hq : q < 256) (hr : r < 4) : (IntOp.addi (IntOp.muli (4#32) (BitVec.ofNat 32 q)) (BitVec.ofNat 32 r)).toNat = 4 * q + r :=
  add_word _ _ _ _ (mul_word _ _ _ _ rfl (word_nat q (by omega)) (by omega)) (word_nat r (by omega)) (by omega)
theorem odd_word (q : ℕ) (hq : q < 512) : (if q < 256 then IntOp.addi (IntOp.muli (4#32) (BitVec.ofNat 32 q)) 1#32 else IntOp.addi (IntOp.muli (4#32) (BitVec.ofNat 32 (q - 256))) 3#32).toNat = modeW q := by
  unfold modeW
  split
  · exact mode_word q 1 (by omega) (by omega)
  · exact mode_word (q - 256) 3 (by omega) (by omega)
theorem modeW_lt (q : ℕ) (hq : q < 512) : modeW q < 1024 := by unfold modeW; split <;> omega
theorem prod_lt (a b : ℕ) (ha : a ≤ 2048) (hb : b ≤ 1024) : a * b < 2 ^ 31 := lt_of_le_of_lt (Nat.mul_le_mul ha hb) (by norm_num)
theorem nC_le (n : ℕ) (hn : n < 1024) : Cert.Fold.nC n ≤ 2048 := by unfold Cert.Fold.nC; split <;> omega
theorem betaC_le (n : ℕ) (hn : n < 1024) : Cert.Fold.betaC n ≤ 2048 := by unfold Cert.Fold.betaC; split <;> omega

theorem v92_at (c : Dev nD) (n : Fin 1024) (q : Fin 256) : (V m c main_v92 : Vec Ideal S1024x256 .bf16) (ix2 n q) = (Cert.Fold.C (n * (4 * q)) : EReal) := by
  have hb := prod_lt n (4 * q) (by omega) (by omega)
  unfold V hostOps0
  after_reads_at
  exact cos_eq _ _ hb (mul_word _ _ _ _ (word_nat _ (by omega)) (mul_word _ _ _ _ rfl (word_nat _ (by omega)) (by omega)) hb)
theorem v105_at (c : Dev nD) (n : Fin 1024) (q : Fin 256) : (V m c main_v105 : Vec Ideal S1024x256 .bf16) (ix2 n q) = ((-Cert.Fold.S (n * (4 * q)) : ℝ) : EReal) := by
  have hb := prod_lt n (4 * q) (by omega) (by omega)
  unfold V hostOps0
  after_reads_at
  rw [EReal.coe_neg]
  exact congrArg _ (sin_eq _ _ hb (mul_word _ _ _ _ (word_nat _ (by omega)) (mul_word _ _ _ _ rfl (word_nat _ (by omega)) (by omega)) hb))
theorem v67_at (c : Dev nD) (n : Fin 1024) (q : Fin 256) : (V m c main_v67 : Vec Ideal S1024x256 .bf16) (ix2 n q) = (Cert.Fold.C (n * (4 * q + 2)) : EReal) := by
  have hb := prod_lt n (4 * q + 2) (by omega) (by omega)
  unfold V hostOps0
  after_reads_at
  exact cos_eq _ _ hb (mul_word _ _ _ _ (word_nat _ (by omega)) (mode_word q 2 q.isLt (by omega)) hb)
theorem v80_at (c : Dev nD) (n : Fin 1024) (q : Fin 256) : (V m c main_v80 : Vec Ideal S1024x256 .bf16) (ix2 n q) = ((-Cert.Fold.S (Cert.Fold.nC n * (4 * q + 2)) : ℝ) : EReal) := by
  have hb := prod_lt (Cert.Fold.nC n) (4 * q + 2) (nC_le n n.isLt) (by omega)
  unfold V hostOps0
  after_reads_at
  rw [EReal.coe_neg]
  exact congrArg _ (sin_eq _ _ hb (mul_word _ _ _ _ (pos_word n n.isLt) (mode_word q 2 q.isLt (by omega)) hb))
theorem v41_at (c : Dev nD) (n : Fin 2048) (q : Fin 512) : (V m c main_v41 : Vec Ideal S2048x512 .bf16) (ix2 n q)
    = ((if (n : ℕ) < 1024 then Cert.Fold.C (n * modeW q) else Cert.Fold.C (Cert.Fold.betaC (n - 1024) * modeW q) : ℝ) : EReal) := by
  have hm := modeW_lt q q.isLt
  unfold V hostOps0
  after_reads_at
  after_reads_at
  by_cases hn : (n : ℕ) < 1024
  · rw [if_pos hn, dif_pos hn]
    have hb := prod_lt n (modeW q) (by omega) (by omega)
    exact cos_eq _ _ hb (mul_word _ _ _ _ (word_nat _ (by omega)) (odd_word q q.isLt) hb)
  · rw [if_neg hn, dif_neg hn]
    have hb := prod_lt (Cert.Fold.betaC (n - 1024)) (modeW q) (betaC_le _ (by omega)) (by omega)
    exact cos_eq _ _ hb (mul_word _ _ _ _ (before_word _ (by omega)) (odd_word q q.isLt) hb)
theorem v55_at (c : Dev nD) (n : Fin 2048) (q : Fin 512) : (V m c main_v55 : Vec Ideal S2048x512 .bf16) (ix2 n q)
    = ((-(if (n : ℕ) < 1024 then Cert.Fold.S (Cert.Fold.nC n * modeW q) else Cert.Fold.S ((2048 - (n - 1024)) * modeW q)) : ℝ) : EReal) := by
  have hm := modeW_lt q q.isLt
  unfold V hostOps0
  after_reads_at
  after_reads_at
  rw [EReal.coe_neg]
  refine congrArg _ ?_
  by_cases hn : (n : ℕ) < 1024
  · rw [if_pos hn, dif_pos hn]
    have hb := prod_lt (Cert.Fold.nC n) (modeW q) (nC_le _ hn) (by omega)
    exact sin_eq _ _ hb (mul_word _ _ _ _ (pos_word _ hn) (odd_word q q.isLt) hb)
  · rw [if_neg hn, dif_neg hn]
    have hb := prod_lt (2048 - (n - 1024)) (modeW q) (by omega) (by omega)
    exact sin_eq _ _ hb (mul_word _ _ _ _ (mirror_word _ (by omega)) (odd_word q q.isLt) hb)
theorem v106_at (c : Dev nD) : (V m c main_v106 : Vec Ideal S1 .f32) (ix1 0) = (m ((c : Thread nD τ).loc main_arg1) : Vec Ideal S_ .f32) ix0 := by
  unfold V hostOps0
  after_reads_at

theorem tables (c : Dev nD) : Tables (V m c main_v41) (V m c main_v55) (V m c main_v67) (V m c main_v80) (V m c main_v92) (V m c main_v105) :=
  ⟨v41_at m c, v55_at m c, v67_at m c, v80_at m c, v92_at m c, v105_at m c⟩

theorem idx_in : ∀ t : Fin cfg0.N, win0_0.index t = ![0] ∧ win0_2.index t = ![0, 0] ∧ win0_3.index t = ![0, 0] ∧ win0_4.index t = ![0, 0] ∧ win0_5.index t = ![0, 0]
    ∧ win0_6.index t = ![0, 0] ∧ win0_7.index t = ![0, 0] := by decide +kernel
theorem idx_sample : ∀ t : Fin cfg0.N, t.val < 24 → win0_1.index t = ![t.val, 0, 0] := by decide +kernel

theorem blk_0 (c : Dev nD) (t : Fin cfg0.N) : (iblk m c 0 t : Vec Ideal S1 .f32) = V m c main_v106 := by
  have e := (idx_in t).1
  exact funext fun j => by blk_ext [iblk, e]
theorem blk_2 (c : Dev nD) (t : Fin cfg0.N) : (iblk m c 2 t : Vec Ideal S2048x512 .bf16) = V m c main_v41 := by
  have e := (idx_in t).2.1
  exact funext fun j => by blk_ext [iblk, e]
theorem blk_3 (c : Dev nD) (t : Fin cfg0.N) : (iblk m c 3 t : Vec Ideal S2048x512 .bf16) = V m c main_v55 := by
  have e := (idx_in t).2.2.1
  exact funext fun j => by blk_ext [iblk, e]
theorem blk_4 (c : Dev nD) (t : Fin cfg0.N) : (iblk m c 4 t : Vec Ideal S1024x256 .bf16) = V m c main_v67 := by
  have e := (idx_in t).2.2.2.1
  exact funext fun j => by blk_ext [iblk, e]
theorem blk_5 (c : Dev nD) (t : Fin cfg0.N) : (iblk m c 5 t : Vec Ideal S1024x256 .bf16) = V m c main_v80 := by
  have e := (idx_in t).2.2.2.2.1
  exact funext fun j => by blk_ext [iblk, e]
theorem blk_6 (c : Dev nD) (t : Fin cfg0.N) : (iblk m c 6 t : Vec Ideal S1024x256 .bf16) = V m c main_v92 := by
  have e := (idx_in t).2.2.2.2.2.1
  exact funext fun j => by blk_ext [iblk, e]
theorem blk_7 (c : Dev nD) (t : Fin cfg0.N) : (iblk m c 7 t : Vec Ideal S1024x256 .bf16) = V m c main_v105 := by
  have e := (idx_in t).2.2.2.2.2.2
  exact funext fun j => by blk_ext [iblk, e]
theorem blk_1 (c : Dev nD) (t : Fin cfg0.N) (ht : t.val < 24) (o : Fin 160) (n : Fin 8192) :
    (iblk m c 1 t : Vec Ideal S1x160x8192 .fp8e5m2) (ix3 0 o n) = (m ((c : Thread nD τ).loc main_arg0) : Vec Ideal S24x160x8192 .fp8e5m2) (ix3 ⟨t.val, ht⟩ o n) := by
  have e := idx_sample t ht
  rw [← V_main_arg0 m c]
  blk_ext [iblk, e]

/-- A batch's samples, within the format's range. -/
def samples (X : Vec Ideal S24x160x8192 .fp8e5m2) (b o n : ℕ) : ℝ :=
  if h : b < 24 ∧ o < 160 ∧ n < 8192 then clipR (X (ix3 ⟨b, h.1⟩ ⟨o, h.2.1⟩ ⟨n, h.2.2⟩)) else 0

/-- The operands of the region, for real scales not out of range. -/
theorem good (d : Dev nD → ℝ) (hd : ∀ c : Dev nD, (m ((c : Thread nD τ).loc main_arg1) : Vec Ideal S_ .f32) ix0 = (d c : EReal)) (hs : ∀ c, |d c| ≤ (2 : ℝ) ^ (124 : ℤ)) (c : Dev nD) :
    Good m d (fun c => samples (m ((c : Thread nD τ).loc main_arg0))) c where
  tab t := by rw [blk_2, blk_3, blk_4, blk_5, blk_6, blk_7]; exact tables m c
  scale t := by rw [blk_0, v106_at]; exact hd c
  sample t ht := by
    refine funext fun o => funext fun n => ?_
    unfold xr samples
    by_cases h : o < 160 ∧ n < 8192
    · rw [dif_pos h, dif_pos ⟨ht, h⟩, blk_1 m c t ht ⟨o, h.1⟩ ⟨n, h.2⟩]
    · rw [dif_neg h, dif_neg fun h' => h h'.2]
  bound := by
    intro b o n
    unfold samples
    split
    · exact abs_clipR _
    · norm_num
  size := hs c

end Cert.DftIdeal.Gen
end
-- ==== Proof.DftIdeal.Run.lean ====
/- The kernel's run, with what its results hold. -/
module
public import proofs.«01_k».proof.Proof.DftIdeal.Ends
public import proofs.«01_k».proof.Proof.DftIdeal.Host
@[expose] public section
set_option maxRecDepth 16384
noncomputable section
namespace Cert.DftIdeal.Gen
open Idealize.ShloMosaic Idealize.ShloMosaic.TcCoe Idealize.ShloMosaic.Tactic
open Idealize.SL.Sem
open Idealize.ShloMosaic.Pipeline (Dat RDat Cfg Window)

/-- The three results, of the samples and the scale. -/
def codesV (d : ℝ) (x : ℕ → ℕ → ℕ → ℝ) (p : ℕ) : Vec Ideal S24x160x1024 .fp8e5m2 := fun j => (codeR d x (j 0) p (j 1) (j 2) : EReal)
def scalesV (d : ℝ) (x : ℕ → ℕ → ℕ → ℝ) : Vec Ideal S1x1024 .f32 := fun j => (((2 : ℝ) ^ (expR (amaxR d x (j 1) * kappa)) : ℝ) : EReal)

variable (m : (ℓ : Loc nD τ sig) → Buf (Elt Ideal) ℓ) (ρ : Dev nD → PrngReg)

theorem results (d : Dev nD → ℝ) (hd : ∀ c : Dev nD, (m ((c : Thread nD τ).loc main_arg1) : Vec Ideal S_ .f32) ix0 = (d c : EReal)) (hs : ∀ c, |d c| ≤ (2 : ℝ) ^ (124 : ℤ)) :
    θ_run defs (onTc (τ := τ) (main (F := Ideal))) ⟨m, fun _ => 0, ρ⟩ (fun r => ∀ c : Dev nD,
      r.2.mem ((c.tc : Thread nD τ).loc main_v107_0) = codesV (d c) (samples (m ((c : Thread nD τ).loc main_arg0))) 0
      ∧ r.2.mem ((c.tc : Thread nD τ).loc main_v107_1) = codesV (d c) (samples (m ((c : Thread nD τ).loc main_arg0))) 1
      ∧ r.2.mem ((c.tc : Thread nD τ).loc main_v107_2) = scalesV (d c) (samples (m ((c : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  obtain ⟨x, hx⟩ : ∃ x : Dev nD → ℕ → ℕ → ℕ → ℝ, x = fun c : Dev nD => samples (m ((c : Thread nD τ).loc main_arg0)) := ⟨_, rfl⟩
  have hrun := vrun (m := m) (d := d) (x := x) ρ (hx ▸ good m d hd hs)
  refine (θ_run defs _ _).mono (fun r h c => ?_) (θ_run_and hrun
    (frame_of m ρ (fun c => (vdats m d x 0 c).toRRel marks (Rel d x c)) (vA_eq m d x) hrun))
  rw [show samples (m ((c : Thread nD τ).loc main_arg0)) = x c from hx ▸ rfl]
  obtain ⟨h, ha⟩ := h
  obtain ⟨after, hL, hA⟩ := RDat.FramePost.exists_exact h c
  refine ⟨(hA 8).trans (ends_re c after hL), (hA 9).trans (ends_im c after hL), (hA 10).trans (ends_scale c after hL), (ha c).1, (ha c).2⟩

end Cert.DftIdeal.Gen
end
-- ==== Proof.RefIdeal.Val.lean ====
/- What the reference computes, in the same terms. -/
module
public import proofs.«01_k».proof.Proof.DftIdeal.Host
public import Idealize.ShloMosaic.Lib.Affine
public import Idealize.ShloMosaic.Lib.Pointwise
public import Idealize.ShloMosaic.Lib.StableHlo.ReadAt
public import Idealize.ShloMosaic.Lib.Pipeline.ValueKit
public import proofs.«01_k».proof.Proof.Gen.RefIdeal.Frame
@[expose] public section
set_option maxRecDepth 16384
noncomputable section
namespace Cert.RefIdeal.Gen
open Idealize.ShloMosaic Idealize.ShloMosaic.TcCoe Idealize.ShloMosaic.Tactic
open Cert.DftIdeal.Gen (clipR clipR_eq abs_clipR bits_hi bits_lo bits_one bits_two bits_bot coefR tr dyh amaxR amaxR_le amaxR_nonneg kappa bits_kappa expR lg codeR samples
  cos_eq sin_eq mul_word word_nat coe_sum select_ite abs_at mul_at)

variable (m : (ℓ : Loc nD τ sig) → Buf (Elt Ideal) ℓ)

theorem pay6_at (v : Vec Ideal S24x160x8192 .fp8e5m2) (i : Fin 3840) (n : Fin 8192) :
    k0_pay6 v (ix2 i n) = (clipR (v (ix3 ⟨i / 160, by omega⟩ ⟨i % 160, by omega⟩ n)) : EReal) := by
  pointwise [k0_pay6]
  rw [← clipR_eq, ← bits_hi, ← bits_lo]

theorem pay7_at (v : Vec Ideal S24x160x8192 .fp8e5m2) (t : Vec Ideal S8192x1024 .bf16) (g : Vec Ideal S1x1024 .f32) (i : Fin 3840) (k : Fin 1024) :
    k0_pay7 v t g (ix2 i k) = (∑ n : Fin 8192, k0_pay6 v (ix2 i n) * t (ix2 n k)) * g (ix2 0 k) := by
  pointwise [k0_pay7]
theorem pay8_at (v : Vec Ideal S24x160x8192 .fp8e5m2) (t : Vec Ideal S8192x1024 .bf16) (g : Vec Ideal S1x1024 .f32) (i : Fin 3840) (k : Fin 1024) :
    k0_pay8 v t g (ix2 i k) = (∑ n : Fin 8192, k0_pay6 v (ix2 i n) * t (ix2 n k)) * g (ix2 0 k) := by
  pointwise [k0_pay8]

theorem pay1_at (v30 v37 v38 : FVec Ideal S1x1024 .f32) (k : Fin 1024) : k0_pay1 v30 v37 v38 (ix2 0 k) = if v30 (ix2 0 k) < v38 (ix2 0 k) then (0 : EReal) else v37 (ix2 0 k) := by
  pointwise [k0_pay1]
theorem pay2_at (v30 v37 v38 : FVec Ideal S1x1024 .f32) (k : Fin 1024) : k0_pay2 v30 v37 v38 (ix2 0 k) = Ideal.exp2 (0 - k0_pay1 v30 v37 v38 (ix2 0 k)) := by
  pointwise [k0_pay2]
  rfl
theorem pay4_at (v14 : FVec Ideal S3840x1024 .f32) (v30 v37 v38 : FVec Ideal S1x1024 .f32) (b : Fin 24) (o : Fin 160) (k : Fin 1024) :
    k0_pay4 v14 v30 v37 v38 (ix3 b o k) = (clipR (v14 (ix2 ⟨b * 160 + o, by omega⟩ k) * k0_pay2 v30 v37 v38 (ix2 0 k)) : EReal) := by
  pointwise [k0_pay4]
  rw [← clipR_eq, ← bits_hi, ← bits_lo]
theorem pay5_at (v21 : FVec Ideal S3840x1024 .f32) (v30 v37 v38 : FVec Ideal S1x1024 .f32) (b : Fin 24) (o : Fin 160) (k : Fin 1024) :
    k0_pay5 v21 v30 v37 v38 (ix3 b o k) = (clipR (v21 (ix2 ⟨b * 160 + o, by omega⟩ k) * k0_pay2 v30 v37 v38 (ix2 0 k)) : EReal) := by
  pointwise [k0_pay5]
  rw [← clipR_eq, ← bits_hi, ← bits_lo]
theorem pay3_at (v30 v37 v38 : FVec Ideal S1x1024 .f32) (k : Fin 1024) : k0_pay3 v30 v37 v38 (ix2 0 k) = Ideal.exp2 (k0_pay1 v30 v37 v38 (ix2 0 k)) := by
  pointwise [k0_pay3]
  rfl
theorem pay11_at (k : Fin 1024) : (k0_pay11 : FVec Ideal S1x1024 .f32) (ix2 0 k) = (((2 : ℝ) ^ (-126 : ℤ) : ℝ) : EReal) := by
  pointwise [k0_pay11]
  simp [Ideal.ofBits, Ideal.ieee]; norm_num [← EReal.coe_mul]
theorem v16_at (c : Dev nD) (n : Fin 8192) (q : Fin 1024) : (V m c main_v16 : Vec Ideal S8192x1024 .bf16) (ix2 n q) = (Cert.Fold.C (n * q) : EReal) := by
  have hb : n.val * q.val < 2 ^ 31 := lt_of_lt_of_le (Nat.mul_lt_mul'' n.isLt q.isLt) (by norm_num)
  unfold V hostOps0
  after_reads_at
  exact cos_eq _ _ hb (mul_word _ _ _ _ (word_nat _ (by omega)) (word_nat _ (by omega)) hb)
theorem v19_at (c : Dev nD) (n : Fin 8192) (q : Fin 1024) : (V m c main_v19 : Vec Ideal S8192x1024 .bf16) (ix2 n q) = ((-Cert.Fold.S (n * q) : ℝ) : EReal) := by
  have hb : n.val * q.val < 2 ^ 31 := lt_of_lt_of_le (Nat.mul_lt_mul'' n.isLt q.isLt) (by norm_num)
  unfold V hostOps0
  after_reads_at
  rw [EReal.coe_neg]
  exact congrArg _ (sin_eq _ _ hb (mul_word _ _ _ _ (word_nat _ (by omega)) (word_nat _ (by omega)) hb))
theorem v29_at (c : Dev nD) (d : ℝ) (hd : (m ((c : Thread nD τ).loc main_arg1) : Vec Ideal S_ .f32) ix0 = (d : EReal)) (q : Fin 1024) :
    (V m c main_v29 : Vec Ideal S1x1024 .f32) (ix2 0 q) = ((coefR q * d : ℝ) : EReal) := by
  unfold V hostOps0
  after_reads_at
  have h2 : Ideal.ofBits FTy.f32 1073741824#32 = ((2 : ℝ) : EReal) := by simp [Ideal.ofBits, Ideal.ieee]; norm_num [← EReal.coe_mul]
  have h8 : Ideal.ofBits FTy.f32 1174405120#32 = ((8192 : ℝ) : EReal) := by simp [Ideal.ofBits, Ideal.ieee]; norm_num [← EReal.coe_mul]
  have hz : IntOp.cmpi CmpIPredicate.eq (BitVec.ofNat 32 q) 0#32 = if (q : ℕ) = 0 then 1#1 else 0#1 := by
    have : ∀ q : Fin 1024, IntOp.cmpi CmpIPredicate.eq (BitVec.ofNat 32 (q : ℕ)) 0#32 = if (q : ℕ) = 0 then 1#1 else 0#1 := by decide +kernel
    exact this q
  refine (congrArg (fun z : EReal => z * _) hd).trans ?_
  rw [hz, select_ite, h2, h8, Ideal.div_coe (by norm_num)]
  unfold coefR
  split
  · rw [← EReal.coe_one, ← EReal.coe_mul, ← EReal.coe_mul]; congr 1; ring
  · rw [← EReal.coe_mul, ← EReal.coe_mul]; congr 1; ring
theorem idx_all : ∀ t : Fin cfg0.N, win0_0.index t = ![0, 0, 0] ∧ win0_1.index t = ![0, 0] ∧ win0_2.index t = ![0, 0] ∧ win0_3.index t = ![0, 0]
    ∧ win0_4.index t = ![0, 0, 0] ∧ win0_5.index t = ![0, 0, 0] ∧ win0_6.index t = ![0, 0] := by decide +kernel
theorem blk_0 (c : Dev nD) (t : Fin cfg0.N) : (iblk m c 0 t : Vec Ideal S24x160x8192 .fp8e5m2) = m ((c : Thread nD τ).loc main_arg0) := by
  have e := (idx_all t).1
  rw [← V_main_arg0 m c]
  exact funext fun j => by blk_ext [iblk, e]
theorem blk_1 (c : Dev nD) (t : Fin cfg0.N) : (iblk m c 1 t : Vec Ideal S8192x1024 .bf16) = V m c main_v16 := by
  have e := (idx_all t).2.1
  exact funext fun j => by blk_ext [iblk, e]
theorem blk_2 (c : Dev nD) (t : Fin cfg0.N) : (iblk m c 2 t : Vec Ideal S8192x1024 .bf16) = V m c main_v19 := by
  have e := (idx_all t).2.2.1
  exact funext fun j => by blk_ext [iblk, e]
theorem blk_3 (c : Dev nD) (t : Fin cfg0.N) : (iblk m c 3 t : Vec Ideal S1x1024 .f32) = V m c main_v29 := by
  have e := (idx_all t).2.2.2.1
  exact funext fun j => by blk_ext [iblk, e]

/-- The greatest of each column. -/
def colmax (A : FVec Ideal S3840x1024 .f32) : FVec Ideal S1024 .f32 :=
  multiReduction .maximumf [0] S1024 A 0xFF800000#32 reduces_S3840x1024_S1024 (.inl rfl) rfl
/-- The ratio from the greatest magnitudes of the two planes, and the exponent from the ratio. -/
def ratioOf (p q : FVec Ideal S1024 .f32) : FVec Ideal S1x1024 .f32 :=
  mulf (maximumf (shapeCast S1x1024 p shapeCasts_S1024_S1x1024) (shapeCast S1x1024 q shapeCasts_S1024_S1x1024))
    (broadcast S1x1024 (Scalar.ofBits .f32 0x37924925#32 : Ideal .f32))
def expOf (r : FVec Ideal S1x1024 .f32) : FVec Ideal S1x1024 .f32 :=
  addf (floor (divf (log r) (log (broadcast S1x1024 (Scalar.ofBits .f32 0x40000000#32 : Ideal .f32))))) (broadcast S1x1024 (Scalar.ofBits .f32 0x3F800000#32 : Ideal .f32))

theorem pay9_eq (v : Vec Ideal S24x160x8192 .fp8e5m2) (t t' : Vec Ideal S8192x1024 .bf16) (g g' : Vec Ideal S1x1024 .f32) :
    k0_pay9 v t g t' g' = ratioOf (colmax (absf (k0_pay7 v t g))) (colmax (absf (k0_pay8 v t' g'))) := by
  unfold k0_pay9 ratioOf colmax; rfl
theorem pay10_eq (v : Vec Ideal S24x160x8192 .fp8e5m2) (t t' : Vec Ideal S8192x1024 .bf16) (g g' : Vec Ideal S1x1024 .f32) :
    k0_pay10 v t g t' g' = expOf (k0_pay9 v t g t' g') := by
  unfold k0_pay10 expOf; rfl
theorem expOf_at (r : FVec Ideal S1x1024 .f32) (k : Fin 1024) : expOf r (ix2 0 k) =
    Ideal.liftRound Int.floor (Ideal.div (Ideal.log (r (ix2 0 k))) (Ideal.log (Ideal.ofBits FTy.f32 1073741824#32))) + 1 := by
  pointwise [expOf]

theorem ratioOf_at (p q : FVec Ideal S1024 .f32) (k : Fin 1024) : ratioOf p q (ix2 0 k) = max (p (ix1 k)) (q (ix1 k)) * Ideal.ofBits FTy.f32 0x37924925#32 := by
  pointwise [ratioOf]
theorem colmax_le (A : FVec Ideal S3840x1024 .f32) (k : Fin 1024) (z : EReal) :
    (colmax A : FVec Ideal S1024 .f32) (ix1 k) ≤ z ↔ ∀ i : Fin 3840, A (ix2 i k) ≤ z := by
  unfold colmax
  refine (iff_of_eq (congrArg (fun y : EReal => y ≤ z) (multiReduction_maximumf_eq_fold (F := Ideal) A 0xFF800000#32 reduces_S3840x1024_S1024 (.inl rfl) rfl (ix1 k)))).trans ?_
  change Finset.fold max (Ideal.ofBits .f32 0xFF800000#32) A _ ≤ z ↔ _
  rw [Finset.fold_max_le, bits_bot]
  simp only [bot_le, true_and, Finset.mem_filter, Finset.mem_univ]
  have hd : ∀ i : S3840x1024.Idx, reduces_S3840x1024_S1024.drop i = ix1 k ↔ i 1 = k := fun i => by
    simp [funext_iff, Fin.ext_iff, Fin.forall_fin_one, reduces_S3840x1024_S1024.drop_apply_val_of_eq i 0 1]
    exact Fin.ext_iff.symm
  constructor
  · intro H i
    exact H (ix2 i k) ((hd _).2 rfl)
  · intro H i hi
    rw [hd] at hi
    have := H (i 0)
    rwa [← hi, ← eq_ix2 i] at this

end Cert.RefIdeal.Gen
end
-- ==== Proof.RefIdeal.Run.lean ====
/- The reference's run, with what its results hold. -/
module
public import proofs.«01_k».proof.Proof.RefIdeal.Val
public import proofs.«01_k».proof.Proof.DftIdeal.Run
public import Idealize.ShloMosaic.Lib.Pipeline.ValueKit
@[expose] public section
set_option maxRecDepth 16384
noncomputable section
namespace Cert.RefIdeal.Gen
open Idealize.ShloMosaic Idealize.ShloMosaic.TcCoe Idealize.ShloMosaic.Tactic
open Idealize.SL.Sem
open Idealize.ShloMosaic.Pipeline (Dat RDat Cfg Window)
open Cert.DftIdeal.Gen (clipR clipR_eq abs_clipR bits_hi bits_lo bits_one bits_two bits_bot coefR tr dyh amaxR amaxR_le amaxR_nonneg kappa bits_kappa expR lg codeR samples
  coe_sum select_ite abs_at mul_at codesV scalesV)

theorem sum_gain {N : ℕ} (f g : Fin N → ℝ) (c : ℝ) : (∑ n : Fin N, (f n : EReal) * (g n : EReal)) * (c : EReal) = (((∑ n : Fin N, f n * g n) * c : ℝ) : EReal) := by
  rw [EReal.coe_mul, coe_sum]
  simp only [EReal.coe_mul]

section values
variable (v : Vec Ideal S24x160x8192 .fp8e5m2) (t t' : Vec Ideal S8192x1024 .bf16) (g : Vec Ideal S1x1024 .f32) (d : ℝ)
  (ht : ∀ (n : Fin 8192) (q : Fin 1024), t (ix2 n q) = (Cert.Fold.C (n * q) : EReal))
  (ht' : ∀ (n : Fin 8192) (q : Fin 1024), t' (ix2 n q) = ((-Cert.Fold.S (n * q) : ℝ) : EReal))
  (hg : ∀ q : Fin 1024, g (ix2 0 q) = ((coefR q * d : ℝ) : EReal))

theorem pay6_samples (i : Fin 3840) (n : Fin 8192) : k0_pay6 v (ix2 i n) = (samples v (i / 160) (i % 160) n : EReal) := by
  rw [pay6_at]
  unfold samples
  rw [dif_pos ⟨by omega, by omega, n.isLt⟩]

include hg

include ht in
theorem re_at (i : Fin 3840) (k : Fin 1024) : k0_pay7 v t g (ix2 i k) = (dyh 0 d (samples v (i / 160) (i % 160)) k : EReal) := by
  rw [pay7_at, hg]
  simp only [pay6_samples, ht]
  unfold dyh tr
  rw [if_pos rfl, Finset.sum_range, sum_gain]
include ht' in
theorem im_at (i : Fin 3840) (k : Fin 1024) : k0_pay8 v t' g (ix2 i k) = (dyh 1 d (samples v (i / 160) (i % 160)) k : EReal) := by
  rw [pay8_at, hg]
  simp only [pay6_samples, ht']
  unfold dyh tr
  rw [if_neg one_ne_zero, Finset.sum_range, sum_gain, ← Finset.sum_neg_distrib]
  simp only [mul_neg]

include ht ht'

omit ht ht' hg in
theorem amax_of (p q : EReal) (x : ℕ → ℕ → ℕ → ℝ) (k : ℕ)
    (hp : ∀ z : EReal, p ≤ z ↔ ∀ i : Fin 3840, ((|dyh 0 d (x (i / 160) (i % 160)) k| : ℝ) : EReal) ≤ z)
    (hq : ∀ z : EReal, q ≤ z ↔ ∀ i : Fin 3840, ((|dyh 1 d (x (i / 160) (i % 160)) k| : ℝ) : EReal) ≤ z) : max p q = (amaxR d x k : EReal) := by
  refine eq_of_forall_ge_iff fun z => ?_
  rw [max_le_iff, hp, hq, amaxR_le]
  have key : ∀ b < 24, ∀ o < 160, b * 160 + o < 3840 ∧ (b * 160 + o) / 160 = b ∧ (b * 160 + o) % 160 = o := by omega
  constructor
  · rintro ⟨h1, h2⟩
    refine ⟨le_trans (EReal.coe_nonneg.2 (abs_nonneg _)) (h1 ⟨0, by norm_num⟩), fun b hb p hp o ho => ?_⟩
    obtain ⟨e, e1, e2⟩ := key b hb o ho
    have h1 := h1 ⟨b * 160 + o, e⟩
    have h2 := h2 ⟨b * 160 + o, e⟩
    rw [e1, e2] at h1 h2
    obtain rfl | rfl : p = 0 ∨ p = 1 := by omega
    · exact h1
    · exact h2
  · rintro ⟨_, H⟩
    exact ⟨fun i => H _ (by omega) 0 (by norm_num) _ (by omega), fun i => H _ (by omega) 1 (by norm_num) _ (by omega)⟩

theorem ratio_at (k : Fin 1024) : k0_pay9 v t g t' g (ix2 0 k) = ((amaxR d (samples v) k * kappa : ℝ) : EReal) := by
  rw [pay9_eq, ratioOf_at, bits_kappa, amax_of d _ _ (samples v) k, ← EReal.coe_mul]
  · intro z
    rw [colmax_le]
    exact forall_congr' fun i => iff_of_eq (congrArg (· ≤ z) ((congrArg (FloatOps.absf (F := Ideal)) (re_at v t g d ht hg i k)).trans (abs_at _)))
  · intro z
    rw [colmax_le]
    exact forall_congr' fun i => iff_of_eq (congrArg (· ≤ z) ((congrArg (FloatOps.absf (F := Ideal)) (im_at v t' g d ht' hg i k)).trans (abs_at _)))

omit ht ht' hg in
theorem expOf_real (r : FVec Ideal S1x1024 .f32) (k : Fin 1024) (a : ℝ) (h : r (ix2 0 k) = (a : EReal)) :
    k0_pay1 r (expOf r) k0_pay11 (ix2 0 k) = ((expR a : ℝ) : EReal) := by
  rw [pay1_at, pay11_at, expOf_at, h]
  unfold expR
  by_cases hs : a < (2 : ℝ) ^ (-126 : ℤ)
  · rw [if_pos hs, if_pos (EReal.coe_lt_coe_iff.2 hs)]; simp
  · have hpos : 0 < a := lt_of_lt_of_le (by positivity) (not_lt.1 hs)
    have h2 : Ideal.ofBits FTy.f32 1073741824#32 = ((2 : ℝ) : EReal) := by simp [Ideal.ofBits, Ideal.ieee]; norm_num [← EReal.coe_mul]
    have hl : Real.log 2 ≠ 0 := (Real.log_pos (by norm_num)).ne'
    rw [if_neg hs, if_neg (fun h => hs (EReal.coe_lt_coe_iff.1 h)), h2, Ideal.log_coe, Ideal.log_coe, if_neg (not_le.2 hpos), if_neg (by norm_num),
      Ideal.div_coe hl, ← EReal.coe_mul, Ideal.liftRound_coe, mul_one_div]
    change ((⌊Real.log a / Real.log 2⌋ : ℝ) : EReal) + ((1 : ℝ) : EReal) = _
    rw [← EReal.coe_add]
    unfold lg
    push_cast
    rfl

theorem exp_at (k : Fin 1024) : k0_pay1 (k0_pay9 v t g t' g) (k0_pay10 v t g t' g) k0_pay11 (ix2 0 k) = ((expR (amaxR d (samples v) k * kappa) : ℝ) : EReal) := by
  rw [pay10_eq]
  exact expOf_real _ k _ (ratio_at v t t' g d ht ht' hg k)

omit ht ht' hg in
theorem exp2_int (e : ℤ) : Ideal.exp2 ((e : ℝ) : EReal) = (((2 : ℝ) ^ e : ℝ) : EReal) := by
  rw [Ideal.exp2_coe]
  congr 1
  exact Real.rpow_intCast 2 e

theorem inv_at (k : Fin 1024) : k0_pay2 (k0_pay9 v t g t' g) (k0_pay10 v t g t' g) k0_pay11 (ix2 0 k) = (((2 : ℝ) ^ (-expR (amaxR d (samples v) k * kappa)) : ℝ) : EReal) := by
  rw [pay2_at, exp_at v t t' g d ht ht' hg k, zero_sub, ← EReal.coe_neg, ← exp2_int]
  push_cast
  rfl
theorem scale_at (k : Fin 1024) : k0_pay3 (k0_pay9 v t g t' g) (k0_pay10 v t g t' g) k0_pay11 (ix2 0 k) = (((2 : ℝ) ^ (expR (amaxR d (samples v) k * kappa)) : ℝ) : EReal) := by
  rw [pay3_at, exp_at v t t' g d ht ht' hg k, exp2_int]

theorem code_re_at (b : Fin 24) (o : Fin 160) (k : Fin 1024) : k0_pay4 (k0_pay7 v t g) (k0_pay9 v t g t' g) (k0_pay10 v t g t' g) k0_pay11 (ix3 b o k)
    = (codeR d (samples v) b 0 o k : EReal) := by
  rw [pay4_at, inv_at v t t' g d ht ht' hg k, re_at v t g d ht hg, ← EReal.coe_mul]
  unfold codeR
  rw [show (b.val * 160 + o.val) / 160 = b.val by omega, show (b.val * 160 + o.val) % 160 = o.val by omega]
theorem code_im_at (b : Fin 24) (o : Fin 160) (k : Fin 1024) : k0_pay5 (k0_pay8 v t' g) (k0_pay9 v t g t' g) (k0_pay10 v t g t' g) k0_pay11 (ix3 b o k)
    = (codeR d (samples v) b 1 o k : EReal) := by
  rw [pay5_at, inv_at v t t' g d ht ht' hg k, im_at v t' g d ht' hg, ← EReal.coe_mul]
  unfold codeR
  rw [show (b.val * 160 + o.val) / 160 = b.val by omega, show (b.val * 160 + o.val) % 160 = o.val by omega]
end values

variable (m : (ℓ : Loc nD τ sig) → Buf (Elt Ideal) ℓ) (ρ : Dev nD → PrngReg)

theorem whole_4 : (cfg0.win 4).WholeAt t0_0 := by decide +kernel
theorem whole_5 : (cfg0.win 5).WholeAt t0_0 := by decide +kernel
theorem whole_6 : (cfg0.win 6).WholeAt t0_0 := by decide +kernel

section ends
variable (c : Dev nD) (d : ℝ) (hd : (m ((c : Thread nD τ).loc main_arg1) : Vec Ideal S_ .f32) ix0 = (d : EReal))
include hd

theorem ends_4 : (dats m 0 c).arrAt 4 cfg0.N = codesV d (samples (m ((c : Thread nD τ).loc main_arg0))) 0 := by
  refine Dat.arrAt_eq_of_after_last _ 4 _ whole_4 _ fun y => ?_
  blk_simp
  rw [after0_4, blk_0, blk_1, blk_2, blk_3]
  unfold_out out0_4
  frame_out
  obtain ⟨b, o, k, rfl⟩ : ∃ (b : Fin 24) (o : Fin 160) (k : Fin 1024), y = ix3 b o k := ⟨y 0, y 1, y 2, eq_ix3 y⟩
  refine (code_re_at (m ((c : Thread nD τ).loc main_arg0)) (V m c main_v16) (V m c main_v19) (V m c main_v29) d (v16_at m c) (v19_at m c) (v29_at m c d hd) b o k).trans ?_
  rfl
theorem ends_5 : (dats m 0 c).arrAt 5 cfg0.N = codesV d (samples (m ((c : Thread nD τ).loc main_arg0))) 1 := by
  refine Dat.arrAt_eq_of_after_last _ 5 _ whole_5 _ fun y => ?_
  blk_simp
  rw [after0_5, blk_0, blk_1, blk_2, blk_3]
  unfold_out out0_5
  frame_out
  obtain ⟨b, o, k, rfl⟩ : ∃ (b : Fin 24) (o : Fin 160) (k : Fin 1024), y = ix3 b o k := ⟨y 0, y 1, y 2, eq_ix3 y⟩
  refine (code_im_at (m ((c : Thread nD τ).loc main_arg0)) (V m c main_v16) (V m c main_v19) (V m c main_v29) d (v16_at m c) (v19_at m c) (v29_at m c d hd) b o k).trans ?_
  rfl
theorem ends_6 : (dats m 0 c).arrAt 6 cfg0.N = scalesV d (samples (m ((c : Thread nD τ).loc main_arg0))) := by
  refine Dat.arrAt_eq_of_after_last _ 6 _ whole_6 _ fun y => ?_
  blk_simp
  rw [after0_6, blk_0, blk_1, blk_2, blk_3]
  unfold_out out0_6
  frame_out
  obtain ⟨k, rfl⟩ : ∃ k : Fin 1024, y = ix2 0 k := ⟨y 1, by rw [eq_ix2 y]; congr 1; exact Subsingleton.elim _ _⟩
  refine (scale_at (m ((c : Thread nD τ).loc main_arg0)) (V m c main_v16) (V m c main_v19) (V m c main_v29) d (v16_at m c) (v19_at m c) (v29_at m c d hd) k).trans ?_
  rfl
end ends

theorem results (d : Dev nD → ℝ) (hd : ∀ c : Dev nD, (m ((c : Thread nD τ).loc main_arg1) : Vec Ideal S_ .f32) ix0 = (d c : EReal)) :
    θ_run defs (onTc (τ := τ) (main (F := Ideal))) ⟨m, fun _ => 0, ρ⟩ (fun r => ∀ c : Dev nD,
      r.2.mem ((c.tc : Thread nD τ).loc main_v30_0) = codesV (d c) (samples (m ((c : Thread nD τ).loc main_arg0))) 0
      ∧ r.2.mem ((c.tc : Thread nD τ).loc main_v30_1) = codesV (d c) (samples (m ((c : Thread nD τ).loc main_arg0))) 1
      ∧ r.2.mem ((c.tc : Thread nD τ).loc main_v30_2) = scalesV (d c) (samples (m ((c : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  obtain ⟨h, ha⟩ := h
  exact ⟨((h c).1 4).trans (ends_4 m c (d c) (hd c)), ((h c).1 5).trans (ends_5 m c (d c) (hd c)), ((h c).1 6).trans (ends_6 m c (d c) (hd c)), (ha c).1, (ha c).2⟩

end Cert.RefIdeal.Gen
end
-- ==== Proof.lean ====
module

public import proofs.«01_k».proof.Defs
public import proofs.«01_k».proof.Proof.Gen.Dft
public import proofs.«01_k».proof.Proof.Dft.Frame
public import proofs.«01_k».proof.Proof.Gen.DftIdeal
public import proofs.«01_k».proof.Proof.DftIdeal.Frame
public import proofs.«01_k».proof.Proof.Gen.RefIdeal
public import proofs.«01_k».proof.Proof.Gen.RefIdeal.Frame
public import proofs.«01_k».proof.Proof.DftIdeal.Run
public import proofs.«01_k».proof.Proof.RefIdeal.Run
public import Idealize.ShloMosaic.Adequacy
public import Idealize.ShloMosaic.Init

@[expose] public section
noncomputable section

namespace Cert.Proof
open Idealize.ShloMosaic Idealize.SL.Sem Idealize.ShloMosaic.TcCoe

theorem facts_moderate : Cert.Pre_moderate.Facts := ⟨⟩

/-- The bound of the precondition. -/
theorem bits_bound : Ideal.ofBits .f32 0x7D800000#32 = (((2 : ℝ) ^ (124 : ℤ) : ℝ) : EReal) := by
  simp [Ideal.ofBits, Ideal.ieee]; norm_cast

/-- A scale that the precondition admits is a real number, at most `2^124` in magnitude. -/
theorem real_scale [Cert.Pre_moderate.Facts] (X : FVec Ideal Cert.Pre_moderate.S24x160x8192 .fp8e5m2) (s : FVec Ideal Cert.Pre_moderate.S_ .f32)
    (h : Cert.Pre_moderate.fn (F := Ideal) X s = fun _ => 1#1) : ∃ d : ℝ, s ValueIdx.ix0 = (d : EReal) ∧ |d| ≤ (2 : ℝ) ^ (124 : ℤ) := by
  have h := congrFun h ValueIdx.ix0
  change BitVec.ofBool (decide (max (s ValueIdx.ix0) (-(s ValueIdx.ix0)) ≤ Ideal.ofBits .f32 0x7D800000#32)) = 1#1 at h
  rw [bits_bound] at h
  have h : max (s ValueIdx.ix0) (-(s ValueIdx.ix0)) ≤ (((2 : ℝ) ^ (124 : ℤ) : ℝ) : EReal) := by
    by_contra hc
    rw [decide_eq_false hc] at h
    exact absurd h (by decide)
  obtain ⟨e, he⟩ : ∃ e : EReal, s ValueIdx.ix0 = e := ⟨_, rfl⟩
  rw [he] at h ⊢
  induction e using EReal.rec with
  | bot => rw [EReal.neg_bot] at h; exact absurd (le_trans (le_max_right _ _) h) (not_le.2 (EReal.coe_lt_top _))
  | top => exact absurd (le_trans (le_max_left _ _) h) (not_le.2 (EReal.coe_lt_top _))
  | coe d =>
    refine ⟨d, rfl, ?_⟩
    rw [max_le_iff, ← EReal.coe_neg, EReal.coe_le_coe_iff, EReal.coe_le_coe_iff] at h
    exact abs_le.2 ⟨by linarith [h.2], h.1⟩

theorem claim : Cert.Claim :=
  ⟨Cert.Dft.Gen.facts, Cert.DftIdeal.Gen.facts, Cert.RefIdeal.Gen.facts, facts_moderate,
    fun m ρ _ => Cert.Dft.Gen.frame m ρ, fun m ρ _ => Cert.DftIdeal.Gen.frame m ρ, fun m ρ _ => Cert.DftIdeal.Gen.frame m ρ,
    fun m ρ _ => Cert.RefIdeal.Gen.frame m ρ, fun m ρ _ => Cert.RefIdeal.Gen.frame m ρ,
    IdealRules.bf16_pack.statement Cert.DftIdeal.S32x128,
    fun m g m' g' hpre heq => by
      have hr := fun c => @real_scale facts_moderate _ _ (hpre c)
      choose d hd hs using hr
      refine ⟨fun c => _, fun c => _, fun c => _, Cert.DftIdeal.Gen.results m g d hd hs, ?_⟩
      refine (θ_run _ _ _).mono (fun r h c => ?_) (Cert.RefIdeal.Gen.results m' g' d fun c => (congrFun (heq c).2 _).trans (hd c))
      obtain ⟨h0, h1, h2, ha⟩ := h c
      rw [(heq c).1] at h0 h1 h2
      exact ⟨h0, h1, h2, ha⟩⟩

end Cert.Proof
end
